-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 4, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x2048 .f32) (main_arg1 : FVec F S2048x16384 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 32768#32
  let main_v13 : IVec S1024 32 := broadcastInDim S1024 ![] bcast_S_S1024 main_c_4
  let main_v14 : IVec S1024 1 := cmpi .slt main_arg2 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Pre_finite_and_in_range_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x2048 .f32) (main_arg1 : FVec F S2048x32768 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 32768#32
  let main_v13 : IVec S1024 32 := broadcastInDim S1024 ![] bcast_S_S1024 main_c_4
  let main_v14 : IVec S1024 1 := cmpi .slt main_arg2 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x2048 : Shape := ⟨2, ![1024, 2048]⟩
abbrev S2048x16384 : Shape := ⟨2, ![2048, 16384]⟩
abbrev S1024 : Shape := ⟨1, ![1024]⟩
abbrev S2048x1024 : Shape := ⟨2, ![2048, 1024]⟩
abbrev S2x1024 : Shape := ⟨2, ![2, 1024]⟩
abbrev S31x2x1024 : Shape := ⟨3, ![31, 2, 1024]⟩
abbrev S_ : Shape := ⟨0, ![]⟩
abbrev S31 : Shape := ⟨1, ![31]⟩
abbrev S1024x1024 : Shape := ⟨2, ![1024, 1024]⟩
abbrev S1024x1 : Shape := ⟨2, ![1024, 1]⟩
abbrev S1x1024 : Shape := ⟨2, ![1, 1024]⟩
abbrev S1 : Shape := ⟨1, ![1]⟩
abbrev S1x2x1024 : Shape := ⟨3, ![1, 2, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S1024, .f32⟩
  | .local _ .vmem, ⟨0, _⟩ => ⟨S1024x2048, .f32⟩
  | .local _ .vmem, ⟨1, _⟩ => ⟨S1024, .i32⟩
  | .local _ .vmem, ⟨2, _⟩ => ⟨S1024, .f32⟩
  | .local _ .vmem, ⟨3, _⟩ => ⟨S2048x1024, .f32⟩
  | .local _ .vmem, ⟨4, _⟩ => ⟨S2x1024, .f32⟩
  | .local _ .vmem, ⟨5, _⟩ => ⟨S31x2x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_i32 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1024_i32 : BitVec 32 := 1024#32
  let v11 : BitVec 32 := Scalar.muli v10 c1024_i32
  ![0, v11.toNat]
def k0_dev1 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_3 : BitVec 32 := 0#32
  let v14 : BitVec 32 := Scalar.addi v2 c0_i32_3
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c16_i32_25 : BitVec 32 := 16#32
  let v47 : BitVec 32 := Scalar.muli v24 c16_i32_25
  let v48 : BitVec 32 := Scalar.addi c0_i32_26 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_10 : BitVec 32 := 0#32
  let v25 : BitVec 32 := Scalar.addi v5 c0_i32_10
  let c4_i32_11 : BitVec 32 := 4#32
  let c0_i32_12 : BitVec 32 := 0#32
  let v26 : BitVec 1 := Scalar.cmpi .eq c4_i32_11 c0_i32_12
  let c1_i32_13 : BitVec 32 := 1#32
  let v27 : BitVec 32 := Scalar.select v26 c1_i32_13 c4_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c4_i32_27 : BitVec 32 := 4#32
  let v49 : BitVec 32 := Scalar.muli v35 c4_i32_27
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v36 : BitVec 32 := Scalar.addi v8 c1_i32_17
  let c4_i32_18 : BitVec 32 := 4#32
  let c0_i32_19 : BitVec 32 := 0#32
  let v37 : BitVec 1 := Scalar.cmpi .eq c4_i32_18 c0_i32_19
  let c1_i32_20 : BitVec 32 := 1#32
  let v38 : BitVec 32 := Scalar.select v37 c1_i32_20 c4_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c1_i32_28 : BitVec 32 := 1#32
  let v51 : BitVec 32 := Scalar.muli v46 c1_i32_28
  let v52 : BitVec 32 := Scalar.addi v50 v51
  v52.toNat
def k0_dev2 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_29 : BitVec 32 := 0#32
  let v53 : BitVec 32 := Scalar.addi v2 c0_i32_29
  let c2_i32_30 : BitVec 32 := 2#32
  let c0_i32_31 : BitVec 32 := 0#32
  let v54 : BitVec 1 := Scalar.cmpi .eq c2_i32_30 c0_i32_31
  let c1_i32_32 : BitVec 32 := 1#32
  let v55 : BitVec 32 := Scalar.select v54 c1_i32_32 c2_i32_30
  let v56 : BitVec 32 := Scalar.remsi v53 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let c16_i32_51 : BitVec 32 := 16#32
  let v86 : BitVec 32 := Scalar.muli v63 c16_i32_51
  let v87 : BitVec 32 := Scalar.addi c0_i32_52 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_36 : BitVec 32 := 0#32
  let v64 : BitVec 32 := Scalar.addi v5 c0_i32_36
  let c4_i32_37 : BitVec 32 := 4#32
  let c0_i32_38 : BitVec 32 := 0#32
  let v65 : BitVec 1 := Scalar.cmpi .eq c4_i32_37 c0_i32_38
  let c1_i32_39 : BitVec 32 := 1#32
  let v66 : BitVec 32 := Scalar.select v65 c1_i32_39 c4_i32_37
  let v67 : BitVec 32 := Scalar.remsi v64 v66
  let c0_i32_41 : BitVec 32 := 0#32
  let v69 : BitVec 1 := Scalar.cmpi .slt v67 c0_i32_41
  let c0_i32_42 : BitVec 32 := 0#32
  let v70 : BitVec 1 := Scalar.cmpi .slt v66 c0_i32_42
  let v71 : BitVec 1 := Scalar.xori v69 v70
  let c0_i32_40 : BitVec 32 := 0#32
  let v68 : BitVec 1 := Scalar.cmpi .ne v67 c0_i32_40
  let v72 : BitVec 1 := Scalar.andi v71 v68
  let v73 : BitVec 32 := Scalar.addi v67 v66
  let v74 : BitVec 32 := Scalar.select v72 v73 v67
  let c4_i32_53 : BitVec 32 := 4#32
  let v88 : BitVec 32 := Scalar.muli v74 c4_i32_53
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_43 : BitVec 32 := 2#32
  let v75 : BitVec 32 := Scalar.addi v8 c2_i32_43
  let c4_i32_44 : BitVec 32 := 4#32
  let c0_i32_45 : BitVec 32 := 0#32
  let v76 : BitVec 1 := Scalar.cmpi .eq c4_i32_44 c0_i32_45
  let c1_i32_46 : BitVec 32 := 1#32
  let v77 : BitVec 32 := Scalar.select v76 c1_i32_46 c4_i32_44
  let v78 : BitVec 32 := Scalar.remsi v75 v77
  let c0_i32_48 : BitVec 32 := 0#32
  let v80 : BitVec 1 := Scalar.cmpi .slt v78 c0_i32_48
  let c0_i32_49 : BitVec 32 := 0#32
  let v81 : BitVec 1 := Scalar.cmpi .slt v77 c0_i32_49
  let v82 : BitVec 1 := Scalar.xori v80 v81
  let c0_i32_47 : BitVec 32 := 0#32
  let v79 : BitVec 1 := Scalar.cmpi .ne v78 c0_i32_47
  let v83 : BitVec 1 := Scalar.andi v82 v79
  let v84 : BitVec 32 := Scalar.addi v78 v77
  let v85 : BitVec 32 := Scalar.select v83 v84 v78
  let c1_i32_54 : BitVec 32 := 1#32
  let v90 : BitVec 32 := Scalar.muli v85 c1_i32_54
  let v91 : BitVec 32 := Scalar.addi v89 v90
  v91.toNat
def k0_dev3 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_55 : BitVec 32 := 0#32
  let v92 : BitVec 32 := Scalar.addi v2 c0_i32_55
  let c2_i32_56 : BitVec 32 := 2#32
  let c0_i32_57 : BitVec 32 := 0#32
  let v93 : BitVec 1 := Scalar.cmpi .eq c2_i32_56 c0_i32_57
  let c1_i32_58 : BitVec 32 := 1#32
  let v94 : BitVec 32 := Scalar.select v93 c1_i32_58 c2_i32_56
  let v95 : BitVec 32 := Scalar.remsi v92 v94
  let c0_i32_60 : BitVec 32 := 0#32
  let v97 : BitVec 1 := Scalar.cmpi .slt v95 c0_i32_60
  let c0_i32_61 : BitVec 32 := 0#32
  let v98 : BitVec 1 := Scalar.cmpi .slt v94 c0_i32_61
  let v99 : BitVec 1 := Scalar.xori v97 v98
  let c0_i32_59 : BitVec 32 := 0#32
  let v96 : BitVec 1 := Scalar.cmpi .ne v95 c0_i32_59
  let v100 : BitVec 1 := Scalar.andi v99 v96
  let v101 : BitVec 32 := Scalar.addi v95 v94
  let v102 : BitVec 32 := Scalar.select v100 v101 v95
  let c16_i32_76 : BitVec 32 := 16#32
  let v125 : BitVec 32 := Scalar.muli v102 c16_i32_76
  let v126 : BitVec 32 := Scalar.addi c0_i32_77 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_62 : BitVec 32 := 0#32
  let v103 : BitVec 32 := Scalar.addi v5 c0_i32_62
  let c4_i32_63 : BitVec 32 := 4#32
  let c0_i32_64 : BitVec 32 := 0#32
  let v104 : BitVec 1 := Scalar.cmpi .eq c4_i32_63 c0_i32_64
  let c1_i32_65 : BitVec 32 := 1#32
  let v105 : BitVec 32 := Scalar.select v104 c1_i32_65 c4_i32_63
  let v106 : BitVec 32 := Scalar.remsi v103 v105
  let c0_i32_67 : BitVec 32 := 0#32
  let v108 : BitVec 1 := Scalar.cmpi .slt v106 c0_i32_67
  let c0_i32_68 : BitVec 32 := 0#32
  let v109 : BitVec 1 := Scalar.cmpi .slt v105 c0_i32_68
  let v110 : BitVec 1 := Scalar.xori v108 v109
  let c0_i32_66 : BitVec 32 := 0#32
  let v107 : BitVec 1 := Scalar.cmpi .ne v106 c0_i32_66
  let v111 : BitVec 1 := Scalar.andi v110 v107
  let v112 : BitVec 32 := Scalar.addi v106 v105
  let v113 : BitVec 32 := Scalar.select v111 v112 v106
  let c4_i32_78 : BitVec 32 := 4#32
  let v127 : BitVec 32 := Scalar.muli v113 c4_i32_78
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v114 : BitVec 32 := Scalar.addi v8 c3_i32
  let c4_i32_69 : BitVec 32 := 4#32
  let c0_i32_70 : BitVec 32 := 0#32
  let v115 : BitVec 1 := Scalar.cmpi .eq c4_i32_69 c0_i32_70
  let c1_i32_71 : BitVec 32 := 1#32
  let v116 : BitVec 32 := Scalar.select v115 c1_i32_71 c4_i32_69
  let v117 : BitVec 32 := Scalar.remsi v114 v116
  let c0_i32_73 : BitVec 32 := 0#32
  let v119 : BitVec 1 := Scalar.cmpi .slt v117 c0_i32_73
  let c0_i32_74 : BitVec 32 := 0#32
  let v120 : BitVec 1 := Scalar.cmpi .slt v116 c0_i32_74
  let v121 : BitVec 1 := Scalar.xori v119 v120
  let c0_i32_72 : BitVec 32 := 0#32
  let v118 : BitVec 1 := Scalar.cmpi .ne v117 c0_i32_72
  let v122 : BitVec 1 := Scalar.andi v121 v118
  let v123 : BitVec 32 := Scalar.addi v117 v116
  let v124 : BitVec 32 := Scalar.select v122 v123 v117
  let c1_i32_79 : BitVec 32 := 1#32
  let v129 : BitVec 32 := Scalar.muli v124 c1_i32_79
  let v130 : BitVec 32 := Scalar.addi v128 v129
  v130.toNat
def k0_dev4 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_80 : BitVec 32 := 0#32
  let v131 : BitVec 32 := Scalar.addi v2 c0_i32_80
  let c2_i32_81 : BitVec 32 := 2#32
  let c0_i32_82 : BitVec 32 := 0#32
  let v132 : BitVec 1 := Scalar.cmpi .eq c2_i32_81 c0_i32_82
  let c1_i32_83 : BitVec 32 := 1#32
  let v133 : BitVec 32 := Scalar.select v132 c1_i32_83 c2_i32_81
  let v134 : BitVec 32 := Scalar.remsi v131 v133
  let c0_i32_85 : BitVec 32 := 0#32
  let v136 : BitVec 1 := Scalar.cmpi .slt v134 c0_i32_85
  let c0_i32_86 : BitVec 32 := 0#32
  let v137 : BitVec 1 := Scalar.cmpi .slt v133 c0_i32_86
  let v138 : BitVec 1 := Scalar.xori v136 v137
  let c0_i32_84 : BitVec 32 := 0#32
  let v135 : BitVec 1 := Scalar.cmpi .ne v134 c0_i32_84
  let v139 : BitVec 1 := Scalar.andi v138 v135
  let v140 : BitVec 32 := Scalar.addi v134 v133
  let v141 : BitVec 32 := Scalar.select v139 v140 v134
  let c16_i32_102 : BitVec 32 := 16#32
  let v164 : BitVec 32 := Scalar.muli v141 c16_i32_102
  let v165 : BitVec 32 := Scalar.addi c0_i32_103 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_87 : BitVec 32 := 1#32
  let v142 : BitVec 32 := Scalar.addi v5 c1_i32_87
  let c4_i32_88 : BitVec 32 := 4#32
  let c0_i32_89 : BitVec 32 := 0#32
  let v143 : BitVec 1 := Scalar.cmpi .eq c4_i32_88 c0_i32_89
  let c1_i32_90 : BitVec 32 := 1#32
  let v144 : BitVec 32 := Scalar.select v143 c1_i32_90 c4_i32_88
  let v145 : BitVec 32 := Scalar.remsi v142 v144
  let c0_i32_92 : BitVec 32 := 0#32
  let v147 : BitVec 1 := Scalar.cmpi .slt v145 c0_i32_92
  let c0_i32_93 : BitVec 32 := 0#32
  let v148 : BitVec 1 := Scalar.cmpi .slt v144 c0_i32_93
  let v149 : BitVec 1 := Scalar.xori v147 v148
  let c0_i32_91 : BitVec 32 := 0#32
  let v146 : BitVec 1 := Scalar.cmpi .ne v145 c0_i32_91
  let v150 : BitVec 1 := Scalar.andi v149 v146
  let v151 : BitVec 32 := Scalar.addi v145 v144
  let v152 : BitVec 32 := Scalar.select v150 v151 v145
  let c4_i32_104 : BitVec 32 := 4#32
  let v166 : BitVec 32 := Scalar.muli v152 c4_i32_104
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_94 : BitVec 32 := 0#32
  let v153 : BitVec 32 := Scalar.addi v8 c0_i32_94
  let c4_i32_95 : BitVec 32 := 4#32
  let c0_i32_96 : BitVec 32 := 0#32
  let v154 : BitVec 1 := Scalar.cmpi .eq c4_i32_95 c0_i32_96
  let c1_i32_97 : BitVec 32 := 1#32
  let v155 : BitVec 32 := Scalar.select v154 c1_i32_97 c4_i32_95
  let v156 : BitVec 32 := Scalar.remsi v153 v155
  let c0_i32_99 : BitVec 32 := 0#32
  let v158 : BitVec 1 := Scalar.cmpi .slt v156 c0_i32_99
  let c0_i32_100 : BitVec 32 := 0#32
  let v159 : BitVec 1 := Scalar.cmpi .slt v155 c0_i32_100
  let v160 : BitVec 1 := Scalar.xori v158 v159
  let c0_i32_98 : BitVec 32 := 0#32
  let v157 : BitVec 1 := Scalar.cmpi .ne v156 c0_i32_98
  let v161 : BitVec 1 := Scalar.andi v160 v157
  let v162 : BitVec 32 := Scalar.addi v156 v155
  let v163 : BitVec 32 := Scalar.select v161 v162 v156
  let c1_i32_105 : BitVec 32 := 1#32
  let v168 : BitVec 32 := Scalar.muli v163 c1_i32_105
  let v169 : BitVec 32 := Scalar.addi v167 v168
  v169.toNat
def k0_dev5 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_106 : BitVec 32 := 0#32
  let v170 : BitVec 32 := Scalar.addi v2 c0_i32_106
  let c2_i32_107 : BitVec 32 := 2#32
  let c0_i32_108 : BitVec 32 := 0#32
  let v171 : BitVec 1 := Scalar.cmpi .eq c2_i32_107 c0_i32_108
  let c1_i32_109 : BitVec 32 := 1#32
  let v172 : BitVec 32 := Scalar.select v171 c1_i32_109 c2_i32_107
  let v173 : BitVec 32 := Scalar.remsi v170 v172
  let c0_i32_111 : BitVec 32 := 0#32
  let v175 : BitVec 1 := Scalar.cmpi .slt v173 c0_i32_111
  let c0_i32_112 : BitVec 32 := 0#32
  let v176 : BitVec 1 := Scalar.cmpi .slt v172 c0_i32_112
  let v177 : BitVec 1 := Scalar.xori v175 v176
  let c0_i32_110 : BitVec 32 := 0#32
  let v174 : BitVec 1 := Scalar.cmpi .ne v173 c0_i32_110
  let v178 : BitVec 1 := Scalar.andi v177 v174
  let v179 : BitVec 32 := Scalar.addi v173 v172
  let v180 : BitVec 32 := Scalar.select v178 v179 v173
  let c16_i32_128 : BitVec 32 := 16#32
  let v203 : BitVec 32 := Scalar.muli v180 c16_i32_128
  let v204 : BitVec 32 := Scalar.addi c0_i32_129 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_113 : BitVec 32 := 1#32
  let v181 : BitVec 32 := Scalar.addi v5 c1_i32_113
  let c4_i32_114 : BitVec 32 := 4#32
  let c0_i32_115 : BitVec 32 := 0#32
  let v182 : BitVec 1 := Scalar.cmpi .eq c4_i32_114 c0_i32_115
  let c1_i32_116 : BitVec 32 := 1#32
  let v183 : BitVec 32 := Scalar.select v182 c1_i32_116 c4_i32_114
  let v184 : BitVec 32 := Scalar.remsi v181 v183
  let c0_i32_118 : BitVec 32 := 0#32
  let v186 : BitVec 1 := Scalar.cmpi .slt v184 c0_i32_118
  let c0_i32_119 : BitVec 32 := 0#32
  let v187 : BitVec 1 := Scalar.cmpi .slt v183 c0_i32_119
  let v188 : BitVec 1 := Scalar.xori v186 v187
  let c0_i32_117 : BitVec 32 := 0#32
  let v185 : BitVec 1 := Scalar.cmpi .ne v184 c0_i32_117
  let v189 : BitVec 1 := Scalar.andi v188 v185
  let v190 : BitVec 32 := Scalar.addi v184 v183
  let v191 : BitVec 32 := Scalar.select v189 v190 v184
  let c4_i32_130 : BitVec 32 := 4#32
  let v205 : BitVec 32 := Scalar.muli v191 c4_i32_130
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v192 : BitVec 32 := Scalar.addi v8 c1_i32_120
  let c4_i32_121 : BitVec 32 := 4#32
  let c0_i32_122 : BitVec 32 := 0#32
  let v193 : BitVec 1 := Scalar.cmpi .eq c4_i32_121 c0_i32_122
  let c1_i32_123 : BitVec 32 := 1#32
  let v194 : BitVec 32 := Scalar.select v193 c1_i32_123 c4_i32_121
  let v195 : BitVec 32 := Scalar.remsi v192 v194
  let c0_i32_125 : BitVec 32 := 0#32
  let v197 : BitVec 1 := Scalar.cmpi .slt v195 c0_i32_125
  let c0_i32_126 : BitVec 32 := 0#32
  let v198 : BitVec 1 := Scalar.cmpi .slt v194 c0_i32_126
  let v199 : BitVec 1 := Scalar.xori v197 v198
  let c0_i32_124 : BitVec 32 := 0#32
  let v196 : BitVec 1 := Scalar.cmpi .ne v195 c0_i32_124
  let v200 : BitVec 1 := Scalar.andi v199 v196
  let v201 : BitVec 32 := Scalar.addi v195 v194
  let v202 : BitVec 32 := Scalar.select v200 v201 v195
  let c1_i32_131 : BitVec 32 := 1#32
  let v207 : BitVec 32 := Scalar.muli v202 c1_i32_131
  let v208 : BitVec 32 := Scalar.addi v206 v207
  v208.toNat
def k0_dev6 (d0 : Dev nD) : Nat :=
  let c0_i32_155 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_132 : BitVec 32 := 0#32
  let v209 : BitVec 32 := Scalar.addi v2 c0_i32_132
  let c2_i32_133 : BitVec 32 := 2#32
  let c0_i32_134 : BitVec 32 := 0#32
  let v210 : BitVec 1 := Scalar.cmpi .eq c2_i32_133 c0_i32_134
  let c1_i32_135 : BitVec 32 := 1#32
  let v211 : BitVec 32 := Scalar.select v210 c1_i32_135 c2_i32_133
  let v212 : BitVec 32 := Scalar.remsi v209 v211
  let c0_i32_137 : BitVec 32 := 0#32
  let v214 : BitVec 1 := Scalar.cmpi .slt v212 c0_i32_137
  let c0_i32_138 : BitVec 32 := 0#32
  let v215 : BitVec 1 := Scalar.cmpi .slt v211 c0_i32_138
  let v216 : BitVec 1 := Scalar.xori v214 v215
  let c0_i32_136 : BitVec 32 := 0#32
  let v213 : BitVec 1 := Scalar.cmpi .ne v212 c0_i32_136
  let v217 : BitVec 1 := Scalar.andi v216 v213
  let v218 : BitVec 32 := Scalar.addi v212 v211
  let v219 : BitVec 32 := Scalar.select v217 v218 v212
  let c16_i32_154 : BitVec 32 := 16#32
  let v242 : BitVec 32 := Scalar.muli v219 c16_i32_154
  let v243 : BitVec 32 := Scalar.addi c0_i32_155 v242
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v220 : BitVec 32 := Scalar.addi v5 c1_i32_139
  let c4_i32_140 : BitVec 32 := 4#32
  let c0_i32_141 : BitVec 32 := 0#32
  let v221 : BitVec 1 := Scalar.cmpi .eq c4_i32_140 c0_i32_141
  let c1_i32_142 : BitVec 32 := 1#32
  let v222 : BitVec 32 := Scalar.select v221 c1_i32_142 c4_i32_140
  let v223 : BitVec 32 := Scalar.remsi v220 v222
  let c0_i32_144 : BitVec 32 := 0#32
  let v225 : BitVec 1 := Scalar.cmpi .slt v223 c0_i32_144
  let c0_i32_145 : BitVec 32 := 0#32
  let v226 : BitVec 1 := Scalar.cmpi .slt v222 c0_i32_145
  let v227 : BitVec 1 := Scalar.xori v225 v226
  let c0_i32_143 : BitVec 32 := 0#32
  let v224 : BitVec 1 := Scalar.cmpi .ne v223 c0_i32_143
  let v228 : BitVec 1 := Scalar.andi v227 v224
  let v229 : BitVec 32 := Scalar.addi v223 v222
  let v230 : BitVec 32 := Scalar.select v228 v229 v223
  let c4_i32_156 : BitVec 32 := 4#32
  let v244 : BitVec 32 := Scalar.muli v230 c4_i32_156
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_146 : BitVec 32 := 2#32
  let v231 : BitVec 32 := Scalar.addi v8 c2_i32_146
  let c4_i32_147 : BitVec 32 := 4#32
  let c0_i32_148 : BitVec 32 := 0#32
  let v232 : BitVec 1 := Scalar.cmpi .eq c4_i32_147 c0_i32_148
  let c1_i32_149 : BitVec 32 := 1#32
  let v233 : BitVec 32 := Scalar.select v232 c1_i32_149 c4_i32_147
  let v234 : BitVec 32 := Scalar.remsi v231 v233
  let c0_i32_151 : BitVec 32 := 0#32
  let v236 : BitVec 1 := Scalar.cmpi .slt v234 c0_i32_151
  let c0_i32_152 : BitVec 32 := 0#32
  let v237 : BitVec 1 := Scalar.cmpi .slt v233 c0_i32_152
  let v238 : BitVec 1 := Scalar.xori v236 v237
  let c0_i32_150 : BitVec 32 := 0#32
  let v235 : BitVec 1 := Scalar.cmpi .ne v234 c0_i32_150
  let v239 : BitVec 1 := Scalar.andi v238 v235
  let v240 : BitVec 32 := Scalar.addi v234 v233
  let v241 : BitVec 32 := Scalar.select v239 v240 v234
  let c1_i32_157 : BitVec 32 := 1#32
  let v246 : BitVec 32 := Scalar.muli v241 c1_i32_157
  let v247 : BitVec 32 := Scalar.addi v245 v246
  v247.toNat
def k0_dev7 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_158 : BitVec 32 := 0#32
  let v248 : BitVec 32 := Scalar.addi v2 c0_i32_158
  let c2_i32_159 : BitVec 32 := 2#32
  let c0_i32_160 : BitVec 32 := 0#32
  let v249 : BitVec 1 := Scalar.cmpi .eq c2_i32_159 c0_i32_160
  let c1_i32_161 : BitVec 32 := 1#32
  let v250 : BitVec 32 := Scalar.select v249 c1_i32_161 c2_i32_159
  let v251 : BitVec 32 := Scalar.remsi v248 v250
  let c0_i32_163 : BitVec 32 := 0#32
  let v253 : BitVec 1 := Scalar.cmpi .slt v251 c0_i32_163
  let c0_i32_164 : BitVec 32 := 0#32
  let v254 : BitVec 1 := Scalar.cmpi .slt v250 c0_i32_164
  let v255 : BitVec 1 := Scalar.xori v253 v254
  let c0_i32_162 : BitVec 32 := 0#32
  let v252 : BitVec 1 := Scalar.cmpi .ne v251 c0_i32_162
  let v256 : BitVec 1 := Scalar.andi v255 v252
  let v257 : BitVec 32 := Scalar.addi v251 v250
  let v258 : BitVec 32 := Scalar.select v256 v257 v251
  let c16_i32_180 : BitVec 32 := 16#32
  let v281 : BitVec 32 := Scalar.muli v258 c16_i32_180
  let v282 : BitVec 32 := Scalar.addi c0_i32_181 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v259 : BitVec 32 := Scalar.addi v5 c1_i32_165
  let c4_i32_166 : BitVec 32 := 4#32
  let c0_i32_167 : BitVec 32 := 0#32
  let v260 : BitVec 1 := Scalar.cmpi .eq c4_i32_166 c0_i32_167
  let c1_i32_168 : BitVec 32 := 1#32
  let v261 : BitVec 32 := Scalar.select v260 c1_i32_168 c4_i32_166
  let v262 : BitVec 32 := Scalar.remsi v259 v261
  let c0_i32_170 : BitVec 32 := 0#32
  let v264 : BitVec 1 := Scalar.cmpi .slt v262 c0_i32_170
  let c0_i32_171 : BitVec 32 := 0#32
  let v265 : BitVec 1 := Scalar.cmpi .slt v261 c0_i32_171
  let v266 : BitVec 1 := Scalar.xori v264 v265
  let c0_i32_169 : BitVec 32 := 0#32
  let v263 : BitVec 1 := Scalar.cmpi .ne v262 c0_i32_169
  let v267 : BitVec 1 := Scalar.andi v266 v263
  let v268 : BitVec 32 := Scalar.addi v262 v261
  let v269 : BitVec 32 := Scalar.select v267 v268 v262
  let c4_i32_182 : BitVec 32 := 4#32
  let v283 : BitVec 32 := Scalar.muli v269 c4_i32_182
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_172 : BitVec 32 := 3#32
  let v270 : BitVec 32 := Scalar.addi v8 c3_i32_172
  let c4_i32_173 : BitVec 32 := 4#32
  let c0_i32_174 : BitVec 32 := 0#32
  let v271 : BitVec 1 := Scalar.cmpi .eq c4_i32_173 c0_i32_174
  let c1_i32_175 : BitVec 32 := 1#32
  let v272 : BitVec 32 := Scalar.select v271 c1_i32_175 c4_i32_173
  let v273 : BitVec 32 := Scalar.remsi v270 v272
  let c0_i32_177 : BitVec 32 := 0#32
  let v275 : BitVec 1 := Scalar.cmpi .slt v273 c0_i32_177
  let c0_i32_178 : BitVec 32 := 0#32
  let v276 : BitVec 1 := Scalar.cmpi .slt v272 c0_i32_178
  let v277 : BitVec 1 := Scalar.xori v275 v276
  let c0_i32_176 : BitVec 32 := 0#32
  let v274 : BitVec 1 := Scalar.cmpi .ne v273 c0_i32_176
  let v278 : BitVec 1 := Scalar.andi v277 v274
  let v279 : BitVec 32 := Scalar.addi v273 v272
  let v280 : BitVec 32 := Scalar.select v278 v279 v273
  let c1_i32_183 : BitVec 32 := 1#32
  let v285 : BitVec 32 := Scalar.muli v280 c1_i32_183
  let v286 : BitVec 32 := Scalar.addi v284 v285
  v286.toNat
def k0_dev8 (d0 : Dev nD) : Nat :=
  let c0_i32_207 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_184 : BitVec 32 := 0#32
  let v287 : BitVec 32 := Scalar.addi v2 c0_i32_184
  let c2_i32_185 : BitVec 32 := 2#32
  let c0_i32_186 : BitVec 32 := 0#32
  let v288 : BitVec 1 := Scalar.cmpi .eq c2_i32_185 c0_i32_186
  let c1_i32_187 : BitVec 32 := 1#32
  let v289 : BitVec 32 := Scalar.select v288 c1_i32_187 c2_i32_185
  let v290 : BitVec 32 := Scalar.remsi v287 v289
  let c0_i32_189 : BitVec 32 := 0#32
  let v292 : BitVec 1 := Scalar.cmpi .slt v290 c0_i32_189
  let c0_i32_190 : BitVec 32 := 0#32
  let v293 : BitVec 1 := Scalar.cmpi .slt v289 c0_i32_190
  let v294 : BitVec 1 := Scalar.xori v292 v293
  let c0_i32_188 : BitVec 32 := 0#32
  let v291 : BitVec 1 := Scalar.cmpi .ne v290 c0_i32_188
  let v295 : BitVec 1 := Scalar.andi v294 v291
  let v296 : BitVec 32 := Scalar.addi v290 v289
  let v297 : BitVec 32 := Scalar.select v295 v296 v290
  let c16_i32_206 : BitVec 32 := 16#32
  let v320 : BitVec 32 := Scalar.muli v297 c16_i32_206
  let v321 : BitVec 32 := Scalar.addi c0_i32_207 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_191 : BitVec 32 := 2#32
  let v298 : BitVec 32 := Scalar.addi v5 c2_i32_191
  let c4_i32_192 : BitVec 32 := 4#32
  let c0_i32_193 : BitVec 32 := 0#32
  let v299 : BitVec 1 := Scalar.cmpi .eq c4_i32_192 c0_i32_193
  let c1_i32_194 : BitVec 32 := 1#32
  let v300 : BitVec 32 := Scalar.select v299 c1_i32_194 c4_i32_192
  let v301 : BitVec 32 := Scalar.remsi v298 v300
  let c0_i32_196 : BitVec 32 := 0#32
  let v303 : BitVec 1 := Scalar.cmpi .slt v301 c0_i32_196
  let c0_i32_197 : BitVec 32 := 0#32
  let v304 : BitVec 1 := Scalar.cmpi .slt v300 c0_i32_197
  let v305 : BitVec 1 := Scalar.xori v303 v304
  let c0_i32_195 : BitVec 32 := 0#32
  let v302 : BitVec 1 := Scalar.cmpi .ne v301 c0_i32_195
  let v306 : BitVec 1 := Scalar.andi v305 v302
  let v307 : BitVec 32 := Scalar.addi v301 v300
  let v308 : BitVec 32 := Scalar.select v306 v307 v301
  let c4_i32_208 : BitVec 32 := 4#32
  let v322 : BitVec 32 := Scalar.muli v308 c4_i32_208
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_198 : BitVec 32 := 0#32
  let v309 : BitVec 32 := Scalar.addi v8 c0_i32_198
  let c4_i32_199 : BitVec 32 := 4#32
  let c0_i32_200 : BitVec 32 := 0#32
  let v310 : BitVec 1 := Scalar.cmpi .eq c4_i32_199 c0_i32_200
  let c1_i32_201 : BitVec 32 := 1#32
  let v311 : BitVec 32 := Scalar.select v310 c1_i32_201 c4_i32_199
  let v312 : BitVec 32 := Scalar.remsi v309 v311
  let c0_i32_203 : BitVec 32 := 0#32
  let v314 : BitVec 1 := Scalar.cmpi .slt v312 c0_i32_203
  let c0_i32_204 : BitVec 32 := 0#32
  let v315 : BitVec 1 := Scalar.cmpi .slt v311 c0_i32_204
  let v316 : BitVec 1 := Scalar.xori v314 v315
  let c0_i32_202 : BitVec 32 := 0#32
  let v313 : BitVec 1 := Scalar.cmpi .ne v312 c0_i32_202
  let v317 : BitVec 1 := Scalar.andi v316 v313
  let v318 : BitVec 32 := Scalar.addi v312 v311
  let v319 : BitVec 32 := Scalar.select v317 v318 v312
  let c1_i32_209 : BitVec 32 := 1#32
  let v324 : BitVec 32 := Scalar.muli v319 c1_i32_209
  let v325 : BitVec 32 := Scalar.addi v323 v324
  v325.toNat
def k0_dev9 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_210 : BitVec 32 := 0#32
  let v326 : BitVec 32 := Scalar.addi v2 c0_i32_210
  let c2_i32_211 : BitVec 32 := 2#32
  let c0_i32_212 : BitVec 32 := 0#32
  let v327 : BitVec 1 := Scalar.cmpi .eq c2_i32_211 c0_i32_212
  let c1_i32_213 : BitVec 32 := 1#32
  let v328 : BitVec 32 := Scalar.select v327 c1_i32_213 c2_i32_211
  let v329 : BitVec 32 := Scalar.remsi v326 v328
  let c0_i32_215 : BitVec 32 := 0#32
  let v331 : BitVec 1 := Scalar.cmpi .slt v329 c0_i32_215
  let c0_i32_216 : BitVec 32 := 0#32
  let v332 : BitVec 1 := Scalar.cmpi .slt v328 c0_i32_216
  let v333 : BitVec 1 := Scalar.xori v331 v332
  let c0_i32_214 : BitVec 32 := 0#32
  let v330 : BitVec 1 := Scalar.cmpi .ne v329 c0_i32_214
  let v334 : BitVec 1 := Scalar.andi v333 v330
  let v335 : BitVec 32 := Scalar.addi v329 v328
  let v336 : BitVec 32 := Scalar.select v334 v335 v329
  let c16_i32_232 : BitVec 32 := 16#32
  let v359 : BitVec 32 := Scalar.muli v336 c16_i32_232
  let v360 : BitVec 32 := Scalar.addi c0_i32_233 v359
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_217 : BitVec 32 := 2#32
  let v337 : BitVec 32 := Scalar.addi v5 c2_i32_217
  let c4_i32_218 : BitVec 32 := 4#32
  let c0_i32_219 : BitVec 32 := 0#32
  let v338 : BitVec 1 := Scalar.cmpi .eq c4_i32_218 c0_i32_219
  let c1_i32_220 : BitVec 32 := 1#32
  let v339 : BitVec 32 := Scalar.select v338 c1_i32_220 c4_i32_218
  let v340 : BitVec 32 := Scalar.remsi v337 v339
  let c0_i32_222 : BitVec 32 := 0#32
  let v342 : BitVec 1 := Scalar.cmpi .slt v340 c0_i32_222
  let c0_i32_223 : BitVec 32 := 0#32
  let v343 : BitVec 1 := Scalar.cmpi .slt v339 c0_i32_223
  let v344 : BitVec 1 := Scalar.xori v342 v343
  let c0_i32_221 : BitVec 32 := 0#32
  let v341 : BitVec 1 := Scalar.cmpi .ne v340 c0_i32_221
  let v345 : BitVec 1 := Scalar.andi v344 v341
  let v346 : BitVec 32 := Scalar.addi v340 v339
  let v347 : BitVec 32 := Scalar.select v345 v346 v340
  let c4_i32_234 : BitVec 32 := 4#32
  let v361 : BitVec 32 := Scalar.muli v347 c4_i32_234
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v348 : BitVec 32 := Scalar.addi v8 c1_i32_224
  let c4_i32_225 : BitVec 32 := 4#32
  let c0_i32_226 : BitVec 32 := 0#32
  let v349 : BitVec 1 := Scalar.cmpi .eq c4_i32_225 c0_i32_226
  let c1_i32_227 : BitVec 32 := 1#32
  let v350 : BitVec 32 := Scalar.select v349 c1_i32_227 c4_i32_225
  let v351 : BitVec 32 := Scalar.remsi v348 v350
  let c0_i32_229 : BitVec 32 := 0#32
  let v353 : BitVec 1 := Scalar.cmpi .slt v351 c0_i32_229
  let c0_i32_230 : BitVec 32 := 0#32
  let v354 : BitVec 1 := Scalar.cmpi .slt v350 c0_i32_230
  let v355 : BitVec 1 := Scalar.xori v353 v354
  let c0_i32_228 : BitVec 32 := 0#32
  let v352 : BitVec 1 := Scalar.cmpi .ne v351 c0_i32_228
  let v356 : BitVec 1 := Scalar.andi v355 v352
  let v357 : BitVec 32 := Scalar.addi v351 v350
  let v358 : BitVec 32 := Scalar.select v356 v357 v351
  let c1_i32_235 : BitVec 32 := 1#32
  let v363 : BitVec 32 := Scalar.muli v358 c1_i32_235
  let v364 : BitVec 32 := Scalar.addi v362 v363
  v364.toNat
def k0_dev10 (d0 : Dev nD) : Nat :=
  let c0_i32_259 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_236 : BitVec 32 := 0#32
  let v365 : BitVec 32 := Scalar.addi v2 c0_i32_236
  let c2_i32_237 : BitVec 32 := 2#32
  let c0_i32_238 : BitVec 32 := 0#32
  let v366 : BitVec 1 := Scalar.cmpi .eq c2_i32_237 c0_i32_238
  let c1_i32_239 : BitVec 32 := 1#32
  let v367 : BitVec 32 := Scalar.select v366 c1_i32_239 c2_i32_237
  let v368 : BitVec 32 := Scalar.remsi v365 v367
  let c0_i32_241 : BitVec 32 := 0#32
  let v370 : BitVec 1 := Scalar.cmpi .slt v368 c0_i32_241
  let c0_i32_242 : BitVec 32 := 0#32
  let v371 : BitVec 1 := Scalar.cmpi .slt v367 c0_i32_242
  let v372 : BitVec 1 := Scalar.xori v370 v371
  let c0_i32_240 : BitVec 32 := 0#32
  let v369 : BitVec 1 := Scalar.cmpi .ne v368 c0_i32_240
  let v373 : BitVec 1 := Scalar.andi v372 v369
  let v374 : BitVec 32 := Scalar.addi v368 v367
  let v375 : BitVec 32 := Scalar.select v373 v374 v368
  let c16_i32_258 : BitVec 32 := 16#32
  let v398 : BitVec 32 := Scalar.muli v375 c16_i32_258
  let v399 : BitVec 32 := Scalar.addi c0_i32_259 v398
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_243 : BitVec 32 := 2#32
  let v376 : BitVec 32 := Scalar.addi v5 c2_i32_243
  let c4_i32_244 : BitVec 32 := 4#32
  let c0_i32_245 : BitVec 32 := 0#32
  let v377 : BitVec 1 := Scalar.cmpi .eq c4_i32_244 c0_i32_245
  let c1_i32_246 : BitVec 32 := 1#32
  let v378 : BitVec 32 := Scalar.select v377 c1_i32_246 c4_i32_244
  let v379 : BitVec 32 := Scalar.remsi v376 v378
  let c0_i32_248 : BitVec 32 := 0#32
  let v381 : BitVec 1 := Scalar.cmpi .slt v379 c0_i32_248
  let c0_i32_249 : BitVec 32 := 0#32
  let v382 : BitVec 1 := Scalar.cmpi .slt v378 c0_i32_249
  let v383 : BitVec 1 := Scalar.xori v381 v382
  let c0_i32_247 : BitVec 32 := 0#32
  let v380 : BitVec 1 := Scalar.cmpi .ne v379 c0_i32_247
  let v384 : BitVec 1 := Scalar.andi v383 v380
  let v385 : BitVec 32 := Scalar.addi v379 v378
  let v386 : BitVec 32 := Scalar.select v384 v385 v379
  let c4_i32_260 : BitVec 32 := 4#32
  let v400 : BitVec 32 := Scalar.muli v386 c4_i32_260
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_250 : BitVec 32 := 2#32
  let v387 : BitVec 32 := Scalar.addi v8 c2_i32_250
  let c4_i32_251 : BitVec 32 := 4#32
  let c0_i32_252 : BitVec 32 := 0#32
  let v388 : BitVec 1 := Scalar.cmpi .eq c4_i32_251 c0_i32_252
  let c1_i32_253 : BitVec 32 := 1#32
  let v389 : BitVec 32 := Scalar.select v388 c1_i32_253 c4_i32_251
  let v390 : BitVec 32 := Scalar.remsi v387 v389
  let c0_i32_255 : BitVec 32 := 0#32
  let v392 : BitVec 1 := Scalar.cmpi .slt v390 c0_i32_255
  let c0_i32_256 : BitVec 32 := 0#32
  let v393 : BitVec 1 := Scalar.cmpi .slt v389 c0_i32_256
  let v394 : BitVec 1 := Scalar.xori v392 v393
  let c0_i32_254 : BitVec 32 := 0#32
  let v391 : BitVec 1 := Scalar.cmpi .ne v390 c0_i32_254
  let v395 : BitVec 1 := Scalar.andi v394 v391
  let v396 : BitVec 32 := Scalar.addi v390 v389
  let v397 : BitVec 32 := Scalar.select v395 v396 v390
  let c1_i32_261 : BitVec 32 := 1#32
  let v402 : BitVec 32 := Scalar.muli v397 c1_i32_261
  let v403 : BitVec 32 := Scalar.addi v401 v402
  v403.toNat
def k0_dev11 (d0 : Dev nD) : Nat :=
  let c0_i32_285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_262 : BitVec 32 := 0#32
  let v404 : BitVec 32 := Scalar.addi v2 c0_i32_262
  let c2_i32_263 : BitVec 32 := 2#32
  let c0_i32_264 : BitVec 32 := 0#32
  let v405 : BitVec 1 := Scalar.cmpi .eq c2_i32_263 c0_i32_264
  let c1_i32_265 : BitVec 32 := 1#32
  let v406 : BitVec 32 := Scalar.select v405 c1_i32_265 c2_i32_263
  let v407 : BitVec 32 := Scalar.remsi v404 v406
  let c0_i32_267 : BitVec 32 := 0#32
  let v409 : BitVec 1 := Scalar.cmpi .slt v407 c0_i32_267
  let c0_i32_268 : BitVec 32 := 0#32
  let v410 : BitVec 1 := Scalar.cmpi .slt v406 c0_i32_268
  let v411 : BitVec 1 := Scalar.xori v409 v410
  let c0_i32_266 : BitVec 32 := 0#32
  let v408 : BitVec 1 := Scalar.cmpi .ne v407 c0_i32_266
  let v412 : BitVec 1 := Scalar.andi v411 v408
  let v413 : BitVec 32 := Scalar.addi v407 v406
  let v414 : BitVec 32 := Scalar.select v412 v413 v407
  let c16_i32_284 : BitVec 32 := 16#32
  let v437 : BitVec 32 := Scalar.muli v414 c16_i32_284
  let v438 : BitVec 32 := Scalar.addi c0_i32_285 v437
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_269 : BitVec 32 := 2#32
  let v415 : BitVec 32 := Scalar.addi v5 c2_i32_269
  let c4_i32_270 : BitVec 32 := 4#32
  let c0_i32_271 : BitVec 32 := 0#32
  let v416 : BitVec 1 := Scalar.cmpi .eq c4_i32_270 c0_i32_271
  let c1_i32_272 : BitVec 32 := 1#32
  let v417 : BitVec 32 := Scalar.select v416 c1_i32_272 c4_i32_270
  let v418 : BitVec 32 := Scalar.remsi v415 v417
  let c0_i32_274 : BitVec 32 := 0#32
  let v420 : BitVec 1 := Scalar.cmpi .slt v418 c0_i32_274
  let c0_i32_275 : BitVec 32 := 0#32
  let v421 : BitVec 1 := Scalar.cmpi .slt v417 c0_i32_275
  let v422 : BitVec 1 := Scalar.xori v420 v421
  let c0_i32_273 : BitVec 32 := 0#32
  let v419 : BitVec 1 := Scalar.cmpi .ne v418 c0_i32_273
  let v423 : BitVec 1 := Scalar.andi v422 v419
  let v424 : BitVec 32 := Scalar.addi v418 v417
  let v425 : BitVec 32 := Scalar.select v423 v424 v418
  let c4_i32_286 : BitVec 32 := 4#32
  let v439 : BitVec 32 := Scalar.muli v425 c4_i32_286
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_276 : BitVec 32 := 3#32
  let v426 : BitVec 32 := Scalar.addi v8 c3_i32_276
  let c4_i32_277 : BitVec 32 := 4#32
  let c0_i32_278 : BitVec 32 := 0#32
  let v427 : BitVec 1 := Scalar.cmpi .eq c4_i32_277 c0_i32_278
  let c1_i32_279 : BitVec 32 := 1#32
  let v428 : BitVec 32 := Scalar.select v427 c1_i32_279 c4_i32_277
  let v429 : BitVec 32 := Scalar.remsi v426 v428
  let c0_i32_281 : BitVec 32 := 0#32
  let v431 : BitVec 1 := Scalar.cmpi .slt v429 c0_i32_281
  let c0_i32_282 : BitVec 32 := 0#32
  let v432 : BitVec 1 := Scalar.cmpi .slt v428 c0_i32_282
  let v433 : BitVec 1 := Scalar.xori v431 v432
  let c0_i32_280 : BitVec 32 := 0#32
  let v430 : BitVec 1 := Scalar.cmpi .ne v429 c0_i32_280
  let v434 : BitVec 1 := Scalar.andi v433 v430
  let v435 : BitVec 32 := Scalar.addi v429 v428
  let v436 : BitVec 32 := Scalar.select v434 v435 v429
  let c1_i32_287 : BitVec 32 := 1#32
  let v441 : BitVec 32 := Scalar.muli v436 c1_i32_287
  let v442 : BitVec 32 := Scalar.addi v440 v441
  v442.toNat
def k0_dev12 (d0 : Dev nD) : Nat :=
  let c0_i32_311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_288 : BitVec 32 := 0#32
  let v443 : BitVec 32 := Scalar.addi v2 c0_i32_288
  let c2_i32_289 : BitVec 32 := 2#32
  let c0_i32_290 : BitVec 32 := 0#32
  let v444 : BitVec 1 := Scalar.cmpi .eq c2_i32_289 c0_i32_290
  let c1_i32_291 : BitVec 32 := 1#32
  let v445 : BitVec 32 := Scalar.select v444 c1_i32_291 c2_i32_289
  let v446 : BitVec 32 := Scalar.remsi v443 v445
  let c0_i32_293 : BitVec 32 := 0#32
  let v448 : BitVec 1 := Scalar.cmpi .slt v446 c0_i32_293
  let c0_i32_294 : BitVec 32 := 0#32
  let v449 : BitVec 1 := Scalar.cmpi .slt v445 c0_i32_294
  let v450 : BitVec 1 := Scalar.xori v448 v449
  let c0_i32_292 : BitVec 32 := 0#32
  let v447 : BitVec 1 := Scalar.cmpi .ne v446 c0_i32_292
  let v451 : BitVec 1 := Scalar.andi v450 v447
  let v452 : BitVec 32 := Scalar.addi v446 v445
  let v453 : BitVec 32 := Scalar.select v451 v452 v446
  let c16_i32_310 : BitVec 32 := 16#32
  let v476 : BitVec 32 := Scalar.muli v453 c16_i32_310
  let v477 : BitVec 32 := Scalar.addi c0_i32_311 v476
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_295 : BitVec 32 := 3#32
  let v454 : BitVec 32 := Scalar.addi v5 c3_i32_295
  let c4_i32_296 : BitVec 32 := 4#32
  let c0_i32_297 : BitVec 32 := 0#32
  let v455 : BitVec 1 := Scalar.cmpi .eq c4_i32_296 c0_i32_297
  let c1_i32_298 : BitVec 32 := 1#32
  let v456 : BitVec 32 := Scalar.select v455 c1_i32_298 c4_i32_296
  let v457 : BitVec 32 := Scalar.remsi v454 v456
  let c0_i32_300 : BitVec 32 := 0#32
  let v459 : BitVec 1 := Scalar.cmpi .slt v457 c0_i32_300
  let c0_i32_301 : BitVec 32 := 0#32
  let v460 : BitVec 1 := Scalar.cmpi .slt v456 c0_i32_301
  let v461 : BitVec 1 := Scalar.xori v459 v460
  let c0_i32_299 : BitVec 32 := 0#32
  let v458 : BitVec 1 := Scalar.cmpi .ne v457 c0_i32_299
  let v462 : BitVec 1 := Scalar.andi v461 v458
  let v463 : BitVec 32 := Scalar.addi v457 v456
  let v464 : BitVec 32 := Scalar.select v462 v463 v457
  let c4_i32_312 : BitVec 32 := 4#32
  let v478 : BitVec 32 := Scalar.muli v464 c4_i32_312
  let v479 : BitVec 32 := Scalar.addi v477 v478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_302 : BitVec 32 := 0#32
  let v465 : BitVec 32 := Scalar.addi v8 c0_i32_302
  let c4_i32_303 : BitVec 32 := 4#32
  let c0_i32_304 : BitVec 32 := 0#32
  let v466 : BitVec 1 := Scalar.cmpi .eq c4_i32_303 c0_i32_304
  let c1_i32_305 : BitVec 32 := 1#32
  let v467 : BitVec 32 := Scalar.select v466 c1_i32_305 c4_i32_303
  let v468 : BitVec 32 := Scalar.remsi v465 v467
  let c0_i32_307 : BitVec 32 := 0#32
  let v470 : BitVec 1 := Scalar.cmpi .slt v468 c0_i32_307
  let c0_i32_308 : BitVec 32 := 0#32
  let v471 : BitVec 1 := Scalar.cmpi .slt v467 c0_i32_308
  let v472 : BitVec 1 := Scalar.xori v470 v471
  let c0_i32_306 : BitVec 32 := 0#32
  let v469 : BitVec 1 := Scalar.cmpi .ne v468 c0_i32_306
  let v473 : BitVec 1 := Scalar.andi v472 v469
  let v474 : BitVec 32 := Scalar.addi v468 v467
  let v475 : BitVec 32 := Scalar.select v473 v474 v468
  let c1_i32_313 : BitVec 32 := 1#32
  let v480 : BitVec 32 := Scalar.muli v475 c1_i32_313
  let v481 : BitVec 32 := Scalar.addi v479 v480
  v481.toNat
def k0_dev13 (d0 : Dev nD) : Nat :=
  let c0_i32_337 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_314 : BitVec 32 := 0#32
  let v482 : BitVec 32 := Scalar.addi v2 c0_i32_314
  let c2_i32_315 : BitVec 32 := 2#32
  let c0_i32_316 : BitVec 32 := 0#32
  let v483 : BitVec 1 := Scalar.cmpi .eq c2_i32_315 c0_i32_316
  let c1_i32_317 : BitVec 32 := 1#32
  let v484 : BitVec 32 := Scalar.select v483 c1_i32_317 c2_i32_315
  let v485 : BitVec 32 := Scalar.remsi v482 v484
  let c0_i32_319 : BitVec 32 := 0#32
  let v487 : BitVec 1 := Scalar.cmpi .slt v485 c0_i32_319
  let c0_i32_320 : BitVec 32 := 0#32
  let v488 : BitVec 1 := Scalar.cmpi .slt v484 c0_i32_320
  let v489 : BitVec 1 := Scalar.xori v487 v488
  let c0_i32_318 : BitVec 32 := 0#32
  let v486 : BitVec 1 := Scalar.cmpi .ne v485 c0_i32_318
  let v490 : BitVec 1 := Scalar.andi v489 v486
  let v491 : BitVec 32 := Scalar.addi v485 v484
  let v492 : BitVec 32 := Scalar.select v490 v491 v485
  let c16_i32_336 : BitVec 32 := 16#32
  let v515 : BitVec 32 := Scalar.muli v492 c16_i32_336
  let v516 : BitVec 32 := Scalar.addi c0_i32_337 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_321 : BitVec 32 := 3#32
  let v493 : BitVec 32 := Scalar.addi v5 c3_i32_321
  let c4_i32_322 : BitVec 32 := 4#32
  let c0_i32_323 : BitVec 32 := 0#32
  let v494 : BitVec 1 := Scalar.cmpi .eq c4_i32_322 c0_i32_323
  let c1_i32_324 : BitVec 32 := 1#32
  let v495 : BitVec 32 := Scalar.select v494 c1_i32_324 c4_i32_322
  let v496 : BitVec 32 := Scalar.remsi v493 v495
  let c0_i32_326 : BitVec 32 := 0#32
  let v498 : BitVec 1 := Scalar.cmpi .slt v496 c0_i32_326
  let c0_i32_327 : BitVec 32 := 0#32
  let v499 : BitVec 1 := Scalar.cmpi .slt v495 c0_i32_327
  let v500 : BitVec 1 := Scalar.xori v498 v499
  let c0_i32_325 : BitVec 32 := 0#32
  let v497 : BitVec 1 := Scalar.cmpi .ne v496 c0_i32_325
  let v501 : BitVec 1 := Scalar.andi v500 v497
  let v502 : BitVec 32 := Scalar.addi v496 v495
  let v503 : BitVec 32 := Scalar.select v501 v502 v496
  let c4_i32_338 : BitVec 32 := 4#32
  let v517 : BitVec 32 := Scalar.muli v503 c4_i32_338
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v504 : BitVec 32 := Scalar.addi v8 c1_i32_328
  let c4_i32_329 : BitVec 32 := 4#32
  let c0_i32_330 : BitVec 32 := 0#32
  let v505 : BitVec 1 := Scalar.cmpi .eq c4_i32_329 c0_i32_330
  let c1_i32_331 : BitVec 32 := 1#32
  let v506 : BitVec 32 := Scalar.select v505 c1_i32_331 c4_i32_329
  let v507 : BitVec 32 := Scalar.remsi v504 v506
  let c0_i32_333 : BitVec 32 := 0#32
  let v509 : BitVec 1 := Scalar.cmpi .slt v507 c0_i32_333
  let c0_i32_334 : BitVec 32 := 0#32
  let v510 : BitVec 1 := Scalar.cmpi .slt v506 c0_i32_334
  let v511 : BitVec 1 := Scalar.xori v509 v510
  let c0_i32_332 : BitVec 32 := 0#32
  let v508 : BitVec 1 := Scalar.cmpi .ne v507 c0_i32_332
  let v512 : BitVec 1 := Scalar.andi v511 v508
  let v513 : BitVec 32 := Scalar.addi v507 v506
  let v514 : BitVec 32 := Scalar.select v512 v513 v507
  let c1_i32_339 : BitVec 32 := 1#32
  let v519 : BitVec 32 := Scalar.muli v514 c1_i32_339
  let v520 : BitVec 32 := Scalar.addi v518 v519
  v520.toNat
def k0_dev14 (d0 : Dev nD) : Nat :=
  let c0_i32_363 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_340 : BitVec 32 := 0#32
  let v521 : BitVec 32 := Scalar.addi v2 c0_i32_340
  let c2_i32_341 : BitVec 32 := 2#32
  let c0_i32_342 : BitVec 32 := 0#32
  let v522 : BitVec 1 := Scalar.cmpi .eq c2_i32_341 c0_i32_342
  let c1_i32_343 : BitVec 32 := 1#32
  let v523 : BitVec 32 := Scalar.select v522 c1_i32_343 c2_i32_341
  let v524 : BitVec 32 := Scalar.remsi v521 v523
  let c0_i32_345 : BitVec 32 := 0#32
  let v526 : BitVec 1 := Scalar.cmpi .slt v524 c0_i32_345
  let c0_i32_346 : BitVec 32 := 0#32
  let v527 : BitVec 1 := Scalar.cmpi .slt v523 c0_i32_346
  let v528 : BitVec 1 := Scalar.xori v526 v527
  let c0_i32_344 : BitVec 32 := 0#32
  let v525 : BitVec 1 := Scalar.cmpi .ne v524 c0_i32_344
  let v529 : BitVec 1 := Scalar.andi v528 v525
  let v530 : BitVec 32 := Scalar.addi v524 v523
  let v531 : BitVec 32 := Scalar.select v529 v530 v524
  let c16_i32_362 : BitVec 32 := 16#32
  let v554 : BitVec 32 := Scalar.muli v531 c16_i32_362
  let v555 : BitVec 32 := Scalar.addi c0_i32_363 v554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_347 : BitVec 32 := 3#32
  let v532 : BitVec 32 := Scalar.addi v5 c3_i32_347
  let c4_i32_348 : BitVec 32 := 4#32
  let c0_i32_349 : BitVec 32 := 0#32
  let v533 : BitVec 1 := Scalar.cmpi .eq c4_i32_348 c0_i32_349
  let c1_i32_350 : BitVec 32 := 1#32
  let v534 : BitVec 32 := Scalar.select v533 c1_i32_350 c4_i32_348
  let v535 : BitVec 32 := Scalar.remsi v532 v534
  let c0_i32_352 : BitVec 32 := 0#32
  let v537 : BitVec 1 := Scalar.cmpi .slt v535 c0_i32_352
  let c0_i32_353 : BitVec 32 := 0#32
  let v538 : BitVec 1 := Scalar.cmpi .slt v534 c0_i32_353
  let v539 : BitVec 1 := Scalar.xori v537 v538
  let c0_i32_351 : BitVec 32 := 0#32
  let v536 : BitVec 1 := Scalar.cmpi .ne v535 c0_i32_351
  let v540 : BitVec 1 := Scalar.andi v539 v536
  let v541 : BitVec 32 := Scalar.addi v535 v534
  let v542 : BitVec 32 := Scalar.select v540 v541 v535
  let c4_i32_364 : BitVec 32 := 4#32
  let v556 : BitVec 32 := Scalar.muli v542 c4_i32_364
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_354 : BitVec 32 := 2#32
  let v543 : BitVec 32 := Scalar.addi v8 c2_i32_354
  let c4_i32_355 : BitVec 32 := 4#32
  let c0_i32_356 : BitVec 32 := 0#32
  let v544 : BitVec 1 := Scalar.cmpi .eq c4_i32_355 c0_i32_356
  let c1_i32_357 : BitVec 32 := 1#32
  let v545 : BitVec 32 := Scalar.select v544 c1_i32_357 c4_i32_355
  let v546 : BitVec 32 := Scalar.remsi v543 v545
  let c0_i32_359 : BitVec 32 := 0#32
  let v548 : BitVec 1 := Scalar.cmpi .slt v546 c0_i32_359
  let c0_i32_360 : BitVec 32 := 0#32
  let v549 : BitVec 1 := Scalar.cmpi .slt v545 c0_i32_360
  let v550 : BitVec 1 := Scalar.xori v548 v549
  let c0_i32_358 : BitVec 32 := 0#32
  let v547 : BitVec 1 := Scalar.cmpi .ne v546 c0_i32_358
  let v551 : BitVec 1 := Scalar.andi v550 v547
  let v552 : BitVec 32 := Scalar.addi v546 v545
  let v553 : BitVec 32 := Scalar.select v551 v552 v546
  let c1_i32_365 : BitVec 32 := 1#32
  let v558 : BitVec 32 := Scalar.muli v553 c1_i32_365
  let v559 : BitVec 32 := Scalar.addi v557 v558
  v559.toNat
def k0_dev15 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_366 : BitVec 32 := 0#32
  let v560 : BitVec 32 := Scalar.addi v2 c0_i32_366
  let c2_i32_367 : BitVec 32 := 2#32
  let c0_i32_368 : BitVec 32 := 0#32
  let v561 : BitVec 1 := Scalar.cmpi .eq c2_i32_367 c0_i32_368
  let c1_i32_369 : BitVec 32 := 1#32
  let v562 : BitVec 32 := Scalar.select v561 c1_i32_369 c2_i32_367
  let v563 : BitVec 32 := Scalar.remsi v560 v562
  let c0_i32_371 : BitVec 32 := 0#32
  let v565 : BitVec 1 := Scalar.cmpi .slt v563 c0_i32_371
  let c0_i32_372 : BitVec 32 := 0#32
  let v566 : BitVec 1 := Scalar.cmpi .slt v562 c0_i32_372
  let v567 : BitVec 1 := Scalar.xori v565 v566
  let c0_i32_370 : BitVec 32 := 0#32
  let v564 : BitVec 1 := Scalar.cmpi .ne v563 c0_i32_370
  let v568 : BitVec 1 := Scalar.andi v567 v564
  let v569 : BitVec 32 := Scalar.addi v563 v562
  let v570 : BitVec 32 := Scalar.select v568 v569 v563
  let c16_i32_388 : BitVec 32 := 16#32
  let v593 : BitVec 32 := Scalar.muli v570 c16_i32_388
  let v594 : BitVec 32 := Scalar.addi c0_i32_389 v593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_373 : BitVec 32 := 3#32
  let v571 : BitVec 32 := Scalar.addi v5 c3_i32_373
  let c4_i32_374 : BitVec 32 := 4#32
  let c0_i32_375 : BitVec 32 := 0#32
  let v572 : BitVec 1 := Scalar.cmpi .eq c4_i32_374 c0_i32_375
  let c1_i32_376 : BitVec 32 := 1#32
  let v573 : BitVec 32 := Scalar.select v572 c1_i32_376 c4_i32_374
  let v574 : BitVec 32 := Scalar.remsi v571 v573
  let c0_i32_378 : BitVec 32 := 0#32
  let v576 : BitVec 1 := Scalar.cmpi .slt v574 c0_i32_378
  let c0_i32_379 : BitVec 32 := 0#32
  let v577 : BitVec 1 := Scalar.cmpi .slt v573 c0_i32_379
  let v578 : BitVec 1 := Scalar.xori v576 v577
  let c0_i32_377 : BitVec 32 := 0#32
  let v575 : BitVec 1 := Scalar.cmpi .ne v574 c0_i32_377
  let v579 : BitVec 1 := Scalar.andi v578 v575
  let v580 : BitVec 32 := Scalar.addi v574 v573
  let v581 : BitVec 32 := Scalar.select v579 v580 v574
  let c4_i32_390 : BitVec 32 := 4#32
  let v595 : BitVec 32 := Scalar.muli v581 c4_i32_390
  let v596 : BitVec 32 := Scalar.addi v594 v595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_380 : BitVec 32 := 3#32
  let v582 : BitVec 32 := Scalar.addi v8 c3_i32_380
  let c4_i32_381 : BitVec 32 := 4#32
  let c0_i32_382 : BitVec 32 := 0#32
  let v583 : BitVec 1 := Scalar.cmpi .eq c4_i32_381 c0_i32_382
  let c1_i32_383 : BitVec 32 := 1#32
  let v584 : BitVec 32 := Scalar.select v583 c1_i32_383 c4_i32_381
  let v585 : BitVec 32 := Scalar.remsi v582 v584
  let c0_i32_385 : BitVec 32 := 0#32
  let v587 : BitVec 1 := Scalar.cmpi .slt v585 c0_i32_385
  let c0_i32_386 : BitVec 32 := 0#32
  let v588 : BitVec 1 := Scalar.cmpi .slt v584 c0_i32_386
  let v589 : BitVec 1 := Scalar.xori v587 v588
  let c0_i32_384 : BitVec 32 := 0#32
  let v586 : BitVec 1 := Scalar.cmpi .ne v585 c0_i32_384
  let v590 : BitVec 1 := Scalar.andi v589 v586
  let v591 : BitVec 32 := Scalar.addi v585 v584
  let v592 : BitVec 32 := Scalar.select v590 v591 v585
  let c1_i32_391 : BitVec 32 := 1#32
  let v597 : BitVec 32 := Scalar.muli v592 c1_i32_391
  let v598 : BitVec 32 := Scalar.addi v596 v597
  v598.toNat
def k0_dev16 (d0 : Dev nD) : Nat :=
  let c0_i32_415 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_392 : BitVec 32 := 1#32
  let v599 : BitVec 32 := Scalar.addi v2 c1_i32_392
  let c2_i32_393 : BitVec 32 := 2#32
  let c0_i32_394 : BitVec 32 := 0#32
  let v600 : BitVec 1 := Scalar.cmpi .eq c2_i32_393 c0_i32_394
  let c1_i32_395 : BitVec 32 := 1#32
  let v601 : BitVec 32 := Scalar.select v600 c1_i32_395 c2_i32_393
  let v602 : BitVec 32 := Scalar.remsi v599 v601
  let c0_i32_397 : BitVec 32 := 0#32
  let v604 : BitVec 1 := Scalar.cmpi .slt v602 c0_i32_397
  let c0_i32_398 : BitVec 32 := 0#32
  let v605 : BitVec 1 := Scalar.cmpi .slt v601 c0_i32_398
  let v606 : BitVec 1 := Scalar.xori v604 v605
  let c0_i32_396 : BitVec 32 := 0#32
  let v603 : BitVec 1 := Scalar.cmpi .ne v602 c0_i32_396
  let v607 : BitVec 1 := Scalar.andi v606 v603
  let v608 : BitVec 32 := Scalar.addi v602 v601
  let v609 : BitVec 32 := Scalar.select v607 v608 v602
  let c16_i32_414 : BitVec 32 := 16#32
  let v632 : BitVec 32 := Scalar.muli v609 c16_i32_414
  let v633 : BitVec 32 := Scalar.addi c0_i32_415 v632
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_399 : BitVec 32 := 0#32
  let v610 : BitVec 32 := Scalar.addi v5 c0_i32_399
  let c4_i32_400 : BitVec 32 := 4#32
  let c0_i32_401 : BitVec 32 := 0#32
  let v611 : BitVec 1 := Scalar.cmpi .eq c4_i32_400 c0_i32_401
  let c1_i32_402 : BitVec 32 := 1#32
  let v612 : BitVec 32 := Scalar.select v611 c1_i32_402 c4_i32_400
  let v613 : BitVec 32 := Scalar.remsi v610 v612
  let c0_i32_404 : BitVec 32 := 0#32
  let v615 : BitVec 1 := Scalar.cmpi .slt v613 c0_i32_404
  let c0_i32_405 : BitVec 32 := 0#32
  let v616 : BitVec 1 := Scalar.cmpi .slt v612 c0_i32_405
  let v617 : BitVec 1 := Scalar.xori v615 v616
  let c0_i32_403 : BitVec 32 := 0#32
  let v614 : BitVec 1 := Scalar.cmpi .ne v613 c0_i32_403
  let v618 : BitVec 1 := Scalar.andi v617 v614
  let v619 : BitVec 32 := Scalar.addi v613 v612
  let v620 : BitVec 32 := Scalar.select v618 v619 v613
  let c4_i32_416 : BitVec 32 := 4#32
  let v634 : BitVec 32 := Scalar.muli v620 c4_i32_416
  let v635 : BitVec 32 := Scalar.addi v633 v634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_406 : BitVec 32 := 0#32
  let v621 : BitVec 32 := Scalar.addi v8 c0_i32_406
  let c4_i32_407 : BitVec 32 := 4#32
  let c0_i32_408 : BitVec 32 := 0#32
  let v622 : BitVec 1 := Scalar.cmpi .eq c4_i32_407 c0_i32_408
  let c1_i32_409 : BitVec 32 := 1#32
  let v623 : BitVec 32 := Scalar.select v622 c1_i32_409 c4_i32_407
  let v624 : BitVec 32 := Scalar.remsi v621 v623
  let c0_i32_411 : BitVec 32 := 0#32
  let v626 : BitVec 1 := Scalar.cmpi .slt v624 c0_i32_411
  let c0_i32_412 : BitVec 32 := 0#32
  let v627 : BitVec 1 := Scalar.cmpi .slt v623 c0_i32_412
  let v628 : BitVec 1 := Scalar.xori v626 v627
  let c0_i32_410 : BitVec 32 := 0#32
  let v625 : BitVec 1 := Scalar.cmpi .ne v624 c0_i32_410
  let v629 : BitVec 1 := Scalar.andi v628 v625
  let v630 : BitVec 32 := Scalar.addi v624 v623
  let v631 : BitVec 32 := Scalar.select v629 v630 v624
  let c1_i32_417 : BitVec 32 := 1#32
  let v636 : BitVec 32 := Scalar.muli v631 c1_i32_417
  let v637 : BitVec 32 := Scalar.addi v635 v636
  v637.toNat
def k0_dev17 (d0 : Dev nD) : Nat :=
  let c0_i32_441 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_418 : BitVec 32 := 1#32
  let v638 : BitVec 32 := Scalar.addi v2 c1_i32_418
  let c2_i32_419 : BitVec 32 := 2#32
  let c0_i32_420 : BitVec 32 := 0#32
  let v639 : BitVec 1 := Scalar.cmpi .eq c2_i32_419 c0_i32_420
  let c1_i32_421 : BitVec 32 := 1#32
  let v640 : BitVec 32 := Scalar.select v639 c1_i32_421 c2_i32_419
  let v641 : BitVec 32 := Scalar.remsi v638 v640
  let c0_i32_423 : BitVec 32 := 0#32
  let v643 : BitVec 1 := Scalar.cmpi .slt v641 c0_i32_423
  let c0_i32_424 : BitVec 32 := 0#32
  let v644 : BitVec 1 := Scalar.cmpi .slt v640 c0_i32_424
  let v645 : BitVec 1 := Scalar.xori v643 v644
  let c0_i32_422 : BitVec 32 := 0#32
  let v642 : BitVec 1 := Scalar.cmpi .ne v641 c0_i32_422
  let v646 : BitVec 1 := Scalar.andi v645 v642
  let v647 : BitVec 32 := Scalar.addi v641 v640
  let v648 : BitVec 32 := Scalar.select v646 v647 v641
  let c16_i32_440 : BitVec 32 := 16#32
  let v671 : BitVec 32 := Scalar.muli v648 c16_i32_440
  let v672 : BitVec 32 := Scalar.addi c0_i32_441 v671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_425 : BitVec 32 := 0#32
  let v649 : BitVec 32 := Scalar.addi v5 c0_i32_425
  let c4_i32_426 : BitVec 32 := 4#32
  let c0_i32_427 : BitVec 32 := 0#32
  let v650 : BitVec 1 := Scalar.cmpi .eq c4_i32_426 c0_i32_427
  let c1_i32_428 : BitVec 32 := 1#32
  let v651 : BitVec 32 := Scalar.select v650 c1_i32_428 c4_i32_426
  let v652 : BitVec 32 := Scalar.remsi v649 v651
  let c0_i32_430 : BitVec 32 := 0#32
  let v654 : BitVec 1 := Scalar.cmpi .slt v652 c0_i32_430
  let c0_i32_431 : BitVec 32 := 0#32
  let v655 : BitVec 1 := Scalar.cmpi .slt v651 c0_i32_431
  let v656 : BitVec 1 := Scalar.xori v654 v655
  let c0_i32_429 : BitVec 32 := 0#32
  let v653 : BitVec 1 := Scalar.cmpi .ne v652 c0_i32_429
  let v657 : BitVec 1 := Scalar.andi v656 v653
  let v658 : BitVec 32 := Scalar.addi v652 v651
  let v659 : BitVec 32 := Scalar.select v657 v658 v652
  let c4_i32_442 : BitVec 32 := 4#32
  let v673 : BitVec 32 := Scalar.muli v659 c4_i32_442
  let v674 : BitVec 32 := Scalar.addi v672 v673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v660 : BitVec 32 := Scalar.addi v8 c1_i32_432
  let c4_i32_433 : BitVec 32 := 4#32
  let c0_i32_434 : BitVec 32 := 0#32
  let v661 : BitVec 1 := Scalar.cmpi .eq c4_i32_433 c0_i32_434
  let c1_i32_435 : BitVec 32 := 1#32
  let v662 : BitVec 32 := Scalar.select v661 c1_i32_435 c4_i32_433
  let v663 : BitVec 32 := Scalar.remsi v660 v662
  let c0_i32_437 : BitVec 32 := 0#32
  let v665 : BitVec 1 := Scalar.cmpi .slt v663 c0_i32_437
  let c0_i32_438 : BitVec 32 := 0#32
  let v666 : BitVec 1 := Scalar.cmpi .slt v662 c0_i32_438
  let v667 : BitVec 1 := Scalar.xori v665 v666
  let c0_i32_436 : BitVec 32 := 0#32
  let v664 : BitVec 1 := Scalar.cmpi .ne v663 c0_i32_436
  let v668 : BitVec 1 := Scalar.andi v667 v664
  let v669 : BitVec 32 := Scalar.addi v663 v662
  let v670 : BitVec 32 := Scalar.select v668 v669 v663
  let c1_i32_443 : BitVec 32 := 1#32
  let v675 : BitVec 32 := Scalar.muli v670 c1_i32_443
  let v676 : BitVec 32 := Scalar.addi v674 v675
  v676.toNat
def k0_dev18 (d0 : Dev nD) : Nat :=
  let c0_i32_467 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_444 : BitVec 32 := 1#32
  let v677 : BitVec 32 := Scalar.addi v2 c1_i32_444
  let c2_i32_445 : BitVec 32 := 2#32
  let c0_i32_446 : BitVec 32 := 0#32
  let v678 : BitVec 1 := Scalar.cmpi .eq c2_i32_445 c0_i32_446
  let c1_i32_447 : BitVec 32 := 1#32
  let v679 : BitVec 32 := Scalar.select v678 c1_i32_447 c2_i32_445
  let v680 : BitVec 32 := Scalar.remsi v677 v679
  let c0_i32_449 : BitVec 32 := 0#32
  let v682 : BitVec 1 := Scalar.cmpi .slt v680 c0_i32_449
  let c0_i32_450 : BitVec 32 := 0#32
  let v683 : BitVec 1 := Scalar.cmpi .slt v679 c0_i32_450
  let v684 : BitVec 1 := Scalar.xori v682 v683
  let c0_i32_448 : BitVec 32 := 0#32
  let v681 : BitVec 1 := Scalar.cmpi .ne v680 c0_i32_448
  let v685 : BitVec 1 := Scalar.andi v684 v681
  let v686 : BitVec 32 := Scalar.addi v680 v679
  let v687 : BitVec 32 := Scalar.select v685 v686 v680
  let c16_i32_466 : BitVec 32 := 16#32
  let v710 : BitVec 32 := Scalar.muli v687 c16_i32_466
  let v711 : BitVec 32 := Scalar.addi c0_i32_467 v710
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_451 : BitVec 32 := 0#32
  let v688 : BitVec 32 := Scalar.addi v5 c0_i32_451
  let c4_i32_452 : BitVec 32 := 4#32
  let c0_i32_453 : BitVec 32 := 0#32
  let v689 : BitVec 1 := Scalar.cmpi .eq c4_i32_452 c0_i32_453
  let c1_i32_454 : BitVec 32 := 1#32
  let v690 : BitVec 32 := Scalar.select v689 c1_i32_454 c4_i32_452
  let v691 : BitVec 32 := Scalar.remsi v688 v690
  let c0_i32_456 : BitVec 32 := 0#32
  let v693 : BitVec 1 := Scalar.cmpi .slt v691 c0_i32_456
  let c0_i32_457 : BitVec 32 := 0#32
  let v694 : BitVec 1 := Scalar.cmpi .slt v690 c0_i32_457
  let v695 : BitVec 1 := Scalar.xori v693 v694
  let c0_i32_455 : BitVec 32 := 0#32
  let v692 : BitVec 1 := Scalar.cmpi .ne v691 c0_i32_455
  let v696 : BitVec 1 := Scalar.andi v695 v692
  let v697 : BitVec 32 := Scalar.addi v691 v690
  let v698 : BitVec 32 := Scalar.select v696 v697 v691
  let c4_i32_468 : BitVec 32 := 4#32
  let v712 : BitVec 32 := Scalar.muli v698 c4_i32_468
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_458 : BitVec 32 := 2#32
  let v699 : BitVec 32 := Scalar.addi v8 c2_i32_458
  let c4_i32_459 : BitVec 32 := 4#32
  let c0_i32_460 : BitVec 32 := 0#32
  let v700 : BitVec 1 := Scalar.cmpi .eq c4_i32_459 c0_i32_460
  let c1_i32_461 : BitVec 32 := 1#32
  let v701 : BitVec 32 := Scalar.select v700 c1_i32_461 c4_i32_459
  let v702 : BitVec 32 := Scalar.remsi v699 v701
  let c0_i32_463 : BitVec 32 := 0#32
  let v704 : BitVec 1 := Scalar.cmpi .slt v702 c0_i32_463
  let c0_i32_464 : BitVec 32 := 0#32
  let v705 : BitVec 1 := Scalar.cmpi .slt v701 c0_i32_464
  let v706 : BitVec 1 := Scalar.xori v704 v705
  let c0_i32_462 : BitVec 32 := 0#32
  let v703 : BitVec 1 := Scalar.cmpi .ne v702 c0_i32_462
  let v707 : BitVec 1 := Scalar.andi v706 v703
  let v708 : BitVec 32 := Scalar.addi v702 v701
  let v709 : BitVec 32 := Scalar.select v707 v708 v702
  let c1_i32_469 : BitVec 32 := 1#32
  let v714 : BitVec 32 := Scalar.muli v709 c1_i32_469
  let v715 : BitVec 32 := Scalar.addi v713 v714
  v715.toNat
def k0_dev19 (d0 : Dev nD) : Nat :=
  let c0_i32_493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_470 : BitVec 32 := 1#32
  let v716 : BitVec 32 := Scalar.addi v2 c1_i32_470
  let c2_i32_471 : BitVec 32 := 2#32
  let c0_i32_472 : BitVec 32 := 0#32
  let v717 : BitVec 1 := Scalar.cmpi .eq c2_i32_471 c0_i32_472
  let c1_i32_473 : BitVec 32 := 1#32
  let v718 : BitVec 32 := Scalar.select v717 c1_i32_473 c2_i32_471
  let v719 : BitVec 32 := Scalar.remsi v716 v718
  let c0_i32_475 : BitVec 32 := 0#32
  let v721 : BitVec 1 := Scalar.cmpi .slt v719 c0_i32_475
  let c0_i32_476 : BitVec 32 := 0#32
  let v722 : BitVec 1 := Scalar.cmpi .slt v718 c0_i32_476
  let v723 : BitVec 1 := Scalar.xori v721 v722
  let c0_i32_474 : BitVec 32 := 0#32
  let v720 : BitVec 1 := Scalar.cmpi .ne v719 c0_i32_474
  let v724 : BitVec 1 := Scalar.andi v723 v720
  let v725 : BitVec 32 := Scalar.addi v719 v718
  let v726 : BitVec 32 := Scalar.select v724 v725 v719
  let c16_i32_492 : BitVec 32 := 16#32
  let v749 : BitVec 32 := Scalar.muli v726 c16_i32_492
  let v750 : BitVec 32 := Scalar.addi c0_i32_493 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_477 : BitVec 32 := 0#32
  let v727 : BitVec 32 := Scalar.addi v5 c0_i32_477
  let c4_i32_478 : BitVec 32 := 4#32
  let c0_i32_479 : BitVec 32 := 0#32
  let v728 : BitVec 1 := Scalar.cmpi .eq c4_i32_478 c0_i32_479
  let c1_i32_480 : BitVec 32 := 1#32
  let v729 : BitVec 32 := Scalar.select v728 c1_i32_480 c4_i32_478
  let v730 : BitVec 32 := Scalar.remsi v727 v729
  let c0_i32_482 : BitVec 32 := 0#32
  let v732 : BitVec 1 := Scalar.cmpi .slt v730 c0_i32_482
  let c0_i32_483 : BitVec 32 := 0#32
  let v733 : BitVec 1 := Scalar.cmpi .slt v729 c0_i32_483
  let v734 : BitVec 1 := Scalar.xori v732 v733
  let c0_i32_481 : BitVec 32 := 0#32
  let v731 : BitVec 1 := Scalar.cmpi .ne v730 c0_i32_481
  let v735 : BitVec 1 := Scalar.andi v734 v731
  let v736 : BitVec 32 := Scalar.addi v730 v729
  let v737 : BitVec 32 := Scalar.select v735 v736 v730
  let c4_i32_494 : BitVec 32 := 4#32
  let v751 : BitVec 32 := Scalar.muli v737 c4_i32_494
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_484 : BitVec 32 := 3#32
  let v738 : BitVec 32 := Scalar.addi v8 c3_i32_484
  let c4_i32_485 : BitVec 32 := 4#32
  let c0_i32_486 : BitVec 32 := 0#32
  let v739 : BitVec 1 := Scalar.cmpi .eq c4_i32_485 c0_i32_486
  let c1_i32_487 : BitVec 32 := 1#32
  let v740 : BitVec 32 := Scalar.select v739 c1_i32_487 c4_i32_485
  let v741 : BitVec 32 := Scalar.remsi v738 v740
  let c0_i32_489 : BitVec 32 := 0#32
  let v743 : BitVec 1 := Scalar.cmpi .slt v741 c0_i32_489
  let c0_i32_490 : BitVec 32 := 0#32
  let v744 : BitVec 1 := Scalar.cmpi .slt v740 c0_i32_490
  let v745 : BitVec 1 := Scalar.xori v743 v744
  let c0_i32_488 : BitVec 32 := 0#32
  let v742 : BitVec 1 := Scalar.cmpi .ne v741 c0_i32_488
  let v746 : BitVec 1 := Scalar.andi v745 v742
  let v747 : BitVec 32 := Scalar.addi v741 v740
  let v748 : BitVec 32 := Scalar.select v746 v747 v741
  let c1_i32_495 : BitVec 32 := 1#32
  let v753 : BitVec 32 := Scalar.muli v748 c1_i32_495
  let v754 : BitVec 32 := Scalar.addi v752 v753
  v754.toNat
def k0_dev20 (d0 : Dev nD) : Nat :=
  let c0_i32_519 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_496 : BitVec 32 := 1#32
  let v755 : BitVec 32 := Scalar.addi v2 c1_i32_496
  let c2_i32_497 : BitVec 32 := 2#32
  let c0_i32_498 : BitVec 32 := 0#32
  let v756 : BitVec 1 := Scalar.cmpi .eq c2_i32_497 c0_i32_498
  let c1_i32_499 : BitVec 32 := 1#32
  let v757 : BitVec 32 := Scalar.select v756 c1_i32_499 c2_i32_497
  let v758 : BitVec 32 := Scalar.remsi v755 v757
  let c0_i32_501 : BitVec 32 := 0#32
  let v760 : BitVec 1 := Scalar.cmpi .slt v758 c0_i32_501
  let c0_i32_502 : BitVec 32 := 0#32
  let v761 : BitVec 1 := Scalar.cmpi .slt v757 c0_i32_502
  let v762 : BitVec 1 := Scalar.xori v760 v761
  let c0_i32_500 : BitVec 32 := 0#32
  let v759 : BitVec 1 := Scalar.cmpi .ne v758 c0_i32_500
  let v763 : BitVec 1 := Scalar.andi v762 v759
  let v764 : BitVec 32 := Scalar.addi v758 v757
  let v765 : BitVec 32 := Scalar.select v763 v764 v758
  let c16_i32_518 : BitVec 32 := 16#32
  let v788 : BitVec 32 := Scalar.muli v765 c16_i32_518
  let v789 : BitVec 32 := Scalar.addi c0_i32_519 v788
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_503 : BitVec 32 := 1#32
  let v766 : BitVec 32 := Scalar.addi v5 c1_i32_503
  let c4_i32_504 : BitVec 32 := 4#32
  let c0_i32_505 : BitVec 32 := 0#32
  let v767 : BitVec 1 := Scalar.cmpi .eq c4_i32_504 c0_i32_505
  let c1_i32_506 : BitVec 32 := 1#32
  let v768 : BitVec 32 := Scalar.select v767 c1_i32_506 c4_i32_504
  let v769 : BitVec 32 := Scalar.remsi v766 v768
  let c0_i32_508 : BitVec 32 := 0#32
  let v771 : BitVec 1 := Scalar.cmpi .slt v769 c0_i32_508
  let c0_i32_509 : BitVec 32 := 0#32
  let v772 : BitVec 1 := Scalar.cmpi .slt v768 c0_i32_509
  let v773 : BitVec 1 := Scalar.xori v771 v772
  let c0_i32_507 : BitVec 32 := 0#32
  let v770 : BitVec 1 := Scalar.cmpi .ne v769 c0_i32_507
  let v774 : BitVec 1 := Scalar.andi v773 v770
  let v775 : BitVec 32 := Scalar.addi v769 v768
  let v776 : BitVec 32 := Scalar.select v774 v775 v769
  let c4_i32_520 : BitVec 32 := 4#32
  let v790 : BitVec 32 := Scalar.muli v776 c4_i32_520
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_510 : BitVec 32 := 0#32
  let v777 : BitVec 32 := Scalar.addi v8 c0_i32_510
  let c4_i32_511 : BitVec 32 := 4#32
  let c0_i32_512 : BitVec 32 := 0#32
  let v778 : BitVec 1 := Scalar.cmpi .eq c4_i32_511 c0_i32_512
  let c1_i32_513 : BitVec 32 := 1#32
  let v779 : BitVec 32 := Scalar.select v778 c1_i32_513 c4_i32_511
  let v780 : BitVec 32 := Scalar.remsi v777 v779
  let c0_i32_515 : BitVec 32 := 0#32
  let v782 : BitVec 1 := Scalar.cmpi .slt v780 c0_i32_515
  let c0_i32_516 : BitVec 32 := 0#32
  let v783 : BitVec 1 := Scalar.cmpi .slt v779 c0_i32_516
  let v784 : BitVec 1 := Scalar.xori v782 v783
  let c0_i32_514 : BitVec 32 := 0#32
  let v781 : BitVec 1 := Scalar.cmpi .ne v780 c0_i32_514
  let v785 : BitVec 1 := Scalar.andi v784 v781
  let v786 : BitVec 32 := Scalar.addi v780 v779
  let v787 : BitVec 32 := Scalar.select v785 v786 v780
  let c1_i32_521 : BitVec 32 := 1#32
  let v792 : BitVec 32 := Scalar.muli v787 c1_i32_521
  let v793 : BitVec 32 := Scalar.addi v791 v792
  v793.toNat
def k0_dev21 (d0 : Dev nD) : Nat :=
  let c0_i32_545 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_522 : BitVec 32 := 1#32
  let v794 : BitVec 32 := Scalar.addi v2 c1_i32_522
  let c2_i32_523 : BitVec 32 := 2#32
  let c0_i32_524 : BitVec 32 := 0#32
  let v795 : BitVec 1 := Scalar.cmpi .eq c2_i32_523 c0_i32_524
  let c1_i32_525 : BitVec 32 := 1#32
  let v796 : BitVec 32 := Scalar.select v795 c1_i32_525 c2_i32_523
  let v797 : BitVec 32 := Scalar.remsi v794 v796
  let c0_i32_527 : BitVec 32 := 0#32
  let v799 : BitVec 1 := Scalar.cmpi .slt v797 c0_i32_527
  let c0_i32_528 : BitVec 32 := 0#32
  let v800 : BitVec 1 := Scalar.cmpi .slt v796 c0_i32_528
  let v801 : BitVec 1 := Scalar.xori v799 v800
  let c0_i32_526 : BitVec 32 := 0#32
  let v798 : BitVec 1 := Scalar.cmpi .ne v797 c0_i32_526
  let v802 : BitVec 1 := Scalar.andi v801 v798
  let v803 : BitVec 32 := Scalar.addi v797 v796
  let v804 : BitVec 32 := Scalar.select v802 v803 v797
  let c16_i32_544 : BitVec 32 := 16#32
  let v827 : BitVec 32 := Scalar.muli v804 c16_i32_544
  let v828 : BitVec 32 := Scalar.addi c0_i32_545 v827
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_529 : BitVec 32 := 1#32
  let v805 : BitVec 32 := Scalar.addi v5 c1_i32_529
  let c4_i32_530 : BitVec 32 := 4#32
  let c0_i32_531 : BitVec 32 := 0#32
  let v806 : BitVec 1 := Scalar.cmpi .eq c4_i32_530 c0_i32_531
  let c1_i32_532 : BitVec 32 := 1#32
  let v807 : BitVec 32 := Scalar.select v806 c1_i32_532 c4_i32_530
  let v808 : BitVec 32 := Scalar.remsi v805 v807
  let c0_i32_534 : BitVec 32 := 0#32
  let v810 : BitVec 1 := Scalar.cmpi .slt v808 c0_i32_534
  let c0_i32_535 : BitVec 32 := 0#32
  let v811 : BitVec 1 := Scalar.cmpi .slt v807 c0_i32_535
  let v812 : BitVec 1 := Scalar.xori v810 v811
  let c0_i32_533 : BitVec 32 := 0#32
  let v809 : BitVec 1 := Scalar.cmpi .ne v808 c0_i32_533
  let v813 : BitVec 1 := Scalar.andi v812 v809
  let v814 : BitVec 32 := Scalar.addi v808 v807
  let v815 : BitVec 32 := Scalar.select v813 v814 v808
  let c4_i32_546 : BitVec 32 := 4#32
  let v829 : BitVec 32 := Scalar.muli v815 c4_i32_546
  let v830 : BitVec 32 := Scalar.addi v828 v829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v816 : BitVec 32 := Scalar.addi v8 c1_i32_536
  let c4_i32_537 : BitVec 32 := 4#32
  let c0_i32_538 : BitVec 32 := 0#32
  let v817 : BitVec 1 := Scalar.cmpi .eq c4_i32_537 c0_i32_538
  let c1_i32_539 : BitVec 32 := 1#32
  let v818 : BitVec 32 := Scalar.select v817 c1_i32_539 c4_i32_537
  let v819 : BitVec 32 := Scalar.remsi v816 v818
  let c0_i32_541 : BitVec 32 := 0#32
  let v821 : BitVec 1 := Scalar.cmpi .slt v819 c0_i32_541
  let c0_i32_542 : BitVec 32 := 0#32
  let v822 : BitVec 1 := Scalar.cmpi .slt v818 c0_i32_542
  let v823 : BitVec 1 := Scalar.xori v821 v822
  let c0_i32_540 : BitVec 32 := 0#32
  let v820 : BitVec 1 := Scalar.cmpi .ne v819 c0_i32_540
  let v824 : BitVec 1 := Scalar.andi v823 v820
  let v825 : BitVec 32 := Scalar.addi v819 v818
  let v826 : BitVec 32 := Scalar.select v824 v825 v819
  let c1_i32_547 : BitVec 32 := 1#32
  let v831 : BitVec 32 := Scalar.muli v826 c1_i32_547
  let v832 : BitVec 32 := Scalar.addi v830 v831
  v832.toNat
def k0_dev22 (d0 : Dev nD) : Nat :=
  let c0_i32_571 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_548 : BitVec 32 := 1#32
  let v833 : BitVec 32 := Scalar.addi v2 c1_i32_548
  let c2_i32_549 : BitVec 32 := 2#32
  let c0_i32_550 : BitVec 32 := 0#32
  let v834 : BitVec 1 := Scalar.cmpi .eq c2_i32_549 c0_i32_550
  let c1_i32_551 : BitVec 32 := 1#32
  let v835 : BitVec 32 := Scalar.select v834 c1_i32_551 c2_i32_549
  let v836 : BitVec 32 := Scalar.remsi v833 v835
  let c0_i32_553 : BitVec 32 := 0#32
  let v838 : BitVec 1 := Scalar.cmpi .slt v836 c0_i32_553
  let c0_i32_554 : BitVec 32 := 0#32
  let v839 : BitVec 1 := Scalar.cmpi .slt v835 c0_i32_554
  let v840 : BitVec 1 := Scalar.xori v838 v839
  let c0_i32_552 : BitVec 32 := 0#32
  let v837 : BitVec 1 := Scalar.cmpi .ne v836 c0_i32_552
  let v841 : BitVec 1 := Scalar.andi v840 v837
  let v842 : BitVec 32 := Scalar.addi v836 v835
  let v843 : BitVec 32 := Scalar.select v841 v842 v836
  let c16_i32_570 : BitVec 32 := 16#32
  let v866 : BitVec 32 := Scalar.muli v843 c16_i32_570
  let v867 : BitVec 32 := Scalar.addi c0_i32_571 v866
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_555 : BitVec 32 := 1#32
  let v844 : BitVec 32 := Scalar.addi v5 c1_i32_555
  let c4_i32_556 : BitVec 32 := 4#32
  let c0_i32_557 : BitVec 32 := 0#32
  let v845 : BitVec 1 := Scalar.cmpi .eq c4_i32_556 c0_i32_557
  let c1_i32_558 : BitVec 32 := 1#32
  let v846 : BitVec 32 := Scalar.select v845 c1_i32_558 c4_i32_556
  let v847 : BitVec 32 := Scalar.remsi v844 v846
  let c0_i32_560 : BitVec 32 := 0#32
  let v849 : BitVec 1 := Scalar.cmpi .slt v847 c0_i32_560
  let c0_i32_561 : BitVec 32 := 0#32
  let v850 : BitVec 1 := Scalar.cmpi .slt v846 c0_i32_561
  let v851 : BitVec 1 := Scalar.xori v849 v850
  let c0_i32_559 : BitVec 32 := 0#32
  let v848 : BitVec 1 := Scalar.cmpi .ne v847 c0_i32_559
  let v852 : BitVec 1 := Scalar.andi v851 v848
  let v853 : BitVec 32 := Scalar.addi v847 v846
  let v854 : BitVec 32 := Scalar.select v852 v853 v847
  let c4_i32_572 : BitVec 32 := 4#32
  let v868 : BitVec 32 := Scalar.muli v854 c4_i32_572
  let v869 : BitVec 32 := Scalar.addi v867 v868
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_562 : BitVec 32 := 2#32
  let v855 : BitVec 32 := Scalar.addi v8 c2_i32_562
  let c4_i32_563 : BitVec 32 := 4#32
  let c0_i32_564 : BitVec 32 := 0#32
  let v856 : BitVec 1 := Scalar.cmpi .eq c4_i32_563 c0_i32_564
  let c1_i32_565 : BitVec 32 := 1#32
  let v857 : BitVec 32 := Scalar.select v856 c1_i32_565 c4_i32_563
  let v858 : BitVec 32 := Scalar.remsi v855 v857
  let c0_i32_567 : BitVec 32 := 0#32
  let v860 : BitVec 1 := Scalar.cmpi .slt v858 c0_i32_567
  let c0_i32_568 : BitVec 32 := 0#32
  let v861 : BitVec 1 := Scalar.cmpi .slt v857 c0_i32_568
  let v862 : BitVec 1 := Scalar.xori v860 v861
  let c0_i32_566 : BitVec 32 := 0#32
  let v859 : BitVec 1 := Scalar.cmpi .ne v858 c0_i32_566
  let v863 : BitVec 1 := Scalar.andi v862 v859
  let v864 : BitVec 32 := Scalar.addi v858 v857
  let v865 : BitVec 32 := Scalar.select v863 v864 v858
  let c1_i32_573 : BitVec 32 := 1#32
  let v870 : BitVec 32 := Scalar.muli v865 c1_i32_573
  let v871 : BitVec 32 := Scalar.addi v869 v870
  v871.toNat
def k0_dev23 (d0 : Dev nD) : Nat :=
  let c0_i32_597 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_574 : BitVec 32 := 1#32
  let v872 : BitVec 32 := Scalar.addi v2 c1_i32_574
  let c2_i32_575 : BitVec 32 := 2#32
  let c0_i32_576 : BitVec 32 := 0#32
  let v873 : BitVec 1 := Scalar.cmpi .eq c2_i32_575 c0_i32_576
  let c1_i32_577 : BitVec 32 := 1#32
  let v874 : BitVec 32 := Scalar.select v873 c1_i32_577 c2_i32_575
  let v875 : BitVec 32 := Scalar.remsi v872 v874
  let c0_i32_579 : BitVec 32 := 0#32
  let v877 : BitVec 1 := Scalar.cmpi .slt v875 c0_i32_579
  let c0_i32_580 : BitVec 32 := 0#32
  let v878 : BitVec 1 := Scalar.cmpi .slt v874 c0_i32_580
  let v879 : BitVec 1 := Scalar.xori v877 v878
  let c0_i32_578 : BitVec 32 := 0#32
  let v876 : BitVec 1 := Scalar.cmpi .ne v875 c0_i32_578
  let v880 : BitVec 1 := Scalar.andi v879 v876
  let v881 : BitVec 32 := Scalar.addi v875 v874
  let v882 : BitVec 32 := Scalar.select v880 v881 v875
  let c16_i32_596 : BitVec 32 := 16#32
  let v905 : BitVec 32 := Scalar.muli v882 c16_i32_596
  let v906 : BitVec 32 := Scalar.addi c0_i32_597 v905
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_581 : BitVec 32 := 1#32
  let v883 : BitVec 32 := Scalar.addi v5 c1_i32_581
  let c4_i32_582 : BitVec 32 := 4#32
  let c0_i32_583 : BitVec 32 := 0#32
  let v884 : BitVec 1 := Scalar.cmpi .eq c4_i32_582 c0_i32_583
  let c1_i32_584 : BitVec 32 := 1#32
  let v885 : BitVec 32 := Scalar.select v884 c1_i32_584 c4_i32_582
  let v886 : BitVec 32 := Scalar.remsi v883 v885
  let c0_i32_586 : BitVec 32 := 0#32
  let v888 : BitVec 1 := Scalar.cmpi .slt v886 c0_i32_586
  let c0_i32_587 : BitVec 32 := 0#32
  let v889 : BitVec 1 := Scalar.cmpi .slt v885 c0_i32_587
  let v890 : BitVec 1 := Scalar.xori v888 v889
  let c0_i32_585 : BitVec 32 := 0#32
  let v887 : BitVec 1 := Scalar.cmpi .ne v886 c0_i32_585
  let v891 : BitVec 1 := Scalar.andi v890 v887
  let v892 : BitVec 32 := Scalar.addi v886 v885
  let v893 : BitVec 32 := Scalar.select v891 v892 v886
  let c4_i32_598 : BitVec 32 := 4#32
  let v907 : BitVec 32 := Scalar.muli v893 c4_i32_598
  let v908 : BitVec 32 := Scalar.addi v906 v907
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_588 : BitVec 32 := 3#32
  let v894 : BitVec 32 := Scalar.addi v8 c3_i32_588
  let c4_i32_589 : BitVec 32 := 4#32
  let c0_i32_590 : BitVec 32 := 0#32
  let v895 : BitVec 1 := Scalar.cmpi .eq c4_i32_589 c0_i32_590
  let c1_i32_591 : BitVec 32 := 1#32
  let v896 : BitVec 32 := Scalar.select v895 c1_i32_591 c4_i32_589
  let v897 : BitVec 32 := Scalar.remsi v894 v896
  let c0_i32_593 : BitVec 32 := 0#32
  let v899 : BitVec 1 := Scalar.cmpi .slt v897 c0_i32_593
  let c0_i32_594 : BitVec 32 := 0#32
  let v900 : BitVec 1 := Scalar.cmpi .slt v896 c0_i32_594
  let v901 : BitVec 1 := Scalar.xori v899 v900
  let c0_i32_592 : BitVec 32 := 0#32
  let v898 : BitVec 1 := Scalar.cmpi .ne v897 c0_i32_592
  let v902 : BitVec 1 := Scalar.andi v901 v898
  let v903 : BitVec 32 := Scalar.addi v897 v896
  let v904 : BitVec 32 := Scalar.select v902 v903 v897
  let c1_i32_599 : BitVec 32 := 1#32
  let v909 : BitVec 32 := Scalar.muli v904 c1_i32_599
  let v910 : BitVec 32 := Scalar.addi v908 v909
  v910.toNat
def k0_dev24 (d0 : Dev nD) : Nat :=
  let c0_i32_623 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_600 : BitVec 32 := 1#32
  let v911 : BitVec 32 := Scalar.addi v2 c1_i32_600
  let c2_i32_601 : BitVec 32 := 2#32
  let c0_i32_602 : BitVec 32 := 0#32
  let v912 : BitVec 1 := Scalar.cmpi .eq c2_i32_601 c0_i32_602
  let c1_i32_603 : BitVec 32 := 1#32
  let v913 : BitVec 32 := Scalar.select v912 c1_i32_603 c2_i32_601
  let v914 : BitVec 32 := Scalar.remsi v911 v913
  let c0_i32_605 : BitVec 32 := 0#32
  let v916 : BitVec 1 := Scalar.cmpi .slt v914 c0_i32_605
  let c0_i32_606 : BitVec 32 := 0#32
  let v917 : BitVec 1 := Scalar.cmpi .slt v913 c0_i32_606
  let v918 : BitVec 1 := Scalar.xori v916 v917
  let c0_i32_604 : BitVec 32 := 0#32
  let v915 : BitVec 1 := Scalar.cmpi .ne v914 c0_i32_604
  let v919 : BitVec 1 := Scalar.andi v918 v915
  let v920 : BitVec 32 := Scalar.addi v914 v913
  let v921 : BitVec 32 := Scalar.select v919 v920 v914
  let c16_i32_622 : BitVec 32 := 16#32
  let v944 : BitVec 32 := Scalar.muli v921 c16_i32_622
  let v945 : BitVec 32 := Scalar.addi c0_i32_623 v944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_607 : BitVec 32 := 2#32
  let v922 : BitVec 32 := Scalar.addi v5 c2_i32_607
  let c4_i32_608 : BitVec 32 := 4#32
  let c0_i32_609 : BitVec 32 := 0#32
  let v923 : BitVec 1 := Scalar.cmpi .eq c4_i32_608 c0_i32_609
  let c1_i32_610 : BitVec 32 := 1#32
  let v924 : BitVec 32 := Scalar.select v923 c1_i32_610 c4_i32_608
  let v925 : BitVec 32 := Scalar.remsi v922 v924
  let c0_i32_612 : BitVec 32 := 0#32
  let v927 : BitVec 1 := Scalar.cmpi .slt v925 c0_i32_612
  let c0_i32_613 : BitVec 32 := 0#32
  let v928 : BitVec 1 := Scalar.cmpi .slt v924 c0_i32_613
  let v929 : BitVec 1 := Scalar.xori v927 v928
  let c0_i32_611 : BitVec 32 := 0#32
  let v926 : BitVec 1 := Scalar.cmpi .ne v925 c0_i32_611
  let v930 : BitVec 1 := Scalar.andi v929 v926
  let v931 : BitVec 32 := Scalar.addi v925 v924
  let v932 : BitVec 32 := Scalar.select v930 v931 v925
  let c4_i32_624 : BitVec 32 := 4#32
  let v946 : BitVec 32 := Scalar.muli v932 c4_i32_624
  let v947 : BitVec 32 := Scalar.addi v945 v946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v933 : BitVec 32 := Scalar.addi v8 c0_i32_614
  let c4_i32_615 : BitVec 32 := 4#32
  let c0_i32_616 : BitVec 32 := 0#32
  let v934 : BitVec 1 := Scalar.cmpi .eq c4_i32_615 c0_i32_616
  let c1_i32_617 : BitVec 32 := 1#32
  let v935 : BitVec 32 := Scalar.select v934 c1_i32_617 c4_i32_615
  let v936 : BitVec 32 := Scalar.remsi v933 v935
  let c0_i32_619 : BitVec 32 := 0#32
  let v938 : BitVec 1 := Scalar.cmpi .slt v936 c0_i32_619
  let c0_i32_620 : BitVec 32 := 0#32
  let v939 : BitVec 1 := Scalar.cmpi .slt v935 c0_i32_620
  let v940 : BitVec 1 := Scalar.xori v938 v939
  let c0_i32_618 : BitVec 32 := 0#32
  let v937 : BitVec 1 := Scalar.cmpi .ne v936 c0_i32_618
  let v941 : BitVec 1 := Scalar.andi v940 v937
  let v942 : BitVec 32 := Scalar.addi v936 v935
  let v943 : BitVec 32 := Scalar.select v941 v942 v936
  let c1_i32_625 : BitVec 32 := 1#32
  let v948 : BitVec 32 := Scalar.muli v943 c1_i32_625
  let v949 : BitVec 32 := Scalar.addi v947 v948
  v949.toNat
def k0_dev25 (d0 : Dev nD) : Nat :=
  let c0_i32_649 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_626 : BitVec 32 := 1#32
  let v950 : BitVec 32 := Scalar.addi v2 c1_i32_626
  let c2_i32_627 : BitVec 32 := 2#32
  let c0_i32_628 : BitVec 32 := 0#32
  let v951 : BitVec 1 := Scalar.cmpi .eq c2_i32_627 c0_i32_628
  let c1_i32_629 : BitVec 32 := 1#32
  let v952 : BitVec 32 := Scalar.select v951 c1_i32_629 c2_i32_627
  let v953 : BitVec 32 := Scalar.remsi v950 v952
  let c0_i32_631 : BitVec 32 := 0#32
  let v955 : BitVec 1 := Scalar.cmpi .slt v953 c0_i32_631
  let c0_i32_632 : BitVec 32 := 0#32
  let v956 : BitVec 1 := Scalar.cmpi .slt v952 c0_i32_632
  let v957 : BitVec 1 := Scalar.xori v955 v956
  let c0_i32_630 : BitVec 32 := 0#32
  let v954 : BitVec 1 := Scalar.cmpi .ne v953 c0_i32_630
  let v958 : BitVec 1 := Scalar.andi v957 v954
  let v959 : BitVec 32 := Scalar.addi v953 v952
  let v960 : BitVec 32 := Scalar.select v958 v959 v953
  let c16_i32_648 : BitVec 32 := 16#32
  let v983 : BitVec 32 := Scalar.muli v960 c16_i32_648
  let v984 : BitVec 32 := Scalar.addi c0_i32_649 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_633 : BitVec 32 := 2#32
  let v961 : BitVec 32 := Scalar.addi v5 c2_i32_633
  let c4_i32_634 : BitVec 32 := 4#32
  let c0_i32_635 : BitVec 32 := 0#32
  let v962 : BitVec 1 := Scalar.cmpi .eq c4_i32_634 c0_i32_635
  let c1_i32_636 : BitVec 32 := 1#32
  let v963 : BitVec 32 := Scalar.select v962 c1_i32_636 c4_i32_634
  let v964 : BitVec 32 := Scalar.remsi v961 v963
  let c0_i32_638 : BitVec 32 := 0#32
  let v966 : BitVec 1 := Scalar.cmpi .slt v964 c0_i32_638
  let c0_i32_639 : BitVec 32 := 0#32
  let v967 : BitVec 1 := Scalar.cmpi .slt v963 c0_i32_639
  let v968 : BitVec 1 := Scalar.xori v966 v967
  let c0_i32_637 : BitVec 32 := 0#32
  let v965 : BitVec 1 := Scalar.cmpi .ne v964 c0_i32_637
  let v969 : BitVec 1 := Scalar.andi v968 v965
  let v970 : BitVec 32 := Scalar.addi v964 v963
  let v971 : BitVec 32 := Scalar.select v969 v970 v964
  let c4_i32_650 : BitVec 32 := 4#32
  let v985 : BitVec 32 := Scalar.muli v971 c4_i32_650
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v972 : BitVec 32 := Scalar.addi v8 c1_i32_640
  let c4_i32_641 : BitVec 32 := 4#32
  let c0_i32_642 : BitVec 32 := 0#32
  let v973 : BitVec 1 := Scalar.cmpi .eq c4_i32_641 c0_i32_642
  let c1_i32_643 : BitVec 32 := 1#32
  let v974 : BitVec 32 := Scalar.select v973 c1_i32_643 c4_i32_641
  let v975 : BitVec 32 := Scalar.remsi v972 v974
  let c0_i32_645 : BitVec 32 := 0#32
  let v977 : BitVec 1 := Scalar.cmpi .slt v975 c0_i32_645
  let c0_i32_646 : BitVec 32 := 0#32
  let v978 : BitVec 1 := Scalar.cmpi .slt v974 c0_i32_646
  let v979 : BitVec 1 := Scalar.xori v977 v978
  let c0_i32_644 : BitVec 32 := 0#32
  let v976 : BitVec 1 := Scalar.cmpi .ne v975 c0_i32_644
  let v980 : BitVec 1 := Scalar.andi v979 v976
  let v981 : BitVec 32 := Scalar.addi v975 v974
  let v982 : BitVec 32 := Scalar.select v980 v981 v975
  let c1_i32_651 : BitVec 32 := 1#32
  let v987 : BitVec 32 := Scalar.muli v982 c1_i32_651
  let v988 : BitVec 32 := Scalar.addi v986 v987
  v988.toNat
def k0_dev26 (d0 : Dev nD) : Nat :=
  let c0_i32_675 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_652 : BitVec 32 := 1#32
  let v989 : BitVec 32 := Scalar.addi v2 c1_i32_652
  let c2_i32_653 : BitVec 32 := 2#32
  let c0_i32_654 : BitVec 32 := 0#32
  let v990 : BitVec 1 := Scalar.cmpi .eq c2_i32_653 c0_i32_654
  let c1_i32_655 : BitVec 32 := 1#32
  let v991 : BitVec 32 := Scalar.select v990 c1_i32_655 c2_i32_653
  let v992 : BitVec 32 := Scalar.remsi v989 v991
  let c0_i32_657 : BitVec 32 := 0#32
  let v994 : BitVec 1 := Scalar.cmpi .slt v992 c0_i32_657
  let c0_i32_658 : BitVec 32 := 0#32
  let v995 : BitVec 1 := Scalar.cmpi .slt v991 c0_i32_658
  let v996 : BitVec 1 := Scalar.xori v994 v995
  let c0_i32_656 : BitVec 32 := 0#32
  let v993 : BitVec 1 := Scalar.cmpi .ne v992 c0_i32_656
  let v997 : BitVec 1 := Scalar.andi v996 v993
  let v998 : BitVec 32 := Scalar.addi v992 v991
  let v999 : BitVec 32 := Scalar.select v997 v998 v992
  let c16_i32_674 : BitVec 32 := 16#32
  let v1022 : BitVec 32 := Scalar.muli v999 c16_i32_674
  let v1023 : BitVec 32 := Scalar.addi c0_i32_675 v1022
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_659 : BitVec 32 := 2#32
  let v1000 : BitVec 32 := Scalar.addi v5 c2_i32_659
  let c4_i32_660 : BitVec 32 := 4#32
  let c0_i32_661 : BitVec 32 := 0#32
  let v1001 : BitVec 1 := Scalar.cmpi .eq c4_i32_660 c0_i32_661
  let c1_i32_662 : BitVec 32 := 1#32
  let v1002 : BitVec 32 := Scalar.select v1001 c1_i32_662 c4_i32_660
  let v1003 : BitVec 32 := Scalar.remsi v1000 v1002
  let c0_i32_664 : BitVec 32 := 0#32
  let v1005 : BitVec 1 := Scalar.cmpi .slt v1003 c0_i32_664
  let c0_i32_665 : BitVec 32 := 0#32
  let v1006 : BitVec 1 := Scalar.cmpi .slt v1002 c0_i32_665
  let v1007 : BitVec 1 := Scalar.xori v1005 v1006
  let c0_i32_663 : BitVec 32 := 0#32
  let v1004 : BitVec 1 := Scalar.cmpi .ne v1003 c0_i32_663
  let v1008 : BitVec 1 := Scalar.andi v1007 v1004
  let v1009 : BitVec 32 := Scalar.addi v1003 v1002
  let v1010 : BitVec 32 := Scalar.select v1008 v1009 v1003
  let c4_i32_676 : BitVec 32 := 4#32
  let v1024 : BitVec 32 := Scalar.muli v1010 c4_i32_676
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_666 : BitVec 32 := 2#32
  let v1011 : BitVec 32 := Scalar.addi v8 c2_i32_666
  let c4_i32_667 : BitVec 32 := 4#32
  let c0_i32_668 : BitVec 32 := 0#32
  let v1012 : BitVec 1 := Scalar.cmpi .eq c4_i32_667 c0_i32_668
  let c1_i32_669 : BitVec 32 := 1#32
  let v1013 : BitVec 32 := Scalar.select v1012 c1_i32_669 c4_i32_667
  let v1014 : BitVec 32 := Scalar.remsi v1011 v1013
  let c0_i32_671 : BitVec 32 := 0#32
  let v1016 : BitVec 1 := Scalar.cmpi .slt v1014 c0_i32_671
  let c0_i32_672 : BitVec 32 := 0#32
  let v1017 : BitVec 1 := Scalar.cmpi .slt v1013 c0_i32_672
  let v1018 : BitVec 1 := Scalar.xori v1016 v1017
  let c0_i32_670 : BitVec 32 := 0#32
  let v1015 : BitVec 1 := Scalar.cmpi .ne v1014 c0_i32_670
  let v1019 : BitVec 1 := Scalar.andi v1018 v1015
  let v1020 : BitVec 32 := Scalar.addi v1014 v1013
  let v1021 : BitVec 32 := Scalar.select v1019 v1020 v1014
  let c1_i32_677 : BitVec 32 := 1#32
  let v1026 : BitVec 32 := Scalar.muli v1021 c1_i32_677
  let v1027 : BitVec 32 := Scalar.addi v1025 v1026
  v1027.toNat
def k0_dev27 (d0 : Dev nD) : Nat :=
  let c0_i32_701 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_678 : BitVec 32 := 1#32
  let v1028 : BitVec 32 := Scalar.addi v2 c1_i32_678
  let c2_i32_679 : BitVec 32 := 2#32
  let c0_i32_680 : BitVec 32 := 0#32
  let v1029 : BitVec 1 := Scalar.cmpi .eq c2_i32_679 c0_i32_680
  let c1_i32_681 : BitVec 32 := 1#32
  let v1030 : BitVec 32 := Scalar.select v1029 c1_i32_681 c2_i32_679
  let v1031 : BitVec 32 := Scalar.remsi v1028 v1030
  let c0_i32_683 : BitVec 32 := 0#32
  let v1033 : BitVec 1 := Scalar.cmpi .slt v1031 c0_i32_683
  let c0_i32_684 : BitVec 32 := 0#32
  let v1034 : BitVec 1 := Scalar.cmpi .slt v1030 c0_i32_684
  let v1035 : BitVec 1 := Scalar.xori v1033 v1034
  let c0_i32_682 : BitVec 32 := 0#32
  let v1032 : BitVec 1 := Scalar.cmpi .ne v1031 c0_i32_682
  let v1036 : BitVec 1 := Scalar.andi v1035 v1032
  let v1037 : BitVec 32 := Scalar.addi v1031 v1030
  let v1038 : BitVec 32 := Scalar.select v1036 v1037 v1031
  let c16_i32_700 : BitVec 32 := 16#32
  let v1061 : BitVec 32 := Scalar.muli v1038 c16_i32_700
  let v1062 : BitVec 32 := Scalar.addi c0_i32_701 v1061
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_685 : BitVec 32 := 2#32
  let v1039 : BitVec 32 := Scalar.addi v5 c2_i32_685
  let c4_i32_686 : BitVec 32 := 4#32
  let c0_i32_687 : BitVec 32 := 0#32
  let v1040 : BitVec 1 := Scalar.cmpi .eq c4_i32_686 c0_i32_687
  let c1_i32_688 : BitVec 32 := 1#32
  let v1041 : BitVec 32 := Scalar.select v1040 c1_i32_688 c4_i32_686
  let v1042 : BitVec 32 := Scalar.remsi v1039 v1041
  let c0_i32_690 : BitVec 32 := 0#32
  let v1044 : BitVec 1 := Scalar.cmpi .slt v1042 c0_i32_690
  let c0_i32_691 : BitVec 32 := 0#32
  let v1045 : BitVec 1 := Scalar.cmpi .slt v1041 c0_i32_691
  let v1046 : BitVec 1 := Scalar.xori v1044 v1045
  let c0_i32_689 : BitVec 32 := 0#32
  let v1043 : BitVec 1 := Scalar.cmpi .ne v1042 c0_i32_689
  let v1047 : BitVec 1 := Scalar.andi v1046 v1043
  let v1048 : BitVec 32 := Scalar.addi v1042 v1041
  let v1049 : BitVec 32 := Scalar.select v1047 v1048 v1042
  let c4_i32_702 : BitVec 32 := 4#32
  let v1063 : BitVec 32 := Scalar.muli v1049 c4_i32_702
  let v1064 : BitVec 32 := Scalar.addi v1062 v1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_692 : BitVec 32 := 3#32
  let v1050 : BitVec 32 := Scalar.addi v8 c3_i32_692
  let c4_i32_693 : BitVec 32 := 4#32
  let c0_i32_694 : BitVec 32 := 0#32
  let v1051 : BitVec 1 := Scalar.cmpi .eq c4_i32_693 c0_i32_694
  let c1_i32_695 : BitVec 32 := 1#32
  let v1052 : BitVec 32 := Scalar.select v1051 c1_i32_695 c4_i32_693
  let v1053 : BitVec 32 := Scalar.remsi v1050 v1052
  let c0_i32_697 : BitVec 32 := 0#32
  let v1055 : BitVec 1 := Scalar.cmpi .slt v1053 c0_i32_697
  let c0_i32_698 : BitVec 32 := 0#32
  let v1056 : BitVec 1 := Scalar.cmpi .slt v1052 c0_i32_698
  let v1057 : BitVec 1 := Scalar.xori v1055 v1056
  let c0_i32_696 : BitVec 32 := 0#32
  let v1054 : BitVec 1 := Scalar.cmpi .ne v1053 c0_i32_696
  let v1058 : BitVec 1 := Scalar.andi v1057 v1054
  let v1059 : BitVec 32 := Scalar.addi v1053 v1052
  let v1060 : BitVec 32 := Scalar.select v1058 v1059 v1053
  let c1_i32_703 : BitVec 32 := 1#32
  let v1065 : BitVec 32 := Scalar.muli v1060 c1_i32_703
  let v1066 : BitVec 32 := Scalar.addi v1064 v1065
  v1066.toNat
def k0_dev28 (d0 : Dev nD) : Nat :=
  let c0_i32_727 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_704 : BitVec 32 := 1#32
  let v1067 : BitVec 32 := Scalar.addi v2 c1_i32_704
  let c2_i32_705 : BitVec 32 := 2#32
  let c0_i32_706 : BitVec 32 := 0#32
  let v1068 : BitVec 1 := Scalar.cmpi .eq c2_i32_705 c0_i32_706
  let c1_i32_707 : BitVec 32 := 1#32
  let v1069 : BitVec 32 := Scalar.select v1068 c1_i32_707 c2_i32_705
  let v1070 : BitVec 32 := Scalar.remsi v1067 v1069
  let c0_i32_709 : BitVec 32 := 0#32
  let v1072 : BitVec 1 := Scalar.cmpi .slt v1070 c0_i32_709
  let c0_i32_710 : BitVec 32 := 0#32
  let v1073 : BitVec 1 := Scalar.cmpi .slt v1069 c0_i32_710
  let v1074 : BitVec 1 := Scalar.xori v1072 v1073
  let c0_i32_708 : BitVec 32 := 0#32
  let v1071 : BitVec 1 := Scalar.cmpi .ne v1070 c0_i32_708
  let v1075 : BitVec 1 := Scalar.andi v1074 v1071
  let v1076 : BitVec 32 := Scalar.addi v1070 v1069
  let v1077 : BitVec 32 := Scalar.select v1075 v1076 v1070
  let c16_i32_726 : BitVec 32 := 16#32
  let v1100 : BitVec 32 := Scalar.muli v1077 c16_i32_726
  let v1101 : BitVec 32 := Scalar.addi c0_i32_727 v1100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_711 : BitVec 32 := 3#32
  let v1078 : BitVec 32 := Scalar.addi v5 c3_i32_711
  let c4_i32_712 : BitVec 32 := 4#32
  let c0_i32_713 : BitVec 32 := 0#32
  let v1079 : BitVec 1 := Scalar.cmpi .eq c4_i32_712 c0_i32_713
  let c1_i32_714 : BitVec 32 := 1#32
  let v1080 : BitVec 32 := Scalar.select v1079 c1_i32_714 c4_i32_712
  let v1081 : BitVec 32 := Scalar.remsi v1078 v1080
  let c0_i32_716 : BitVec 32 := 0#32
  let v1083 : BitVec 1 := Scalar.cmpi .slt v1081 c0_i32_716
  let c0_i32_717 : BitVec 32 := 0#32
  let v1084 : BitVec 1 := Scalar.cmpi .slt v1080 c0_i32_717
  let v1085 : BitVec 1 := Scalar.xori v1083 v1084
  let c0_i32_715 : BitVec 32 := 0#32
  let v1082 : BitVec 1 := Scalar.cmpi .ne v1081 c0_i32_715
  let v1086 : BitVec 1 := Scalar.andi v1085 v1082
  let v1087 : BitVec 32 := Scalar.addi v1081 v1080
  let v1088 : BitVec 32 := Scalar.select v1086 v1087 v1081
  let c4_i32_728 : BitVec 32 := 4#32
  let v1102 : BitVec 32 := Scalar.muli v1088 c4_i32_728
  let v1103 : BitVec 32 := Scalar.addi v1101 v1102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_718 : BitVec 32 := 0#32
  let v1089 : BitVec 32 := Scalar.addi v8 c0_i32_718
  let c4_i32_719 : BitVec 32 := 4#32
  let c0_i32_720 : BitVec 32 := 0#32
  let v1090 : BitVec 1 := Scalar.cmpi .eq c4_i32_719 c0_i32_720
  let c1_i32_721 : BitVec 32 := 1#32
  let v1091 : BitVec 32 := Scalar.select v1090 c1_i32_721 c4_i32_719
  let v1092 : BitVec 32 := Scalar.remsi v1089 v1091
  let c0_i32_723 : BitVec 32 := 0#32
  let v1094 : BitVec 1 := Scalar.cmpi .slt v1092 c0_i32_723
  let c0_i32_724 : BitVec 32 := 0#32
  let v1095 : BitVec 1 := Scalar.cmpi .slt v1091 c0_i32_724
  let v1096 : BitVec 1 := Scalar.xori v1094 v1095
  let c0_i32_722 : BitVec 32 := 0#32
  let v1093 : BitVec 1 := Scalar.cmpi .ne v1092 c0_i32_722
  let v1097 : BitVec 1 := Scalar.andi v1096 v1093
  let v1098 : BitVec 32 := Scalar.addi v1092 v1091
  let v1099 : BitVec 32 := Scalar.select v1097 v1098 v1092
  let c1_i32_729 : BitVec 32 := 1#32
  let v1104 : BitVec 32 := Scalar.muli v1099 c1_i32_729
  let v1105 : BitVec 32 := Scalar.addi v1103 v1104
  v1105.toNat
def k0_dev29 (d0 : Dev nD) : Nat :=
  let c0_i32_753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_730 : BitVec 32 := 1#32
  let v1106 : BitVec 32 := Scalar.addi v2 c1_i32_730
  let c2_i32_731 : BitVec 32 := 2#32
  let c0_i32_732 : BitVec 32 := 0#32
  let v1107 : BitVec 1 := Scalar.cmpi .eq c2_i32_731 c0_i32_732
  let c1_i32_733 : BitVec 32 := 1#32
  let v1108 : BitVec 32 := Scalar.select v1107 c1_i32_733 c2_i32_731
  let v1109 : BitVec 32 := Scalar.remsi v1106 v1108
  let c0_i32_735 : BitVec 32 := 0#32
  let v1111 : BitVec 1 := Scalar.cmpi .slt v1109 c0_i32_735
  let c0_i32_736 : BitVec 32 := 0#32
  let v1112 : BitVec 1 := Scalar.cmpi .slt v1108 c0_i32_736
  let v1113 : BitVec 1 := Scalar.xori v1111 v1112
  let c0_i32_734 : BitVec 32 := 0#32
  let v1110 : BitVec 1 := Scalar.cmpi .ne v1109 c0_i32_734
  let v1114 : BitVec 1 := Scalar.andi v1113 v1110
  let v1115 : BitVec 32 := Scalar.addi v1109 v1108
  let v1116 : BitVec 32 := Scalar.select v1114 v1115 v1109
  let c16_i32_752 : BitVec 32 := 16#32
  let v1139 : BitVec 32 := Scalar.muli v1116 c16_i32_752
  let v1140 : BitVec 32 := Scalar.addi c0_i32_753 v1139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_737 : BitVec 32 := 3#32
  let v1117 : BitVec 32 := Scalar.addi v5 c3_i32_737
  let c4_i32_738 : BitVec 32 := 4#32
  let c0_i32_739 : BitVec 32 := 0#32
  let v1118 : BitVec 1 := Scalar.cmpi .eq c4_i32_738 c0_i32_739
  let c1_i32_740 : BitVec 32 := 1#32
  let v1119 : BitVec 32 := Scalar.select v1118 c1_i32_740 c4_i32_738
  let v1120 : BitVec 32 := Scalar.remsi v1117 v1119
  let c0_i32_742 : BitVec 32 := 0#32
  let v1122 : BitVec 1 := Scalar.cmpi .slt v1120 c0_i32_742
  let c0_i32_743 : BitVec 32 := 0#32
  let v1123 : BitVec 1 := Scalar.cmpi .slt v1119 c0_i32_743
  let v1124 : BitVec 1 := Scalar.xori v1122 v1123
  let c0_i32_741 : BitVec 32 := 0#32
  let v1121 : BitVec 1 := Scalar.cmpi .ne v1120 c0_i32_741
  let v1125 : BitVec 1 := Scalar.andi v1124 v1121
  let v1126 : BitVec 32 := Scalar.addi v1120 v1119
  let v1127 : BitVec 32 := Scalar.select v1125 v1126 v1120
  let c4_i32_754 : BitVec 32 := 4#32
  let v1141 : BitVec 32 := Scalar.muli v1127 c4_i32_754
  let v1142 : BitVec 32 := Scalar.addi v1140 v1141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_744 : BitVec 32 := 1#32
  let v1128 : BitVec 32 := Scalar.addi v8 c1_i32_744
  let c4_i32_745 : BitVec 32 := 4#32
  let c0_i32_746 : BitVec 32 := 0#32
  let v1129 : BitVec 1 := Scalar.cmpi .eq c4_i32_745 c0_i32_746
  let c1_i32_747 : BitVec 32 := 1#32
  let v1130 : BitVec 32 := Scalar.select v1129 c1_i32_747 c4_i32_745
  let v1131 : BitVec 32 := Scalar.remsi v1128 v1130
  let c0_i32_749 : BitVec 32 := 0#32
  let v1133 : BitVec 1 := Scalar.cmpi .slt v1131 c0_i32_749
  let c0_i32_750 : BitVec 32 := 0#32
  let v1134 : BitVec 1 := Scalar.cmpi .slt v1130 c0_i32_750
  let v1135 : BitVec 1 := Scalar.xori v1133 v1134
  let c0_i32_748 : BitVec 32 := 0#32
  let v1132 : BitVec 1 := Scalar.cmpi .ne v1131 c0_i32_748
  let v1136 : BitVec 1 := Scalar.andi v1135 v1132
  let v1137 : BitVec 32 := Scalar.addi v1131 v1130
  let v1138 : BitVec 32 := Scalar.select v1136 v1137 v1131
  let c1_i32_755 : BitVec 32 := 1#32
  let v1143 : BitVec 32 := Scalar.muli v1138 c1_i32_755
  let v1144 : BitVec 32 := Scalar.addi v1142 v1143
  v1144.toNat
def k0_dev30 (d0 : Dev nD) : Nat :=
  let c0_i32_779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_756 : BitVec 32 := 1#32
  let v1145 : BitVec 32 := Scalar.addi v2 c1_i32_756
  let c2_i32_757 : BitVec 32 := 2#32
  let c0_i32_758 : BitVec 32 := 0#32
  let v1146 : BitVec 1 := Scalar.cmpi .eq c2_i32_757 c0_i32_758
  let c1_i32_759 : BitVec 32 := 1#32
  let v1147 : BitVec 32 := Scalar.select v1146 c1_i32_759 c2_i32_757
  let v1148 : BitVec 32 := Scalar.remsi v1145 v1147
  let c0_i32_761 : BitVec 32 := 0#32
  let v1150 : BitVec 1 := Scalar.cmpi .slt v1148 c0_i32_761
  let c0_i32_762 : BitVec 32 := 0#32
  let v1151 : BitVec 1 := Scalar.cmpi .slt v1147 c0_i32_762
  let v1152 : BitVec 1 := Scalar.xori v1150 v1151
  let c0_i32_760 : BitVec 32 := 0#32
  let v1149 : BitVec 1 := Scalar.cmpi .ne v1148 c0_i32_760
  let v1153 : BitVec 1 := Scalar.andi v1152 v1149
  let v1154 : BitVec 32 := Scalar.addi v1148 v1147
  let v1155 : BitVec 32 := Scalar.select v1153 v1154 v1148
  let c16_i32_778 : BitVec 32 := 16#32
  let v1178 : BitVec 32 := Scalar.muli v1155 c16_i32_778
  let v1179 : BitVec 32 := Scalar.addi c0_i32_779 v1178
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_763 : BitVec 32 := 3#32
  let v1156 : BitVec 32 := Scalar.addi v5 c3_i32_763
  let c4_i32_764 : BitVec 32 := 4#32
  let c0_i32_765 : BitVec 32 := 0#32
  let v1157 : BitVec 1 := Scalar.cmpi .eq c4_i32_764 c0_i32_765
  let c1_i32_766 : BitVec 32 := 1#32
  let v1158 : BitVec 32 := Scalar.select v1157 c1_i32_766 c4_i32_764
  let v1159 : BitVec 32 := Scalar.remsi v1156 v1158
  let c0_i32_768 : BitVec 32 := 0#32
  let v1161 : BitVec 1 := Scalar.cmpi .slt v1159 c0_i32_768
  let c0_i32_769 : BitVec 32 := 0#32
  let v1162 : BitVec 1 := Scalar.cmpi .slt v1158 c0_i32_769
  let v1163 : BitVec 1 := Scalar.xori v1161 v1162
  let c0_i32_767 : BitVec 32 := 0#32
  let v1160 : BitVec 1 := Scalar.cmpi .ne v1159 c0_i32_767
  let v1164 : BitVec 1 := Scalar.andi v1163 v1160
  let v1165 : BitVec 32 := Scalar.addi v1159 v1158
  let v1166 : BitVec 32 := Scalar.select v1164 v1165 v1159
  let c4_i32_780 : BitVec 32 := 4#32
  let v1180 : BitVec 32 := Scalar.muli v1166 c4_i32_780
  let v1181 : BitVec 32 := Scalar.addi v1179 v1180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_770 : BitVec 32 := 2#32
  let v1167 : BitVec 32 := Scalar.addi v8 c2_i32_770
  let c4_i32_771 : BitVec 32 := 4#32
  let c0_i32_772 : BitVec 32 := 0#32
  let v1168 : BitVec 1 := Scalar.cmpi .eq c4_i32_771 c0_i32_772
  let c1_i32_773 : BitVec 32 := 1#32
  let v1169 : BitVec 32 := Scalar.select v1168 c1_i32_773 c4_i32_771
  let v1170 : BitVec 32 := Scalar.remsi v1167 v1169
  let c0_i32_775 : BitVec 32 := 0#32
  let v1172 : BitVec 1 := Scalar.cmpi .slt v1170 c0_i32_775
  let c0_i32_776 : BitVec 32 := 0#32
  let v1173 : BitVec 1 := Scalar.cmpi .slt v1169 c0_i32_776
  let v1174 : BitVec 1 := Scalar.xori v1172 v1173
  let c0_i32_774 : BitVec 32 := 0#32
  let v1171 : BitVec 1 := Scalar.cmpi .ne v1170 c0_i32_774
  let v1175 : BitVec 1 := Scalar.andi v1174 v1171
  let v1176 : BitVec 32 := Scalar.addi v1170 v1169
  let v1177 : BitVec 32 := Scalar.select v1175 v1176 v1170
  let c1_i32_781 : BitVec 32 := 1#32
  let v1182 : BitVec 32 := Scalar.muli v1177 c1_i32_781
  let v1183 : BitVec 32 := Scalar.addi v1181 v1182
  v1183.toNat
def k0_dev31 (d0 : Dev nD) : Nat :=
  let c0_i32_805 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_782 : BitVec 32 := 1#32
  let v1184 : BitVec 32 := Scalar.addi v2 c1_i32_782
  let c2_i32_783 : BitVec 32 := 2#32
  let c0_i32_784 : BitVec 32 := 0#32
  let v1185 : BitVec 1 := Scalar.cmpi .eq c2_i32_783 c0_i32_784
  let c1_i32_785 : BitVec 32 := 1#32
  let v1186 : BitVec 32 := Scalar.select v1185 c1_i32_785 c2_i32_783
  let v1187 : BitVec 32 := Scalar.remsi v1184 v1186
  let c0_i32_787 : BitVec 32 := 0#32
  let v1189 : BitVec 1 := Scalar.cmpi .slt v1187 c0_i32_787
  let c0_i32_788 : BitVec 32 := 0#32
  let v1190 : BitVec 1 := Scalar.cmpi .slt v1186 c0_i32_788
  let v1191 : BitVec 1 := Scalar.xori v1189 v1190
  let c0_i32_786 : BitVec 32 := 0#32
  let v1188 : BitVec 1 := Scalar.cmpi .ne v1187 c0_i32_786
  let v1192 : BitVec 1 := Scalar.andi v1191 v1188
  let v1193 : BitVec 32 := Scalar.addi v1187 v1186
  let v1194 : BitVec 32 := Scalar.select v1192 v1193 v1187
  let c16_i32_804 : BitVec 32 := 16#32
  let v1217 : BitVec 32 := Scalar.muli v1194 c16_i32_804
  let v1218 : BitVec 32 := Scalar.addi c0_i32_805 v1217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_789 : BitVec 32 := 3#32
  let v1195 : BitVec 32 := Scalar.addi v5 c3_i32_789
  let c4_i32_790 : BitVec 32 := 4#32
  let c0_i32_791 : BitVec 32 := 0#32
  let v1196 : BitVec 1 := Scalar.cmpi .eq c4_i32_790 c0_i32_791
  let c1_i32_792 : BitVec 32 := 1#32
  let v1197 : BitVec 32 := Scalar.select v1196 c1_i32_792 c4_i32_790
  let v1198 : BitVec 32 := Scalar.remsi v1195 v1197
  let c0_i32_794 : BitVec 32 := 0#32
  let v1200 : BitVec 1 := Scalar.cmpi .slt v1198 c0_i32_794
  let c0_i32_795 : BitVec 32 := 0#32
  let v1201 : BitVec 1 := Scalar.cmpi .slt v1197 c0_i32_795
  let v1202 : BitVec 1 := Scalar.xori v1200 v1201
  let c0_i32_793 : BitVec 32 := 0#32
  let v1199 : BitVec 1 := Scalar.cmpi .ne v1198 c0_i32_793
  let v1203 : BitVec 1 := Scalar.andi v1202 v1199
  let v1204 : BitVec 32 := Scalar.addi v1198 v1197
  let v1205 : BitVec 32 := Scalar.select v1203 v1204 v1198
  let c4_i32_806 : BitVec 32 := 4#32
  let v1219 : BitVec 32 := Scalar.muli v1205 c4_i32_806
  let v1220 : BitVec 32 := Scalar.addi v1218 v1219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_796 : BitVec 32 := 3#32
  let v1206 : BitVec 32 := Scalar.addi v8 c3_i32_796
  let c4_i32_797 : BitVec 32 := 4#32
  let c0_i32_798 : BitVec 32 := 0#32
  let v1207 : BitVec 1 := Scalar.cmpi .eq c4_i32_797 c0_i32_798
  let c1_i32_799 : BitVec 32 := 1#32
  let v1208 : BitVec 32 := Scalar.select v1207 c1_i32_799 c4_i32_797
  let v1209 : BitVec 32 := Scalar.remsi v1206 v1208
  let c0_i32_801 : BitVec 32 := 0#32
  let v1211 : BitVec 1 := Scalar.cmpi .slt v1209 c0_i32_801
  let c0_i32_802 : BitVec 32 := 0#32
  let v1212 : BitVec 1 := Scalar.cmpi .slt v1208 c0_i32_802
  let v1213 : BitVec 1 := Scalar.xori v1211 v1212
  let c0_i32_800 : BitVec 32 := 0#32
  let v1210 : BitVec 1 := Scalar.cmpi .ne v1209 c0_i32_800
  let v1214 : BitVec 1 := Scalar.andi v1213 v1210
  let v1215 : BitVec 32 := Scalar.addi v1209 v1208
  let v1216 : BitVec 32 := Scalar.select v1214 v1215 v1209
  let c1_i32_807 : BitVec 32 := 1#32
  let v1221 : BitVec 32 := Scalar.muli v1216 c1_i32_807
  let v1222 : BitVec 32 := Scalar.addi v1220 v1221
  v1222.toNat
def k0_dev32 (d0 : Dev nD) : Nat :=
  let c0_i32_845 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_820 : BitVec 32 := 0#32
  let v1250 : BitVec 32 := Scalar.addi v2 c0_i32_820
  let c2_i32_821 : BitVec 32 := 2#32
  let c0_i32_822 : BitVec 32 := 0#32
  let v1251 : BitVec 1 := Scalar.cmpi .eq c2_i32_821 c0_i32_822
  let c1_i32_823 : BitVec 32 := 1#32
  let v1252 : BitVec 32 := Scalar.select v1251 c1_i32_823 c2_i32_821
  let v1253 : BitVec 32 := Scalar.remsi v1250 v1252
  let c0_i32_825 : BitVec 32 := 0#32
  let v1255 : BitVec 1 := Scalar.cmpi .slt v1253 c0_i32_825
  let c0_i32_826 : BitVec 32 := 0#32
  let v1256 : BitVec 1 := Scalar.cmpi .slt v1252 c0_i32_826
  let v1257 : BitVec 1 := Scalar.xori v1255 v1256
  let c0_i32_824 : BitVec 32 := 0#32
  let v1254 : BitVec 1 := Scalar.cmpi .ne v1253 c0_i32_824
  let v1258 : BitVec 1 := Scalar.andi v1257 v1254
  let v1259 : BitVec 32 := Scalar.addi v1253 v1252
  let v1260 : BitVec 32 := Scalar.select v1258 v1259 v1253
  let c16_i32_844 : BitVec 32 := 16#32
  let v1283 : BitVec 32 := Scalar.muli v1260 c16_i32_844
  let v1284 : BitVec 32 := Scalar.addi c0_i32_845 v1283
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_827 : BitVec 32 := 0#32
  let v1261 : BitVec 32 := Scalar.addi v5 c0_i32_827
  let c4_i32_828 : BitVec 32 := 4#32
  let c0_i32_829 : BitVec 32 := 0#32
  let v1262 : BitVec 1 := Scalar.cmpi .eq c4_i32_828 c0_i32_829
  let c1_i32_830 : BitVec 32 := 1#32
  let v1263 : BitVec 32 := Scalar.select v1262 c1_i32_830 c4_i32_828
  let v1264 : BitVec 32 := Scalar.remsi v1261 v1263
  let c0_i32_832 : BitVec 32 := 0#32
  let v1266 : BitVec 1 := Scalar.cmpi .slt v1264 c0_i32_832
  let c0_i32_833 : BitVec 32 := 0#32
  let v1267 : BitVec 1 := Scalar.cmpi .slt v1263 c0_i32_833
  let v1268 : BitVec 1 := Scalar.xori v1266 v1267
  let c0_i32_831 : BitVec 32 := 0#32
  let v1265 : BitVec 1 := Scalar.cmpi .ne v1264 c0_i32_831
  let v1269 : BitVec 1 := Scalar.andi v1268 v1265
  let v1270 : BitVec 32 := Scalar.addi v1264 v1263
  let v1271 : BitVec 32 := Scalar.select v1269 v1270 v1264
  let c4_i32_846 : BitVec 32 := 4#32
  let v1285 : BitVec 32 := Scalar.muli v1271 c4_i32_846
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v1272 : BitVec 32 := Scalar.addi v8 c1_i32_834
  let c4_i32_835 : BitVec 32 := 4#32
  let c0_i32_836 : BitVec 32 := 0#32
  let v1273 : BitVec 1 := Scalar.cmpi .eq c4_i32_835 c0_i32_836
  let c1_i32_837 : BitVec 32 := 1#32
  let v1274 : BitVec 32 := Scalar.select v1273 c1_i32_837 c4_i32_835
  let v1275 : BitVec 32 := Scalar.remsi v1272 v1274
  let c0_i32_839 : BitVec 32 := 0#32
  let v1277 : BitVec 1 := Scalar.cmpi .slt v1275 c0_i32_839
  let c0_i32_840 : BitVec 32 := 0#32
  let v1278 : BitVec 1 := Scalar.cmpi .slt v1274 c0_i32_840
  let v1279 : BitVec 1 := Scalar.xori v1277 v1278
  let c0_i32_838 : BitVec 32 := 0#32
  let v1276 : BitVec 1 := Scalar.cmpi .ne v1275 c0_i32_838
  let v1280 : BitVec 1 := Scalar.andi v1279 v1276
  let v1281 : BitVec 32 := Scalar.addi v1275 v1274
  let v1282 : BitVec 32 := Scalar.select v1280 v1281 v1275
  let c1_i32_847 : BitVec 32 := 1#32
  let v1287 : BitVec 32 := Scalar.muli v1282 c1_i32_847
  let v1288 : BitVec 32 := Scalar.addi v1286 v1287
  v1288.toNat
def k0_dev33 (d0 : Dev nD) : Nat :=
  let c0_i32_875 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_850 : BitVec 32 := 0#32
  let v1295 : BitVec 32 := Scalar.addi v2 c0_i32_850
  let c2_i32_851 : BitVec 32 := 2#32
  let c0_i32_852 : BitVec 32 := 0#32
  let v1296 : BitVec 1 := Scalar.cmpi .eq c2_i32_851 c0_i32_852
  let c1_i32_853 : BitVec 32 := 1#32
  let v1297 : BitVec 32 := Scalar.select v1296 c1_i32_853 c2_i32_851
  let v1298 : BitVec 32 := Scalar.remsi v1295 v1297
  let c0_i32_855 : BitVec 32 := 0#32
  let v1300 : BitVec 1 := Scalar.cmpi .slt v1298 c0_i32_855
  let c0_i32_856 : BitVec 32 := 0#32
  let v1301 : BitVec 1 := Scalar.cmpi .slt v1297 c0_i32_856
  let v1302 : BitVec 1 := Scalar.xori v1300 v1301
  let c0_i32_854 : BitVec 32 := 0#32
  let v1299 : BitVec 1 := Scalar.cmpi .ne v1298 c0_i32_854
  let v1303 : BitVec 1 := Scalar.andi v1302 v1299
  let v1304 : BitVec 32 := Scalar.addi v1298 v1297
  let v1305 : BitVec 32 := Scalar.select v1303 v1304 v1298
  let c16_i32_874 : BitVec 32 := 16#32
  let v1328 : BitVec 32 := Scalar.muli v1305 c16_i32_874
  let v1329 : BitVec 32 := Scalar.addi c0_i32_875 v1328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_857 : BitVec 32 := 0#32
  let v1306 : BitVec 32 := Scalar.addi v5 c0_i32_857
  let c4_i32_858 : BitVec 32 := 4#32
  let c0_i32_859 : BitVec 32 := 0#32
  let v1307 : BitVec 1 := Scalar.cmpi .eq c4_i32_858 c0_i32_859
  let c1_i32_860 : BitVec 32 := 1#32
  let v1308 : BitVec 32 := Scalar.select v1307 c1_i32_860 c4_i32_858
  let v1309 : BitVec 32 := Scalar.remsi v1306 v1308
  let c0_i32_862 : BitVec 32 := 0#32
  let v1311 : BitVec 1 := Scalar.cmpi .slt v1309 c0_i32_862
  let c0_i32_863 : BitVec 32 := 0#32
  let v1312 : BitVec 1 := Scalar.cmpi .slt v1308 c0_i32_863
  let v1313 : BitVec 1 := Scalar.xori v1311 v1312
  let c0_i32_861 : BitVec 32 := 0#32
  let v1310 : BitVec 1 := Scalar.cmpi .ne v1309 c0_i32_861
  let v1314 : BitVec 1 := Scalar.andi v1313 v1310
  let v1315 : BitVec 32 := Scalar.addi v1309 v1308
  let v1316 : BitVec 32 := Scalar.select v1314 v1315 v1309
  let c4_i32_876 : BitVec 32 := 4#32
  let v1330 : BitVec 32 := Scalar.muli v1316 c4_i32_876
  let v1331 : BitVec 32 := Scalar.addi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_864 : BitVec 32 := 2#32
  let v1317 : BitVec 32 := Scalar.addi v8 c2_i32_864
  let c4_i32_865 : BitVec 32 := 4#32
  let c0_i32_866 : BitVec 32 := 0#32
  let v1318 : BitVec 1 := Scalar.cmpi .eq c4_i32_865 c0_i32_866
  let c1_i32_867 : BitVec 32 := 1#32
  let v1319 : BitVec 32 := Scalar.select v1318 c1_i32_867 c4_i32_865
  let v1320 : BitVec 32 := Scalar.remsi v1317 v1319
  let c0_i32_869 : BitVec 32 := 0#32
  let v1322 : BitVec 1 := Scalar.cmpi .slt v1320 c0_i32_869
  let c0_i32_870 : BitVec 32 := 0#32
  let v1323 : BitVec 1 := Scalar.cmpi .slt v1319 c0_i32_870
  let v1324 : BitVec 1 := Scalar.xori v1322 v1323
  let c0_i32_868 : BitVec 32 := 0#32
  let v1321 : BitVec 1 := Scalar.cmpi .ne v1320 c0_i32_868
  let v1325 : BitVec 1 := Scalar.andi v1324 v1321
  let v1326 : BitVec 32 := Scalar.addi v1320 v1319
  let v1327 : BitVec 32 := Scalar.select v1325 v1326 v1320
  let c1_i32_877 : BitVec 32 := 1#32
  let v1332 : BitVec 32 := Scalar.muli v1327 c1_i32_877
  let v1333 : BitVec 32 := Scalar.addi v1331 v1332
  v1333.toNat
def k0_dev34 (d0 : Dev nD) : Nat :=
  let c0_i32_905 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_880 : BitVec 32 := 0#32
  let v1340 : BitVec 32 := Scalar.addi v2 c0_i32_880
  let c2_i32_881 : BitVec 32 := 2#32
  let c0_i32_882 : BitVec 32 := 0#32
  let v1341 : BitVec 1 := Scalar.cmpi .eq c2_i32_881 c0_i32_882
  let c1_i32_883 : BitVec 32 := 1#32
  let v1342 : BitVec 32 := Scalar.select v1341 c1_i32_883 c2_i32_881
  let v1343 : BitVec 32 := Scalar.remsi v1340 v1342
  let c0_i32_885 : BitVec 32 := 0#32
  let v1345 : BitVec 1 := Scalar.cmpi .slt v1343 c0_i32_885
  let c0_i32_886 : BitVec 32 := 0#32
  let v1346 : BitVec 1 := Scalar.cmpi .slt v1342 c0_i32_886
  let v1347 : BitVec 1 := Scalar.xori v1345 v1346
  let c0_i32_884 : BitVec 32 := 0#32
  let v1344 : BitVec 1 := Scalar.cmpi .ne v1343 c0_i32_884
  let v1348 : BitVec 1 := Scalar.andi v1347 v1344
  let v1349 : BitVec 32 := Scalar.addi v1343 v1342
  let v1350 : BitVec 32 := Scalar.select v1348 v1349 v1343
  let c16_i32_904 : BitVec 32 := 16#32
  let v1373 : BitVec 32 := Scalar.muli v1350 c16_i32_904
  let v1374 : BitVec 32 := Scalar.addi c0_i32_905 v1373
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_887 : BitVec 32 := 0#32
  let v1351 : BitVec 32 := Scalar.addi v5 c0_i32_887
  let c4_i32_888 : BitVec 32 := 4#32
  let c0_i32_889 : BitVec 32 := 0#32
  let v1352 : BitVec 1 := Scalar.cmpi .eq c4_i32_888 c0_i32_889
  let c1_i32_890 : BitVec 32 := 1#32
  let v1353 : BitVec 32 := Scalar.select v1352 c1_i32_890 c4_i32_888
  let v1354 : BitVec 32 := Scalar.remsi v1351 v1353
  let c0_i32_892 : BitVec 32 := 0#32
  let v1356 : BitVec 1 := Scalar.cmpi .slt v1354 c0_i32_892
  let c0_i32_893 : BitVec 32 := 0#32
  let v1357 : BitVec 1 := Scalar.cmpi .slt v1353 c0_i32_893
  let v1358 : BitVec 1 := Scalar.xori v1356 v1357
  let c0_i32_891 : BitVec 32 := 0#32
  let v1355 : BitVec 1 := Scalar.cmpi .ne v1354 c0_i32_891
  let v1359 : BitVec 1 := Scalar.andi v1358 v1355
  let v1360 : BitVec 32 := Scalar.addi v1354 v1353
  let v1361 : BitVec 32 := Scalar.select v1359 v1360 v1354
  let c4_i32_906 : BitVec 32 := 4#32
  let v1375 : BitVec 32 := Scalar.muli v1361 c4_i32_906
  let v1376 : BitVec 32 := Scalar.addi v1374 v1375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_894 : BitVec 32 := 3#32
  let v1362 : BitVec 32 := Scalar.addi v8 c3_i32_894
  let c4_i32_895 : BitVec 32 := 4#32
  let c0_i32_896 : BitVec 32 := 0#32
  let v1363 : BitVec 1 := Scalar.cmpi .eq c4_i32_895 c0_i32_896
  let c1_i32_897 : BitVec 32 := 1#32
  let v1364 : BitVec 32 := Scalar.select v1363 c1_i32_897 c4_i32_895
  let v1365 : BitVec 32 := Scalar.remsi v1362 v1364
  let c0_i32_899 : BitVec 32 := 0#32
  let v1367 : BitVec 1 := Scalar.cmpi .slt v1365 c0_i32_899
  let c0_i32_900 : BitVec 32 := 0#32
  let v1368 : BitVec 1 := Scalar.cmpi .slt v1364 c0_i32_900
  let v1369 : BitVec 1 := Scalar.xori v1367 v1368
  let c0_i32_898 : BitVec 32 := 0#32
  let v1366 : BitVec 1 := Scalar.cmpi .ne v1365 c0_i32_898
  let v1370 : BitVec 1 := Scalar.andi v1369 v1366
  let v1371 : BitVec 32 := Scalar.addi v1365 v1364
  let v1372 : BitVec 32 := Scalar.select v1370 v1371 v1365
  let c1_i32_907 : BitVec 32 := 1#32
  let v1377 : BitVec 32 := Scalar.muli v1372 c1_i32_907
  let v1378 : BitVec 32 := Scalar.addi v1376 v1377
  v1378.toNat
def k0_dev35 (d0 : Dev nD) : Nat :=
  let c0_i32_935 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_910 : BitVec 32 := 0#32
  let v1385 : BitVec 32 := Scalar.addi v2 c0_i32_910
  let c2_i32_911 : BitVec 32 := 2#32
  let c0_i32_912 : BitVec 32 := 0#32
  let v1386 : BitVec 1 := Scalar.cmpi .eq c2_i32_911 c0_i32_912
  let c1_i32_913 : BitVec 32 := 1#32
  let v1387 : BitVec 32 := Scalar.select v1386 c1_i32_913 c2_i32_911
  let v1388 : BitVec 32 := Scalar.remsi v1385 v1387
  let c0_i32_915 : BitVec 32 := 0#32
  let v1390 : BitVec 1 := Scalar.cmpi .slt v1388 c0_i32_915
  let c0_i32_916 : BitVec 32 := 0#32
  let v1391 : BitVec 1 := Scalar.cmpi .slt v1387 c0_i32_916
  let v1392 : BitVec 1 := Scalar.xori v1390 v1391
  let c0_i32_914 : BitVec 32 := 0#32
  let v1389 : BitVec 1 := Scalar.cmpi .ne v1388 c0_i32_914
  let v1393 : BitVec 1 := Scalar.andi v1392 v1389
  let v1394 : BitVec 32 := Scalar.addi v1388 v1387
  let v1395 : BitVec 32 := Scalar.select v1393 v1394 v1388
  let c16_i32_934 : BitVec 32 := 16#32
  let v1418 : BitVec 32 := Scalar.muli v1395 c16_i32_934
  let v1419 : BitVec 32 := Scalar.addi c0_i32_935 v1418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_917 : BitVec 32 := 1#32
  let v1396 : BitVec 32 := Scalar.addi v5 c1_i32_917
  let c4_i32_918 : BitVec 32 := 4#32
  let c0_i32_919 : BitVec 32 := 0#32
  let v1397 : BitVec 1 := Scalar.cmpi .eq c4_i32_918 c0_i32_919
  let c1_i32_920 : BitVec 32 := 1#32
  let v1398 : BitVec 32 := Scalar.select v1397 c1_i32_920 c4_i32_918
  let v1399 : BitVec 32 := Scalar.remsi v1396 v1398
  let c0_i32_922 : BitVec 32 := 0#32
  let v1401 : BitVec 1 := Scalar.cmpi .slt v1399 c0_i32_922
  let c0_i32_923 : BitVec 32 := 0#32
  let v1402 : BitVec 1 := Scalar.cmpi .slt v1398 c0_i32_923
  let v1403 : BitVec 1 := Scalar.xori v1401 v1402
  let c0_i32_921 : BitVec 32 := 0#32
  let v1400 : BitVec 1 := Scalar.cmpi .ne v1399 c0_i32_921
  let v1404 : BitVec 1 := Scalar.andi v1403 v1400
  let v1405 : BitVec 32 := Scalar.addi v1399 v1398
  let v1406 : BitVec 32 := Scalar.select v1404 v1405 v1399
  let c4_i32_936 : BitVec 32 := 4#32
  let v1420 : BitVec 32 := Scalar.muli v1406 c4_i32_936
  let v1421 : BitVec 32 := Scalar.addi v1419 v1420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_924 : BitVec 32 := 0#32
  let v1407 : BitVec 32 := Scalar.addi v8 c0_i32_924
  let c4_i32_925 : BitVec 32 := 4#32
  let c0_i32_926 : BitVec 32 := 0#32
  let v1408 : BitVec 1 := Scalar.cmpi .eq c4_i32_925 c0_i32_926
  let c1_i32_927 : BitVec 32 := 1#32
  let v1409 : BitVec 32 := Scalar.select v1408 c1_i32_927 c4_i32_925
  let v1410 : BitVec 32 := Scalar.remsi v1407 v1409
  let c0_i32_929 : BitVec 32 := 0#32
  let v1412 : BitVec 1 := Scalar.cmpi .slt v1410 c0_i32_929
  let c0_i32_930 : BitVec 32 := 0#32
  let v1413 : BitVec 1 := Scalar.cmpi .slt v1409 c0_i32_930
  let v1414 : BitVec 1 := Scalar.xori v1412 v1413
  let c0_i32_928 : BitVec 32 := 0#32
  let v1411 : BitVec 1 := Scalar.cmpi .ne v1410 c0_i32_928
  let v1415 : BitVec 1 := Scalar.andi v1414 v1411
  let v1416 : BitVec 32 := Scalar.addi v1410 v1409
  let v1417 : BitVec 32 := Scalar.select v1415 v1416 v1410
  let c1_i32_937 : BitVec 32 := 1#32
  let v1422 : BitVec 32 := Scalar.muli v1417 c1_i32_937
  let v1423 : BitVec 32 := Scalar.addi v1421 v1422
  v1423.toNat
def k0_dev36 (d0 : Dev nD) : Nat :=
  let c0_i32_965 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_940 : BitVec 32 := 0#32
  let v1430 : BitVec 32 := Scalar.addi v2 c0_i32_940
  let c2_i32_941 : BitVec 32 := 2#32
  let c0_i32_942 : BitVec 32 := 0#32
  let v1431 : BitVec 1 := Scalar.cmpi .eq c2_i32_941 c0_i32_942
  let c1_i32_943 : BitVec 32 := 1#32
  let v1432 : BitVec 32 := Scalar.select v1431 c1_i32_943 c2_i32_941
  let v1433 : BitVec 32 := Scalar.remsi v1430 v1432
  let c0_i32_945 : BitVec 32 := 0#32
  let v1435 : BitVec 1 := Scalar.cmpi .slt v1433 c0_i32_945
  let c0_i32_946 : BitVec 32 := 0#32
  let v1436 : BitVec 1 := Scalar.cmpi .slt v1432 c0_i32_946
  let v1437 : BitVec 1 := Scalar.xori v1435 v1436
  let c0_i32_944 : BitVec 32 := 0#32
  let v1434 : BitVec 1 := Scalar.cmpi .ne v1433 c0_i32_944
  let v1438 : BitVec 1 := Scalar.andi v1437 v1434
  let v1439 : BitVec 32 := Scalar.addi v1433 v1432
  let v1440 : BitVec 32 := Scalar.select v1438 v1439 v1433
  let c16_i32_964 : BitVec 32 := 16#32
  let v1463 : BitVec 32 := Scalar.muli v1440 c16_i32_964
  let v1464 : BitVec 32 := Scalar.addi c0_i32_965 v1463
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_947 : BitVec 32 := 1#32
  let v1441 : BitVec 32 := Scalar.addi v5 c1_i32_947
  let c4_i32_948 : BitVec 32 := 4#32
  let c0_i32_949 : BitVec 32 := 0#32
  let v1442 : BitVec 1 := Scalar.cmpi .eq c4_i32_948 c0_i32_949
  let c1_i32_950 : BitVec 32 := 1#32
  let v1443 : BitVec 32 := Scalar.select v1442 c1_i32_950 c4_i32_948
  let v1444 : BitVec 32 := Scalar.remsi v1441 v1443
  let c0_i32_952 : BitVec 32 := 0#32
  let v1446 : BitVec 1 := Scalar.cmpi .slt v1444 c0_i32_952
  let c0_i32_953 : BitVec 32 := 0#32
  let v1447 : BitVec 1 := Scalar.cmpi .slt v1443 c0_i32_953
  let v1448 : BitVec 1 := Scalar.xori v1446 v1447
  let c0_i32_951 : BitVec 32 := 0#32
  let v1445 : BitVec 1 := Scalar.cmpi .ne v1444 c0_i32_951
  let v1449 : BitVec 1 := Scalar.andi v1448 v1445
  let v1450 : BitVec 32 := Scalar.addi v1444 v1443
  let v1451 : BitVec 32 := Scalar.select v1449 v1450 v1444
  let c4_i32_966 : BitVec 32 := 4#32
  let v1465 : BitVec 32 := Scalar.muli v1451 c4_i32_966
  let v1466 : BitVec 32 := Scalar.addi v1464 v1465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_954 : BitVec 32 := 1#32
  let v1452 : BitVec 32 := Scalar.addi v8 c1_i32_954
  let c4_i32_955 : BitVec 32 := 4#32
  let c0_i32_956 : BitVec 32 := 0#32
  let v1453 : BitVec 1 := Scalar.cmpi .eq c4_i32_955 c0_i32_956
  let c1_i32_957 : BitVec 32 := 1#32
  let v1454 : BitVec 32 := Scalar.select v1453 c1_i32_957 c4_i32_955
  let v1455 : BitVec 32 := Scalar.remsi v1452 v1454
  let c0_i32_959 : BitVec 32 := 0#32
  let v1457 : BitVec 1 := Scalar.cmpi .slt v1455 c0_i32_959
  let c0_i32_960 : BitVec 32 := 0#32
  let v1458 : BitVec 1 := Scalar.cmpi .slt v1454 c0_i32_960
  let v1459 : BitVec 1 := Scalar.xori v1457 v1458
  let c0_i32_958 : BitVec 32 := 0#32
  let v1456 : BitVec 1 := Scalar.cmpi .ne v1455 c0_i32_958
  let v1460 : BitVec 1 := Scalar.andi v1459 v1456
  let v1461 : BitVec 32 := Scalar.addi v1455 v1454
  let v1462 : BitVec 32 := Scalar.select v1460 v1461 v1455
  let c1_i32_967 : BitVec 32 := 1#32
  let v1467 : BitVec 32 := Scalar.muli v1462 c1_i32_967
  let v1468 : BitVec 32 := Scalar.addi v1466 v1467
  v1468.toNat
def k0_dev37 (d0 : Dev nD) : Nat :=
  let c0_i32_994 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_970 : BitVec 32 := 0#32
  let v1475 : BitVec 32 := Scalar.addi v2 c0_i32_970
  let c2_i32_971 : BitVec 32 := 2#32
  let c0_i32_972 : BitVec 32 := 0#32
  let v1476 : BitVec 1 := Scalar.cmpi .eq c2_i32_971 c0_i32_972
  let c1_i32_973 : BitVec 32 := 1#32
  let v1477 : BitVec 32 := Scalar.select v1476 c1_i32_973 c2_i32_971
  let v1478 : BitVec 32 := Scalar.remsi v1475 v1477
  let c0_i32_975 : BitVec 32 := 0#32
  let v1480 : BitVec 1 := Scalar.cmpi .slt v1478 c0_i32_975
  let c0_i32_976 : BitVec 32 := 0#32
  let v1481 : BitVec 1 := Scalar.cmpi .slt v1477 c0_i32_976
  let v1482 : BitVec 1 := Scalar.xori v1480 v1481
  let c0_i32_974 : BitVec 32 := 0#32
  let v1479 : BitVec 1 := Scalar.cmpi .ne v1478 c0_i32_974
  let v1483 : BitVec 1 := Scalar.andi v1482 v1479
  let v1484 : BitVec 32 := Scalar.addi v1478 v1477
  let v1485 : BitVec 32 := Scalar.select v1483 v1484 v1478
  let c16_i32_993 : BitVec 32 := 16#32
  let v1508 : BitVec 32 := Scalar.muli v1485 c16_i32_993
  let v1509 : BitVec 32 := Scalar.addi c0_i32_994 v1508
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_977 : BitVec 32 := 1#32
  let v1486 : BitVec 32 := Scalar.addi v5 c1_i32_977
  let c4_i32_978 : BitVec 32 := 4#32
  let c0_i32_979 : BitVec 32 := 0#32
  let v1487 : BitVec 1 := Scalar.cmpi .eq c4_i32_978 c0_i32_979
  let c1_i32_980 : BitVec 32 := 1#32
  let v1488 : BitVec 32 := Scalar.select v1487 c1_i32_980 c4_i32_978
  let v1489 : BitVec 32 := Scalar.remsi v1486 v1488
  let c0_i32_982 : BitVec 32 := 0#32
  let v1491 : BitVec 1 := Scalar.cmpi .slt v1489 c0_i32_982
  let c0_i32_983 : BitVec 32 := 0#32
  let v1492 : BitVec 1 := Scalar.cmpi .slt v1488 c0_i32_983
  let v1493 : BitVec 1 := Scalar.xori v1491 v1492
  let c0_i32_981 : BitVec 32 := 0#32
  let v1490 : BitVec 1 := Scalar.cmpi .ne v1489 c0_i32_981
  let v1494 : BitVec 1 := Scalar.andi v1493 v1490
  let v1495 : BitVec 32 := Scalar.addi v1489 v1488
  let v1496 : BitVec 32 := Scalar.select v1494 v1495 v1489
  let c4_i32_995 : BitVec 32 := 4#32
  let v1510 : BitVec 32 := Scalar.muli v1496 c4_i32_995
  let v1511 : BitVec 32 := Scalar.addi v1509 v1510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_984 : BitVec 32 := 2#32
  let v1497 : BitVec 32 := Scalar.addi v8 c2_i32_984
  let c4_i32_985 : BitVec 32 := 4#32
  let c0_i32_986 : BitVec 32 := 0#32
  let v1498 : BitVec 1 := Scalar.cmpi .eq c4_i32_985 c0_i32_986
  let c1_i32_987 : BitVec 32 := 1#32
  let v1499 : BitVec 32 := Scalar.select v1498 c1_i32_987 c4_i32_985
  let v1500 : BitVec 32 := Scalar.remsi v1497 v1499
  let c0_i32_989 : BitVec 32 := 0#32
  let v1502 : BitVec 1 := Scalar.cmpi .slt v1500 c0_i32_989
  let c0_i32_990 : BitVec 32 := 0#32
  let v1503 : BitVec 1 := Scalar.cmpi .slt v1499 c0_i32_990
  let v1504 : BitVec 1 := Scalar.xori v1502 v1503
  let c0_i32_988 : BitVec 32 := 0#32
  let v1501 : BitVec 1 := Scalar.cmpi .ne v1500 c0_i32_988
  let v1505 : BitVec 1 := Scalar.andi v1504 v1501
  let v1506 : BitVec 32 := Scalar.addi v1500 v1499
  let v1507 : BitVec 32 := Scalar.select v1505 v1506 v1500
  let c1_i32_996 : BitVec 32 := 1#32
  let v1512 : BitVec 32 := Scalar.muli v1507 c1_i32_996
  let v1513 : BitVec 32 := Scalar.addi v1511 v1512
  v1513.toNat
def k0_dev38 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_999 : BitVec 32 := 0#32
  let v1520 : BitVec 32 := Scalar.addi v2 c0_i32_999
  let c2_i32_1000 : BitVec 32 := 2#32
  let c0_i32_1001 : BitVec 32 := 0#32
  let v1521 : BitVec 1 := Scalar.cmpi .eq c2_i32_1000 c0_i32_1001
  let c1_i32_1002 : BitVec 32 := 1#32
  let v1522 : BitVec 32 := Scalar.select v1521 c1_i32_1002 c2_i32_1000
  let v1523 : BitVec 32 := Scalar.remsi v1520 v1522
  let c0_i32_1004 : BitVec 32 := 0#32
  let v1525 : BitVec 1 := Scalar.cmpi .slt v1523 c0_i32_1004
  let c0_i32_1005 : BitVec 32 := 0#32
  let v1526 : BitVec 1 := Scalar.cmpi .slt v1522 c0_i32_1005
  let v1527 : BitVec 1 := Scalar.xori v1525 v1526
  let c0_i32_1003 : BitVec 32 := 0#32
  let v1524 : BitVec 1 := Scalar.cmpi .ne v1523 c0_i32_1003
  let v1528 : BitVec 1 := Scalar.andi v1527 v1524
  let v1529 : BitVec 32 := Scalar.addi v1523 v1522
  let v1530 : BitVec 32 := Scalar.select v1528 v1529 v1523
  let c16_i32_1022 : BitVec 32 := 16#32
  let v1553 : BitVec 32 := Scalar.muli v1530 c16_i32_1022
  let v1554 : BitVec 32 := Scalar.addi c0_i32_1023 v1553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1006 : BitVec 32 := 1#32
  let v1531 : BitVec 32 := Scalar.addi v5 c1_i32_1006
  let c4_i32_1007 : BitVec 32 := 4#32
  let c0_i32_1008 : BitVec 32 := 0#32
  let v1532 : BitVec 1 := Scalar.cmpi .eq c4_i32_1007 c0_i32_1008
  let c1_i32_1009 : BitVec 32 := 1#32
  let v1533 : BitVec 32 := Scalar.select v1532 c1_i32_1009 c4_i32_1007
  let v1534 : BitVec 32 := Scalar.remsi v1531 v1533
  let c0_i32_1011 : BitVec 32 := 0#32
  let v1536 : BitVec 1 := Scalar.cmpi .slt v1534 c0_i32_1011
  let c0_i32_1012 : BitVec 32 := 0#32
  let v1537 : BitVec 1 := Scalar.cmpi .slt v1533 c0_i32_1012
  let v1538 : BitVec 1 := Scalar.xori v1536 v1537
  let c0_i32_1010 : BitVec 32 := 0#32
  let v1535 : BitVec 1 := Scalar.cmpi .ne v1534 c0_i32_1010
  let v1539 : BitVec 1 := Scalar.andi v1538 v1535
  let v1540 : BitVec 32 := Scalar.addi v1534 v1533
  let v1541 : BitVec 32 := Scalar.select v1539 v1540 v1534
  let c4_i32_1024 : BitVec 32 := 4#32
  let v1555 : BitVec 32 := Scalar.muli v1541 c4_i32_1024
  let v1556 : BitVec 32 := Scalar.addi v1554 v1555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1013 : BitVec 32 := 3#32
  let v1542 : BitVec 32 := Scalar.addi v8 c3_i32_1013
  let c4_i32_1014 : BitVec 32 := 4#32
  let c0_i32_1015 : BitVec 32 := 0#32
  let v1543 : BitVec 1 := Scalar.cmpi .eq c4_i32_1014 c0_i32_1015
  let c1_i32_1016 : BitVec 32 := 1#32
  let v1544 : BitVec 32 := Scalar.select v1543 c1_i32_1016 c4_i32_1014
  let v1545 : BitVec 32 := Scalar.remsi v1542 v1544
  let c0_i32_1018 : BitVec 32 := 0#32
  let v1547 : BitVec 1 := Scalar.cmpi .slt v1545 c0_i32_1018
  let c0_i32_1019 : BitVec 32 := 0#32
  let v1548 : BitVec 1 := Scalar.cmpi .slt v1544 c0_i32_1019
  let v1549 : BitVec 1 := Scalar.xori v1547 v1548
  let c0_i32_1017 : BitVec 32 := 0#32
  let v1546 : BitVec 1 := Scalar.cmpi .ne v1545 c0_i32_1017
  let v1550 : BitVec 1 := Scalar.andi v1549 v1546
  let v1551 : BitVec 32 := Scalar.addi v1545 v1544
  let v1552 : BitVec 32 := Scalar.select v1550 v1551 v1545
  let c1_i32_1025 : BitVec 32 := 1#32
  let v1557 : BitVec 32 := Scalar.muli v1552 c1_i32_1025
  let v1558 : BitVec 32 := Scalar.addi v1556 v1557
  v1558.toNat
def k0_dev39 (d0 : Dev nD) : Nat :=
  let c0_i32_1052 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1028 : BitVec 32 := 0#32
  let v1565 : BitVec 32 := Scalar.addi v2 c0_i32_1028
  let c2_i32_1029 : BitVec 32 := 2#32
  let c0_i32_1030 : BitVec 32 := 0#32
  let v1566 : BitVec 1 := Scalar.cmpi .eq c2_i32_1029 c0_i32_1030
  let c1_i32_1031 : BitVec 32 := 1#32
  let v1567 : BitVec 32 := Scalar.select v1566 c1_i32_1031 c2_i32_1029
  let v1568 : BitVec 32 := Scalar.remsi v1565 v1567
  let c0_i32_1033 : BitVec 32 := 0#32
  let v1570 : BitVec 1 := Scalar.cmpi .slt v1568 c0_i32_1033
  let c0_i32_1034 : BitVec 32 := 0#32
  let v1571 : BitVec 1 := Scalar.cmpi .slt v1567 c0_i32_1034
  let v1572 : BitVec 1 := Scalar.xori v1570 v1571
  let c0_i32_1032 : BitVec 32 := 0#32
  let v1569 : BitVec 1 := Scalar.cmpi .ne v1568 c0_i32_1032
  let v1573 : BitVec 1 := Scalar.andi v1572 v1569
  let v1574 : BitVec 32 := Scalar.addi v1568 v1567
  let v1575 : BitVec 32 := Scalar.select v1573 v1574 v1568
  let c16_i32_1051 : BitVec 32 := 16#32
  let v1598 : BitVec 32 := Scalar.muli v1575 c16_i32_1051
  let v1599 : BitVec 32 := Scalar.addi c0_i32_1052 v1598
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1035 : BitVec 32 := 2#32
  let v1576 : BitVec 32 := Scalar.addi v5 c2_i32_1035
  let c4_i32_1036 : BitVec 32 := 4#32
  let c0_i32_1037 : BitVec 32 := 0#32
  let v1577 : BitVec 1 := Scalar.cmpi .eq c4_i32_1036 c0_i32_1037
  let c1_i32_1038 : BitVec 32 := 1#32
  let v1578 : BitVec 32 := Scalar.select v1577 c1_i32_1038 c4_i32_1036
  let v1579 : BitVec 32 := Scalar.remsi v1576 v1578
  let c0_i32_1040 : BitVec 32 := 0#32
  let v1581 : BitVec 1 := Scalar.cmpi .slt v1579 c0_i32_1040
  let c0_i32_1041 : BitVec 32 := 0#32
  let v1582 : BitVec 1 := Scalar.cmpi .slt v1578 c0_i32_1041
  let v1583 : BitVec 1 := Scalar.xori v1581 v1582
  let c0_i32_1039 : BitVec 32 := 0#32
  let v1580 : BitVec 1 := Scalar.cmpi .ne v1579 c0_i32_1039
  let v1584 : BitVec 1 := Scalar.andi v1583 v1580
  let v1585 : BitVec 32 := Scalar.addi v1579 v1578
  let v1586 : BitVec 32 := Scalar.select v1584 v1585 v1579
  let c4_i32_1053 : BitVec 32 := 4#32
  let v1600 : BitVec 32 := Scalar.muli v1586 c4_i32_1053
  let v1601 : BitVec 32 := Scalar.addi v1599 v1600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1042 : BitVec 32 := 0#32
  let v1587 : BitVec 32 := Scalar.addi v8 c0_i32_1042
  let c4_i32_1043 : BitVec 32 := 4#32
  let c0_i32_1044 : BitVec 32 := 0#32
  let v1588 : BitVec 1 := Scalar.cmpi .eq c4_i32_1043 c0_i32_1044
  let c1_i32_1045 : BitVec 32 := 1#32
  let v1589 : BitVec 32 := Scalar.select v1588 c1_i32_1045 c4_i32_1043
  let v1590 : BitVec 32 := Scalar.remsi v1587 v1589
  let c0_i32_1047 : BitVec 32 := 0#32
  let v1592 : BitVec 1 := Scalar.cmpi .slt v1590 c0_i32_1047
  let c0_i32_1048 : BitVec 32 := 0#32
  let v1593 : BitVec 1 := Scalar.cmpi .slt v1589 c0_i32_1048
  let v1594 : BitVec 1 := Scalar.xori v1592 v1593
  let c0_i32_1046 : BitVec 32 := 0#32
  let v1591 : BitVec 1 := Scalar.cmpi .ne v1590 c0_i32_1046
  let v1595 : BitVec 1 := Scalar.andi v1594 v1591
  let v1596 : BitVec 32 := Scalar.addi v1590 v1589
  let v1597 : BitVec 32 := Scalar.select v1595 v1596 v1590
  let c1_i32_1054 : BitVec 32 := 1#32
  let v1602 : BitVec 32 := Scalar.muli v1597 c1_i32_1054
  let v1603 : BitVec 32 := Scalar.addi v1601 v1602
  v1603.toNat
def k0_dev40 (d0 : Dev nD) : Nat :=
  let c0_i32_1081 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1057 : BitVec 32 := 0#32
  let v1610 : BitVec 32 := Scalar.addi v2 c0_i32_1057
  let c2_i32_1058 : BitVec 32 := 2#32
  let c0_i32_1059 : BitVec 32 := 0#32
  let v1611 : BitVec 1 := Scalar.cmpi .eq c2_i32_1058 c0_i32_1059
  let c1_i32_1060 : BitVec 32 := 1#32
  let v1612 : BitVec 32 := Scalar.select v1611 c1_i32_1060 c2_i32_1058
  let v1613 : BitVec 32 := Scalar.remsi v1610 v1612
  let c0_i32_1062 : BitVec 32 := 0#32
  let v1615 : BitVec 1 := Scalar.cmpi .slt v1613 c0_i32_1062
  let c0_i32_1063 : BitVec 32 := 0#32
  let v1616 : BitVec 1 := Scalar.cmpi .slt v1612 c0_i32_1063
  let v1617 : BitVec 1 := Scalar.xori v1615 v1616
  let c0_i32_1061 : BitVec 32 := 0#32
  let v1614 : BitVec 1 := Scalar.cmpi .ne v1613 c0_i32_1061
  let v1618 : BitVec 1 := Scalar.andi v1617 v1614
  let v1619 : BitVec 32 := Scalar.addi v1613 v1612
  let v1620 : BitVec 32 := Scalar.select v1618 v1619 v1613
  let c16_i32_1080 : BitVec 32 := 16#32
  let v1643 : BitVec 32 := Scalar.muli v1620 c16_i32_1080
  let v1644 : BitVec 32 := Scalar.addi c0_i32_1081 v1643
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1064 : BitVec 32 := 2#32
  let v1621 : BitVec 32 := Scalar.addi v5 c2_i32_1064
  let c4_i32_1065 : BitVec 32 := 4#32
  let c0_i32_1066 : BitVec 32 := 0#32
  let v1622 : BitVec 1 := Scalar.cmpi .eq c4_i32_1065 c0_i32_1066
  let c1_i32_1067 : BitVec 32 := 1#32
  let v1623 : BitVec 32 := Scalar.select v1622 c1_i32_1067 c4_i32_1065
  let v1624 : BitVec 32 := Scalar.remsi v1621 v1623
  let c0_i32_1069 : BitVec 32 := 0#32
  let v1626 : BitVec 1 := Scalar.cmpi .slt v1624 c0_i32_1069
  let c0_i32_1070 : BitVec 32 := 0#32
  let v1627 : BitVec 1 := Scalar.cmpi .slt v1623 c0_i32_1070
  let v1628 : BitVec 1 := Scalar.xori v1626 v1627
  let c0_i32_1068 : BitVec 32 := 0#32
  let v1625 : BitVec 1 := Scalar.cmpi .ne v1624 c0_i32_1068
  let v1629 : BitVec 1 := Scalar.andi v1628 v1625
  let v1630 : BitVec 32 := Scalar.addi v1624 v1623
  let v1631 : BitVec 32 := Scalar.select v1629 v1630 v1624
  let c4_i32_1082 : BitVec 32 := 4#32
  let v1645 : BitVec 32 := Scalar.muli v1631 c4_i32_1082
  let v1646 : BitVec 32 := Scalar.addi v1644 v1645
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1071 : BitVec 32 := 1#32
  let v1632 : BitVec 32 := Scalar.addi v8 c1_i32_1071
  let c4_i32_1072 : BitVec 32 := 4#32
  let c0_i32_1073 : BitVec 32 := 0#32
  let v1633 : BitVec 1 := Scalar.cmpi .eq c4_i32_1072 c0_i32_1073
  let c1_i32_1074 : BitVec 32 := 1#32
  let v1634 : BitVec 32 := Scalar.select v1633 c1_i32_1074 c4_i32_1072
  let v1635 : BitVec 32 := Scalar.remsi v1632 v1634
  let c0_i32_1076 : BitVec 32 := 0#32
  let v1637 : BitVec 1 := Scalar.cmpi .slt v1635 c0_i32_1076
  let c0_i32_1077 : BitVec 32 := 0#32
  let v1638 : BitVec 1 := Scalar.cmpi .slt v1634 c0_i32_1077
  let v1639 : BitVec 1 := Scalar.xori v1637 v1638
  let c0_i32_1075 : BitVec 32 := 0#32
  let v1636 : BitVec 1 := Scalar.cmpi .ne v1635 c0_i32_1075
  let v1640 : BitVec 1 := Scalar.andi v1639 v1636
  let v1641 : BitVec 32 := Scalar.addi v1635 v1634
  let v1642 : BitVec 32 := Scalar.select v1640 v1641 v1635
  let c1_i32_1083 : BitVec 32 := 1#32
  let v1647 : BitVec 32 := Scalar.muli v1642 c1_i32_1083
  let v1648 : BitVec 32 := Scalar.addi v1646 v1647
  v1648.toNat
def k0_dev41 (d0 : Dev nD) : Nat :=
  let c0_i32_1110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1086 : BitVec 32 := 0#32
  let v1655 : BitVec 32 := Scalar.addi v2 c0_i32_1086
  let c2_i32_1087 : BitVec 32 := 2#32
  let c0_i32_1088 : BitVec 32 := 0#32
  let v1656 : BitVec 1 := Scalar.cmpi .eq c2_i32_1087 c0_i32_1088
  let c1_i32_1089 : BitVec 32 := 1#32
  let v1657 : BitVec 32 := Scalar.select v1656 c1_i32_1089 c2_i32_1087
  let v1658 : BitVec 32 := Scalar.remsi v1655 v1657
  let c0_i32_1091 : BitVec 32 := 0#32
  let v1660 : BitVec 1 := Scalar.cmpi .slt v1658 c0_i32_1091
  let c0_i32_1092 : BitVec 32 := 0#32
  let v1661 : BitVec 1 := Scalar.cmpi .slt v1657 c0_i32_1092
  let v1662 : BitVec 1 := Scalar.xori v1660 v1661
  let c0_i32_1090 : BitVec 32 := 0#32
  let v1659 : BitVec 1 := Scalar.cmpi .ne v1658 c0_i32_1090
  let v1663 : BitVec 1 := Scalar.andi v1662 v1659
  let v1664 : BitVec 32 := Scalar.addi v1658 v1657
  let v1665 : BitVec 32 := Scalar.select v1663 v1664 v1658
  let c16_i32_1109 : BitVec 32 := 16#32
  let v1688 : BitVec 32 := Scalar.muli v1665 c16_i32_1109
  let v1689 : BitVec 32 := Scalar.addi c0_i32_1110 v1688
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1093 : BitVec 32 := 2#32
  let v1666 : BitVec 32 := Scalar.addi v5 c2_i32_1093
  let c4_i32_1094 : BitVec 32 := 4#32
  let c0_i32_1095 : BitVec 32 := 0#32
  let v1667 : BitVec 1 := Scalar.cmpi .eq c4_i32_1094 c0_i32_1095
  let c1_i32_1096 : BitVec 32 := 1#32
  let v1668 : BitVec 32 := Scalar.select v1667 c1_i32_1096 c4_i32_1094
  let v1669 : BitVec 32 := Scalar.remsi v1666 v1668
  let c0_i32_1098 : BitVec 32 := 0#32
  let v1671 : BitVec 1 := Scalar.cmpi .slt v1669 c0_i32_1098
  let c0_i32_1099 : BitVec 32 := 0#32
  let v1672 : BitVec 1 := Scalar.cmpi .slt v1668 c0_i32_1099
  let v1673 : BitVec 1 := Scalar.xori v1671 v1672
  let c0_i32_1097 : BitVec 32 := 0#32
  let v1670 : BitVec 1 := Scalar.cmpi .ne v1669 c0_i32_1097
  let v1674 : BitVec 1 := Scalar.andi v1673 v1670
  let v1675 : BitVec 32 := Scalar.addi v1669 v1668
  let v1676 : BitVec 32 := Scalar.select v1674 v1675 v1669
  let c4_i32_1111 : BitVec 32 := 4#32
  let v1690 : BitVec 32 := Scalar.muli v1676 c4_i32_1111
  let v1691 : BitVec 32 := Scalar.addi v1689 v1690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1100 : BitVec 32 := 2#32
  let v1677 : BitVec 32 := Scalar.addi v8 c2_i32_1100
  let c4_i32_1101 : BitVec 32 := 4#32
  let c0_i32_1102 : BitVec 32 := 0#32
  let v1678 : BitVec 1 := Scalar.cmpi .eq c4_i32_1101 c0_i32_1102
  let c1_i32_1103 : BitVec 32 := 1#32
  let v1679 : BitVec 32 := Scalar.select v1678 c1_i32_1103 c4_i32_1101
  let v1680 : BitVec 32 := Scalar.remsi v1677 v1679
  let c0_i32_1105 : BitVec 32 := 0#32
  let v1682 : BitVec 1 := Scalar.cmpi .slt v1680 c0_i32_1105
  let c0_i32_1106 : BitVec 32 := 0#32
  let v1683 : BitVec 1 := Scalar.cmpi .slt v1679 c0_i32_1106
  let v1684 : BitVec 1 := Scalar.xori v1682 v1683
  let c0_i32_1104 : BitVec 32 := 0#32
  let v1681 : BitVec 1 := Scalar.cmpi .ne v1680 c0_i32_1104
  let v1685 : BitVec 1 := Scalar.andi v1684 v1681
  let v1686 : BitVec 32 := Scalar.addi v1680 v1679
  let v1687 : BitVec 32 := Scalar.select v1685 v1686 v1680
  let c1_i32_1112 : BitVec 32 := 1#32
  let v1692 : BitVec 32 := Scalar.muli v1687 c1_i32_1112
  let v1693 : BitVec 32 := Scalar.addi v1691 v1692
  v1693.toNat
def k0_dev42 (d0 : Dev nD) : Nat :=
  let c0_i32_1139 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1115 : BitVec 32 := 0#32
  let v1700 : BitVec 32 := Scalar.addi v2 c0_i32_1115
  let c2_i32_1116 : BitVec 32 := 2#32
  let c0_i32_1117 : BitVec 32 := 0#32
  let v1701 : BitVec 1 := Scalar.cmpi .eq c2_i32_1116 c0_i32_1117
  let c1_i32_1118 : BitVec 32 := 1#32
  let v1702 : BitVec 32 := Scalar.select v1701 c1_i32_1118 c2_i32_1116
  let v1703 : BitVec 32 := Scalar.remsi v1700 v1702
  let c0_i32_1120 : BitVec 32 := 0#32
  let v1705 : BitVec 1 := Scalar.cmpi .slt v1703 c0_i32_1120
  let c0_i32_1121 : BitVec 32 := 0#32
  let v1706 : BitVec 1 := Scalar.cmpi .slt v1702 c0_i32_1121
  let v1707 : BitVec 1 := Scalar.xori v1705 v1706
  let c0_i32_1119 : BitVec 32 := 0#32
  let v1704 : BitVec 1 := Scalar.cmpi .ne v1703 c0_i32_1119
  let v1708 : BitVec 1 := Scalar.andi v1707 v1704
  let v1709 : BitVec 32 := Scalar.addi v1703 v1702
  let v1710 : BitVec 32 := Scalar.select v1708 v1709 v1703
  let c16_i32_1138 : BitVec 32 := 16#32
  let v1733 : BitVec 32 := Scalar.muli v1710 c16_i32_1138
  let v1734 : BitVec 32 := Scalar.addi c0_i32_1139 v1733
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1122 : BitVec 32 := 2#32
  let v1711 : BitVec 32 := Scalar.addi v5 c2_i32_1122
  let c4_i32_1123 : BitVec 32 := 4#32
  let c0_i32_1124 : BitVec 32 := 0#32
  let v1712 : BitVec 1 := Scalar.cmpi .eq c4_i32_1123 c0_i32_1124
  let c1_i32_1125 : BitVec 32 := 1#32
  let v1713 : BitVec 32 := Scalar.select v1712 c1_i32_1125 c4_i32_1123
  let v1714 : BitVec 32 := Scalar.remsi v1711 v1713
  let c0_i32_1127 : BitVec 32 := 0#32
  let v1716 : BitVec 1 := Scalar.cmpi .slt v1714 c0_i32_1127
  let c0_i32_1128 : BitVec 32 := 0#32
  let v1717 : BitVec 1 := Scalar.cmpi .slt v1713 c0_i32_1128
  let v1718 : BitVec 1 := Scalar.xori v1716 v1717
  let c0_i32_1126 : BitVec 32 := 0#32
  let v1715 : BitVec 1 := Scalar.cmpi .ne v1714 c0_i32_1126
  let v1719 : BitVec 1 := Scalar.andi v1718 v1715
  let v1720 : BitVec 32 := Scalar.addi v1714 v1713
  let v1721 : BitVec 32 := Scalar.select v1719 v1720 v1714
  let c4_i32_1140 : BitVec 32 := 4#32
  let v1735 : BitVec 32 := Scalar.muli v1721 c4_i32_1140
  let v1736 : BitVec 32 := Scalar.addi v1734 v1735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1129 : BitVec 32 := 3#32
  let v1722 : BitVec 32 := Scalar.addi v8 c3_i32_1129
  let c4_i32_1130 : BitVec 32 := 4#32
  let c0_i32_1131 : BitVec 32 := 0#32
  let v1723 : BitVec 1 := Scalar.cmpi .eq c4_i32_1130 c0_i32_1131
  let c1_i32_1132 : BitVec 32 := 1#32
  let v1724 : BitVec 32 := Scalar.select v1723 c1_i32_1132 c4_i32_1130
  let v1725 : BitVec 32 := Scalar.remsi v1722 v1724
  let c0_i32_1134 : BitVec 32 := 0#32
  let v1727 : BitVec 1 := Scalar.cmpi .slt v1725 c0_i32_1134
  let c0_i32_1135 : BitVec 32 := 0#32
  let v1728 : BitVec 1 := Scalar.cmpi .slt v1724 c0_i32_1135
  let v1729 : BitVec 1 := Scalar.xori v1727 v1728
  let c0_i32_1133 : BitVec 32 := 0#32
  let v1726 : BitVec 1 := Scalar.cmpi .ne v1725 c0_i32_1133
  let v1730 : BitVec 1 := Scalar.andi v1729 v1726
  let v1731 : BitVec 32 := Scalar.addi v1725 v1724
  let v1732 : BitVec 32 := Scalar.select v1730 v1731 v1725
  let c1_i32_1141 : BitVec 32 := 1#32
  let v1737 : BitVec 32 := Scalar.muli v1732 c1_i32_1141
  let v1738 : BitVec 32 := Scalar.addi v1736 v1737
  v1738.toNat
def k0_dev43 (d0 : Dev nD) : Nat :=
  let c0_i32_1168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1144 : BitVec 32 := 0#32
  let v1745 : BitVec 32 := Scalar.addi v2 c0_i32_1144
  let c2_i32_1145 : BitVec 32 := 2#32
  let c0_i32_1146 : BitVec 32 := 0#32
  let v1746 : BitVec 1 := Scalar.cmpi .eq c2_i32_1145 c0_i32_1146
  let c1_i32_1147 : BitVec 32 := 1#32
  let v1747 : BitVec 32 := Scalar.select v1746 c1_i32_1147 c2_i32_1145
  let v1748 : BitVec 32 := Scalar.remsi v1745 v1747
  let c0_i32_1149 : BitVec 32 := 0#32
  let v1750 : BitVec 1 := Scalar.cmpi .slt v1748 c0_i32_1149
  let c0_i32_1150 : BitVec 32 := 0#32
  let v1751 : BitVec 1 := Scalar.cmpi .slt v1747 c0_i32_1150
  let v1752 : BitVec 1 := Scalar.xori v1750 v1751
  let c0_i32_1148 : BitVec 32 := 0#32
  let v1749 : BitVec 1 := Scalar.cmpi .ne v1748 c0_i32_1148
  let v1753 : BitVec 1 := Scalar.andi v1752 v1749
  let v1754 : BitVec 32 := Scalar.addi v1748 v1747
  let v1755 : BitVec 32 := Scalar.select v1753 v1754 v1748
  let c16_i32_1167 : BitVec 32 := 16#32
  let v1778 : BitVec 32 := Scalar.muli v1755 c16_i32_1167
  let v1779 : BitVec 32 := Scalar.addi c0_i32_1168 v1778
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1151 : BitVec 32 := 3#32
  let v1756 : BitVec 32 := Scalar.addi v5 c3_i32_1151
  let c4_i32_1152 : BitVec 32 := 4#32
  let c0_i32_1153 : BitVec 32 := 0#32
  let v1757 : BitVec 1 := Scalar.cmpi .eq c4_i32_1152 c0_i32_1153
  let c1_i32_1154 : BitVec 32 := 1#32
  let v1758 : BitVec 32 := Scalar.select v1757 c1_i32_1154 c4_i32_1152
  let v1759 : BitVec 32 := Scalar.remsi v1756 v1758
  let c0_i32_1156 : BitVec 32 := 0#32
  let v1761 : BitVec 1 := Scalar.cmpi .slt v1759 c0_i32_1156
  let c0_i32_1157 : BitVec 32 := 0#32
  let v1762 : BitVec 1 := Scalar.cmpi .slt v1758 c0_i32_1157
  let v1763 : BitVec 1 := Scalar.xori v1761 v1762
  let c0_i32_1155 : BitVec 32 := 0#32
  let v1760 : BitVec 1 := Scalar.cmpi .ne v1759 c0_i32_1155
  let v1764 : BitVec 1 := Scalar.andi v1763 v1760
  let v1765 : BitVec 32 := Scalar.addi v1759 v1758
  let v1766 : BitVec 32 := Scalar.select v1764 v1765 v1759
  let c4_i32_1169 : BitVec 32 := 4#32
  let v1780 : BitVec 32 := Scalar.muli v1766 c4_i32_1169
  let v1781 : BitVec 32 := Scalar.addi v1779 v1780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1158 : BitVec 32 := 0#32
  let v1767 : BitVec 32 := Scalar.addi v8 c0_i32_1158
  let c4_i32_1159 : BitVec 32 := 4#32
  let c0_i32_1160 : BitVec 32 := 0#32
  let v1768 : BitVec 1 := Scalar.cmpi .eq c4_i32_1159 c0_i32_1160
  let c1_i32_1161 : BitVec 32 := 1#32
  let v1769 : BitVec 32 := Scalar.select v1768 c1_i32_1161 c4_i32_1159
  let v1770 : BitVec 32 := Scalar.remsi v1767 v1769
  let c0_i32_1163 : BitVec 32 := 0#32
  let v1772 : BitVec 1 := Scalar.cmpi .slt v1770 c0_i32_1163
  let c0_i32_1164 : BitVec 32 := 0#32
  let v1773 : BitVec 1 := Scalar.cmpi .slt v1769 c0_i32_1164
  let v1774 : BitVec 1 := Scalar.xori v1772 v1773
  let c0_i32_1162 : BitVec 32 := 0#32
  let v1771 : BitVec 1 := Scalar.cmpi .ne v1770 c0_i32_1162
  let v1775 : BitVec 1 := Scalar.andi v1774 v1771
  let v1776 : BitVec 32 := Scalar.addi v1770 v1769
  let v1777 : BitVec 32 := Scalar.select v1775 v1776 v1770
  let c1_i32_1170 : BitVec 32 := 1#32
  let v1782 : BitVec 32 := Scalar.muli v1777 c1_i32_1170
  let v1783 : BitVec 32 := Scalar.addi v1781 v1782
  v1783.toNat
def k0_dev44 (d0 : Dev nD) : Nat :=
  let c0_i32_1197 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1173 : BitVec 32 := 0#32
  let v1790 : BitVec 32 := Scalar.addi v2 c0_i32_1173
  let c2_i32_1174 : BitVec 32 := 2#32
  let c0_i32_1175 : BitVec 32 := 0#32
  let v1791 : BitVec 1 := Scalar.cmpi .eq c2_i32_1174 c0_i32_1175
  let c1_i32_1176 : BitVec 32 := 1#32
  let v1792 : BitVec 32 := Scalar.select v1791 c1_i32_1176 c2_i32_1174
  let v1793 : BitVec 32 := Scalar.remsi v1790 v1792
  let c0_i32_1178 : BitVec 32 := 0#32
  let v1795 : BitVec 1 := Scalar.cmpi .slt v1793 c0_i32_1178
  let c0_i32_1179 : BitVec 32 := 0#32
  let v1796 : BitVec 1 := Scalar.cmpi .slt v1792 c0_i32_1179
  let v1797 : BitVec 1 := Scalar.xori v1795 v1796
  let c0_i32_1177 : BitVec 32 := 0#32
  let v1794 : BitVec 1 := Scalar.cmpi .ne v1793 c0_i32_1177
  let v1798 : BitVec 1 := Scalar.andi v1797 v1794
  let v1799 : BitVec 32 := Scalar.addi v1793 v1792
  let v1800 : BitVec 32 := Scalar.select v1798 v1799 v1793
  let c16_i32_1196 : BitVec 32 := 16#32
  let v1823 : BitVec 32 := Scalar.muli v1800 c16_i32_1196
  let v1824 : BitVec 32 := Scalar.addi c0_i32_1197 v1823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1180 : BitVec 32 := 3#32
  let v1801 : BitVec 32 := Scalar.addi v5 c3_i32_1180
  let c4_i32_1181 : BitVec 32 := 4#32
  let c0_i32_1182 : BitVec 32 := 0#32
  let v1802 : BitVec 1 := Scalar.cmpi .eq c4_i32_1181 c0_i32_1182
  let c1_i32_1183 : BitVec 32 := 1#32
  let v1803 : BitVec 32 := Scalar.select v1802 c1_i32_1183 c4_i32_1181
  let v1804 : BitVec 32 := Scalar.remsi v1801 v1803
  let c0_i32_1185 : BitVec 32 := 0#32
  let v1806 : BitVec 1 := Scalar.cmpi .slt v1804 c0_i32_1185
  let c0_i32_1186 : BitVec 32 := 0#32
  let v1807 : BitVec 1 := Scalar.cmpi .slt v1803 c0_i32_1186
  let v1808 : BitVec 1 := Scalar.xori v1806 v1807
  let c0_i32_1184 : BitVec 32 := 0#32
  let v1805 : BitVec 1 := Scalar.cmpi .ne v1804 c0_i32_1184
  let v1809 : BitVec 1 := Scalar.andi v1808 v1805
  let v1810 : BitVec 32 := Scalar.addi v1804 v1803
  let v1811 : BitVec 32 := Scalar.select v1809 v1810 v1804
  let c4_i32_1198 : BitVec 32 := 4#32
  let v1825 : BitVec 32 := Scalar.muli v1811 c4_i32_1198
  let v1826 : BitVec 32 := Scalar.addi v1824 v1825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1187 : BitVec 32 := 1#32
  let v1812 : BitVec 32 := Scalar.addi v8 c1_i32_1187
  let c4_i32_1188 : BitVec 32 := 4#32
  let c0_i32_1189 : BitVec 32 := 0#32
  let v1813 : BitVec 1 := Scalar.cmpi .eq c4_i32_1188 c0_i32_1189
  let c1_i32_1190 : BitVec 32 := 1#32
  let v1814 : BitVec 32 := Scalar.select v1813 c1_i32_1190 c4_i32_1188
  let v1815 : BitVec 32 := Scalar.remsi v1812 v1814
  let c0_i32_1192 : BitVec 32 := 0#32
  let v1817 : BitVec 1 := Scalar.cmpi .slt v1815 c0_i32_1192
  let c0_i32_1193 : BitVec 32 := 0#32
  let v1818 : BitVec 1 := Scalar.cmpi .slt v1814 c0_i32_1193
  let v1819 : BitVec 1 := Scalar.xori v1817 v1818
  let c0_i32_1191 : BitVec 32 := 0#32
  let v1816 : BitVec 1 := Scalar.cmpi .ne v1815 c0_i32_1191
  let v1820 : BitVec 1 := Scalar.andi v1819 v1816
  let v1821 : BitVec 32 := Scalar.addi v1815 v1814
  let v1822 : BitVec 32 := Scalar.select v1820 v1821 v1815
  let c1_i32_1199 : BitVec 32 := 1#32
  let v1827 : BitVec 32 := Scalar.muli v1822 c1_i32_1199
  let v1828 : BitVec 32 := Scalar.addi v1826 v1827
  v1828.toNat
def k0_dev45 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1202 : BitVec 32 := 0#32
  let v1835 : BitVec 32 := Scalar.addi v2 c0_i32_1202
  let c2_i32_1203 : BitVec 32 := 2#32
  let c0_i32_1204 : BitVec 32 := 0#32
  let v1836 : BitVec 1 := Scalar.cmpi .eq c2_i32_1203 c0_i32_1204
  let c1_i32_1205 : BitVec 32 := 1#32
  let v1837 : BitVec 32 := Scalar.select v1836 c1_i32_1205 c2_i32_1203
  let v1838 : BitVec 32 := Scalar.remsi v1835 v1837
  let c0_i32_1207 : BitVec 32 := 0#32
  let v1840 : BitVec 1 := Scalar.cmpi .slt v1838 c0_i32_1207
  let c0_i32_1208 : BitVec 32 := 0#32
  let v1841 : BitVec 1 := Scalar.cmpi .slt v1837 c0_i32_1208
  let v1842 : BitVec 1 := Scalar.xori v1840 v1841
  let c0_i32_1206 : BitVec 32 := 0#32
  let v1839 : BitVec 1 := Scalar.cmpi .ne v1838 c0_i32_1206
  let v1843 : BitVec 1 := Scalar.andi v1842 v1839
  let v1844 : BitVec 32 := Scalar.addi v1838 v1837
  let v1845 : BitVec 32 := Scalar.select v1843 v1844 v1838
  let c16_i32_1225 : BitVec 32 := 16#32
  let v1868 : BitVec 32 := Scalar.muli v1845 c16_i32_1225
  let v1869 : BitVec 32 := Scalar.addi c0_i32_1226 v1868
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1209 : BitVec 32 := 3#32
  let v1846 : BitVec 32 := Scalar.addi v5 c3_i32_1209
  let c4_i32_1210 : BitVec 32 := 4#32
  let c0_i32_1211 : BitVec 32 := 0#32
  let v1847 : BitVec 1 := Scalar.cmpi .eq c4_i32_1210 c0_i32_1211
  let c1_i32_1212 : BitVec 32 := 1#32
  let v1848 : BitVec 32 := Scalar.select v1847 c1_i32_1212 c4_i32_1210
  let v1849 : BitVec 32 := Scalar.remsi v1846 v1848
  let c0_i32_1214 : BitVec 32 := 0#32
  let v1851 : BitVec 1 := Scalar.cmpi .slt v1849 c0_i32_1214
  let c0_i32_1215 : BitVec 32 := 0#32
  let v1852 : BitVec 1 := Scalar.cmpi .slt v1848 c0_i32_1215
  let v1853 : BitVec 1 := Scalar.xori v1851 v1852
  let c0_i32_1213 : BitVec 32 := 0#32
  let v1850 : BitVec 1 := Scalar.cmpi .ne v1849 c0_i32_1213
  let v1854 : BitVec 1 := Scalar.andi v1853 v1850
  let v1855 : BitVec 32 := Scalar.addi v1849 v1848
  let v1856 : BitVec 32 := Scalar.select v1854 v1855 v1849
  let c4_i32_1227 : BitVec 32 := 4#32
  let v1870 : BitVec 32 := Scalar.muli v1856 c4_i32_1227
  let v1871 : BitVec 32 := Scalar.addi v1869 v1870
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1216 : BitVec 32 := 2#32
  let v1857 : BitVec 32 := Scalar.addi v8 c2_i32_1216
  let c4_i32_1217 : BitVec 32 := 4#32
  let c0_i32_1218 : BitVec 32 := 0#32
  let v1858 : BitVec 1 := Scalar.cmpi .eq c4_i32_1217 c0_i32_1218
  let c1_i32_1219 : BitVec 32 := 1#32
  let v1859 : BitVec 32 := Scalar.select v1858 c1_i32_1219 c4_i32_1217
  let v1860 : BitVec 32 := Scalar.remsi v1857 v1859
  let c0_i32_1221 : BitVec 32 := 0#32
  let v1862 : BitVec 1 := Scalar.cmpi .slt v1860 c0_i32_1221
  let c0_i32_1222 : BitVec 32 := 0#32
  let v1863 : BitVec 1 := Scalar.cmpi .slt v1859 c0_i32_1222
  let v1864 : BitVec 1 := Scalar.xori v1862 v1863
  let c0_i32_1220 : BitVec 32 := 0#32
  let v1861 : BitVec 1 := Scalar.cmpi .ne v1860 c0_i32_1220
  let v1865 : BitVec 1 := Scalar.andi v1864 v1861
  let v1866 : BitVec 32 := Scalar.addi v1860 v1859
  let v1867 : BitVec 32 := Scalar.select v1865 v1866 v1860
  let c1_i32_1228 : BitVec 32 := 1#32
  let v1872 : BitVec 32 := Scalar.muli v1867 c1_i32_1228
  let v1873 : BitVec 32 := Scalar.addi v1871 v1872
  v1873.toNat
def k0_dev46 (d0 : Dev nD) : Nat :=
  let c0_i32_1255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1231 : BitVec 32 := 0#32
  let v1880 : BitVec 32 := Scalar.addi v2 c0_i32_1231
  let c2_i32_1232 : BitVec 32 := 2#32
  let c0_i32_1233 : BitVec 32 := 0#32
  let v1881 : BitVec 1 := Scalar.cmpi .eq c2_i32_1232 c0_i32_1233
  let c1_i32_1234 : BitVec 32 := 1#32
  let v1882 : BitVec 32 := Scalar.select v1881 c1_i32_1234 c2_i32_1232
  let v1883 : BitVec 32 := Scalar.remsi v1880 v1882
  let c0_i32_1236 : BitVec 32 := 0#32
  let v1885 : BitVec 1 := Scalar.cmpi .slt v1883 c0_i32_1236
  let c0_i32_1237 : BitVec 32 := 0#32
  let v1886 : BitVec 1 := Scalar.cmpi .slt v1882 c0_i32_1237
  let v1887 : BitVec 1 := Scalar.xori v1885 v1886
  let c0_i32_1235 : BitVec 32 := 0#32
  let v1884 : BitVec 1 := Scalar.cmpi .ne v1883 c0_i32_1235
  let v1888 : BitVec 1 := Scalar.andi v1887 v1884
  let v1889 : BitVec 32 := Scalar.addi v1883 v1882
  let v1890 : BitVec 32 := Scalar.select v1888 v1889 v1883
  let c16_i32_1254 : BitVec 32 := 16#32
  let v1913 : BitVec 32 := Scalar.muli v1890 c16_i32_1254
  let v1914 : BitVec 32 := Scalar.addi c0_i32_1255 v1913
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1238 : BitVec 32 := 3#32
  let v1891 : BitVec 32 := Scalar.addi v5 c3_i32_1238
  let c4_i32_1239 : BitVec 32 := 4#32
  let c0_i32_1240 : BitVec 32 := 0#32
  let v1892 : BitVec 1 := Scalar.cmpi .eq c4_i32_1239 c0_i32_1240
  let c1_i32_1241 : BitVec 32 := 1#32
  let v1893 : BitVec 32 := Scalar.select v1892 c1_i32_1241 c4_i32_1239
  let v1894 : BitVec 32 := Scalar.remsi v1891 v1893
  let c0_i32_1243 : BitVec 32 := 0#32
  let v1896 : BitVec 1 := Scalar.cmpi .slt v1894 c0_i32_1243
  let c0_i32_1244 : BitVec 32 := 0#32
  let v1897 : BitVec 1 := Scalar.cmpi .slt v1893 c0_i32_1244
  let v1898 : BitVec 1 := Scalar.xori v1896 v1897
  let c0_i32_1242 : BitVec 32 := 0#32
  let v1895 : BitVec 1 := Scalar.cmpi .ne v1894 c0_i32_1242
  let v1899 : BitVec 1 := Scalar.andi v1898 v1895
  let v1900 : BitVec 32 := Scalar.addi v1894 v1893
  let v1901 : BitVec 32 := Scalar.select v1899 v1900 v1894
  let c4_i32_1256 : BitVec 32 := 4#32
  let v1915 : BitVec 32 := Scalar.muli v1901 c4_i32_1256
  let v1916 : BitVec 32 := Scalar.addi v1914 v1915
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1245 : BitVec 32 := 3#32
  let v1902 : BitVec 32 := Scalar.addi v8 c3_i32_1245
  let c4_i32_1246 : BitVec 32 := 4#32
  let c0_i32_1247 : BitVec 32 := 0#32
  let v1903 : BitVec 1 := Scalar.cmpi .eq c4_i32_1246 c0_i32_1247
  let c1_i32_1248 : BitVec 32 := 1#32
  let v1904 : BitVec 32 := Scalar.select v1903 c1_i32_1248 c4_i32_1246
  let v1905 : BitVec 32 := Scalar.remsi v1902 v1904
  let c0_i32_1250 : BitVec 32 := 0#32
  let v1907 : BitVec 1 := Scalar.cmpi .slt v1905 c0_i32_1250
  let c0_i32_1251 : BitVec 32 := 0#32
  let v1908 : BitVec 1 := Scalar.cmpi .slt v1904 c0_i32_1251
  let v1909 : BitVec 1 := Scalar.xori v1907 v1908
  let c0_i32_1249 : BitVec 32 := 0#32
  let v1906 : BitVec 1 := Scalar.cmpi .ne v1905 c0_i32_1249
  let v1910 : BitVec 1 := Scalar.andi v1909 v1906
  let v1911 : BitVec 32 := Scalar.addi v1905 v1904
  let v1912 : BitVec 32 := Scalar.select v1910 v1911 v1905
  let c1_i32_1257 : BitVec 32 := 1#32
  let v1917 : BitVec 32 := Scalar.muli v1912 c1_i32_1257
  let v1918 : BitVec 32 := Scalar.addi v1916 v1917
  v1918.toNat
def k0_dev47 (d0 : Dev nD) : Nat :=
  let c0_i32_1284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1260 : BitVec 32 := 1#32
  let v1925 : BitVec 32 := Scalar.addi v2 c1_i32_1260
  let c2_i32_1261 : BitVec 32 := 2#32
  let c0_i32_1262 : BitVec 32 := 0#32
  let v1926 : BitVec 1 := Scalar.cmpi .eq c2_i32_1261 c0_i32_1262
  let c1_i32_1263 : BitVec 32 := 1#32
  let v1927 : BitVec 32 := Scalar.select v1926 c1_i32_1263 c2_i32_1261
  let v1928 : BitVec 32 := Scalar.remsi v1925 v1927
  let c0_i32_1265 : BitVec 32 := 0#32
  let v1930 : BitVec 1 := Scalar.cmpi .slt v1928 c0_i32_1265
  let c0_i32_1266 : BitVec 32 := 0#32
  let v1931 : BitVec 1 := Scalar.cmpi .slt v1927 c0_i32_1266
  let v1932 : BitVec 1 := Scalar.xori v1930 v1931
  let c0_i32_1264 : BitVec 32 := 0#32
  let v1929 : BitVec 1 := Scalar.cmpi .ne v1928 c0_i32_1264
  let v1933 : BitVec 1 := Scalar.andi v1932 v1929
  let v1934 : BitVec 32 := Scalar.addi v1928 v1927
  let v1935 : BitVec 32 := Scalar.select v1933 v1934 v1928
  let c16_i32_1283 : BitVec 32 := 16#32
  let v1958 : BitVec 32 := Scalar.muli v1935 c16_i32_1283
  let v1959 : BitVec 32 := Scalar.addi c0_i32_1284 v1958
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1267 : BitVec 32 := 0#32
  let v1936 : BitVec 32 := Scalar.addi v5 c0_i32_1267
  let c4_i32_1268 : BitVec 32 := 4#32
  let c0_i32_1269 : BitVec 32 := 0#32
  let v1937 : BitVec 1 := Scalar.cmpi .eq c4_i32_1268 c0_i32_1269
  let c1_i32_1270 : BitVec 32 := 1#32
  let v1938 : BitVec 32 := Scalar.select v1937 c1_i32_1270 c4_i32_1268
  let v1939 : BitVec 32 := Scalar.remsi v1936 v1938
  let c0_i32_1272 : BitVec 32 := 0#32
  let v1941 : BitVec 1 := Scalar.cmpi .slt v1939 c0_i32_1272
  let c0_i32_1273 : BitVec 32 := 0#32
  let v1942 : BitVec 1 := Scalar.cmpi .slt v1938 c0_i32_1273
  let v1943 : BitVec 1 := Scalar.xori v1941 v1942
  let c0_i32_1271 : BitVec 32 := 0#32
  let v1940 : BitVec 1 := Scalar.cmpi .ne v1939 c0_i32_1271
  let v1944 : BitVec 1 := Scalar.andi v1943 v1940
  let v1945 : BitVec 32 := Scalar.addi v1939 v1938
  let v1946 : BitVec 32 := Scalar.select v1944 v1945 v1939
  let c4_i32_1285 : BitVec 32 := 4#32
  let v1960 : BitVec 32 := Scalar.muli v1946 c4_i32_1285
  let v1961 : BitVec 32 := Scalar.addi v1959 v1960
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1274 : BitVec 32 := 0#32
  let v1947 : BitVec 32 := Scalar.addi v8 c0_i32_1274
  let c4_i32_1275 : BitVec 32 := 4#32
  let c0_i32_1276 : BitVec 32 := 0#32
  let v1948 : BitVec 1 := Scalar.cmpi .eq c4_i32_1275 c0_i32_1276
  let c1_i32_1277 : BitVec 32 := 1#32
  let v1949 : BitVec 32 := Scalar.select v1948 c1_i32_1277 c4_i32_1275
  let v1950 : BitVec 32 := Scalar.remsi v1947 v1949
  let c0_i32_1279 : BitVec 32 := 0#32
  let v1952 : BitVec 1 := Scalar.cmpi .slt v1950 c0_i32_1279
  let c0_i32_1280 : BitVec 32 := 0#32
  let v1953 : BitVec 1 := Scalar.cmpi .slt v1949 c0_i32_1280
  let v1954 : BitVec 1 := Scalar.xori v1952 v1953
  let c0_i32_1278 : BitVec 32 := 0#32
  let v1951 : BitVec 1 := Scalar.cmpi .ne v1950 c0_i32_1278
  let v1955 : BitVec 1 := Scalar.andi v1954 v1951
  let v1956 : BitVec 32 := Scalar.addi v1950 v1949
  let v1957 : BitVec 32 := Scalar.select v1955 v1956 v1950
  let c1_i32_1286 : BitVec 32 := 1#32
  let v1962 : BitVec 32 := Scalar.muli v1957 c1_i32_1286
  let v1963 : BitVec 32 := Scalar.addi v1961 v1962
  v1963.toNat
def k0_dev48 (d0 : Dev nD) : Nat :=
  let c0_i32_1314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1289 : BitVec 32 := 1#32
  let v1970 : BitVec 32 := Scalar.addi v2 c1_i32_1289
  let c2_i32_1290 : BitVec 32 := 2#32
  let c0_i32_1291 : BitVec 32 := 0#32
  let v1971 : BitVec 1 := Scalar.cmpi .eq c2_i32_1290 c0_i32_1291
  let c1_i32_1292 : BitVec 32 := 1#32
  let v1972 : BitVec 32 := Scalar.select v1971 c1_i32_1292 c2_i32_1290
  let v1973 : BitVec 32 := Scalar.remsi v1970 v1972
  let c0_i32_1294 : BitVec 32 := 0#32
  let v1975 : BitVec 1 := Scalar.cmpi .slt v1973 c0_i32_1294
  let c0_i32_1295 : BitVec 32 := 0#32
  let v1976 : BitVec 1 := Scalar.cmpi .slt v1972 c0_i32_1295
  let v1977 : BitVec 1 := Scalar.xori v1975 v1976
  let c0_i32_1293 : BitVec 32 := 0#32
  let v1974 : BitVec 1 := Scalar.cmpi .ne v1973 c0_i32_1293
  let v1978 : BitVec 1 := Scalar.andi v1977 v1974
  let v1979 : BitVec 32 := Scalar.addi v1973 v1972
  let v1980 : BitVec 32 := Scalar.select v1978 v1979 v1973
  let c16_i32_1313 : BitVec 32 := 16#32
  let v2003 : BitVec 32 := Scalar.muli v1980 c16_i32_1313
  let v2004 : BitVec 32 := Scalar.addi c0_i32_1314 v2003
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1296 : BitVec 32 := 0#32
  let v1981 : BitVec 32 := Scalar.addi v5 c0_i32_1296
  let c4_i32_1297 : BitVec 32 := 4#32
  let c0_i32_1298 : BitVec 32 := 0#32
  let v1982 : BitVec 1 := Scalar.cmpi .eq c4_i32_1297 c0_i32_1298
  let c1_i32_1299 : BitVec 32 := 1#32
  let v1983 : BitVec 32 := Scalar.select v1982 c1_i32_1299 c4_i32_1297
  let v1984 : BitVec 32 := Scalar.remsi v1981 v1983
  let c0_i32_1301 : BitVec 32 := 0#32
  let v1986 : BitVec 1 := Scalar.cmpi .slt v1984 c0_i32_1301
  let c0_i32_1302 : BitVec 32 := 0#32
  let v1987 : BitVec 1 := Scalar.cmpi .slt v1983 c0_i32_1302
  let v1988 : BitVec 1 := Scalar.xori v1986 v1987
  let c0_i32_1300 : BitVec 32 := 0#32
  let v1985 : BitVec 1 := Scalar.cmpi .ne v1984 c0_i32_1300
  let v1989 : BitVec 1 := Scalar.andi v1988 v1985
  let v1990 : BitVec 32 := Scalar.addi v1984 v1983
  let v1991 : BitVec 32 := Scalar.select v1989 v1990 v1984
  let c4_i32_1315 : BitVec 32 := 4#32
  let v2005 : BitVec 32 := Scalar.muli v1991 c4_i32_1315
  let v2006 : BitVec 32 := Scalar.addi v2004 v2005
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1303 : BitVec 32 := 1#32
  let v1992 : BitVec 32 := Scalar.addi v8 c1_i32_1303
  let c4_i32_1304 : BitVec 32 := 4#32
  let c0_i32_1305 : BitVec 32 := 0#32
  let v1993 : BitVec 1 := Scalar.cmpi .eq c4_i32_1304 c0_i32_1305
  let c1_i32_1306 : BitVec 32 := 1#32
  let v1994 : BitVec 32 := Scalar.select v1993 c1_i32_1306 c4_i32_1304
  let v1995 : BitVec 32 := Scalar.remsi v1992 v1994
  let c0_i32_1308 : BitVec 32 := 0#32
  let v1997 : BitVec 1 := Scalar.cmpi .slt v1995 c0_i32_1308
  let c0_i32_1309 : BitVec 32 := 0#32
  let v1998 : BitVec 1 := Scalar.cmpi .slt v1994 c0_i32_1309
  let v1999 : BitVec 1 := Scalar.xori v1997 v1998
  let c0_i32_1307 : BitVec 32 := 0#32
  let v1996 : BitVec 1 := Scalar.cmpi .ne v1995 c0_i32_1307
  let v2000 : BitVec 1 := Scalar.andi v1999 v1996
  let v2001 : BitVec 32 := Scalar.addi v1995 v1994
  let v2002 : BitVec 32 := Scalar.select v2000 v2001 v1995
  let c1_i32_1316 : BitVec 32 := 1#32
  let v2007 : BitVec 32 := Scalar.muli v2002 c1_i32_1316
  let v2008 : BitVec 32 := Scalar.addi v2006 v2007
  v2008.toNat
def k0_dev49 (d0 : Dev nD) : Nat :=
  let c0_i32_1343 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1319 : BitVec 32 := 1#32
  let v2015 : BitVec 32 := Scalar.addi v2 c1_i32_1319
  let c2_i32_1320 : BitVec 32 := 2#32
  let c0_i32_1321 : BitVec 32 := 0#32
  let v2016 : BitVec 1 := Scalar.cmpi .eq c2_i32_1320 c0_i32_1321
  let c1_i32_1322 : BitVec 32 := 1#32
  let v2017 : BitVec 32 := Scalar.select v2016 c1_i32_1322 c2_i32_1320
  let v2018 : BitVec 32 := Scalar.remsi v2015 v2017
  let c0_i32_1324 : BitVec 32 := 0#32
  let v2020 : BitVec 1 := Scalar.cmpi .slt v2018 c0_i32_1324
  let c0_i32_1325 : BitVec 32 := 0#32
  let v2021 : BitVec 1 := Scalar.cmpi .slt v2017 c0_i32_1325
  let v2022 : BitVec 1 := Scalar.xori v2020 v2021
  let c0_i32_1323 : BitVec 32 := 0#32
  let v2019 : BitVec 1 := Scalar.cmpi .ne v2018 c0_i32_1323
  let v2023 : BitVec 1 := Scalar.andi v2022 v2019
  let v2024 : BitVec 32 := Scalar.addi v2018 v2017
  let v2025 : BitVec 32 := Scalar.select v2023 v2024 v2018
  let c16_i32_1342 : BitVec 32 := 16#32
  let v2048 : BitVec 32 := Scalar.muli v2025 c16_i32_1342
  let v2049 : BitVec 32 := Scalar.addi c0_i32_1343 v2048
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1326 : BitVec 32 := 0#32
  let v2026 : BitVec 32 := Scalar.addi v5 c0_i32_1326
  let c4_i32_1327 : BitVec 32 := 4#32
  let c0_i32_1328 : BitVec 32 := 0#32
  let v2027 : BitVec 1 := Scalar.cmpi .eq c4_i32_1327 c0_i32_1328
  let c1_i32_1329 : BitVec 32 := 1#32
  let v2028 : BitVec 32 := Scalar.select v2027 c1_i32_1329 c4_i32_1327
  let v2029 : BitVec 32 := Scalar.remsi v2026 v2028
  let c0_i32_1331 : BitVec 32 := 0#32
  let v2031 : BitVec 1 := Scalar.cmpi .slt v2029 c0_i32_1331
  let c0_i32_1332 : BitVec 32 := 0#32
  let v2032 : BitVec 1 := Scalar.cmpi .slt v2028 c0_i32_1332
  let v2033 : BitVec 1 := Scalar.xori v2031 v2032
  let c0_i32_1330 : BitVec 32 := 0#32
  let v2030 : BitVec 1 := Scalar.cmpi .ne v2029 c0_i32_1330
  let v2034 : BitVec 1 := Scalar.andi v2033 v2030
  let v2035 : BitVec 32 := Scalar.addi v2029 v2028
  let v2036 : BitVec 32 := Scalar.select v2034 v2035 v2029
  let c4_i32_1344 : BitVec 32 := 4#32
  let v2050 : BitVec 32 := Scalar.muli v2036 c4_i32_1344
  let v2051 : BitVec 32 := Scalar.addi v2049 v2050
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1333 : BitVec 32 := 2#32
  let v2037 : BitVec 32 := Scalar.addi v8 c2_i32_1333
  let c4_i32_1334 : BitVec 32 := 4#32
  let c0_i32_1335 : BitVec 32 := 0#32
  let v2038 : BitVec 1 := Scalar.cmpi .eq c4_i32_1334 c0_i32_1335
  let c1_i32_1336 : BitVec 32 := 1#32
  let v2039 : BitVec 32 := Scalar.select v2038 c1_i32_1336 c4_i32_1334
  let v2040 : BitVec 32 := Scalar.remsi v2037 v2039
  let c0_i32_1338 : BitVec 32 := 0#32
  let v2042 : BitVec 1 := Scalar.cmpi .slt v2040 c0_i32_1338
  let c0_i32_1339 : BitVec 32 := 0#32
  let v2043 : BitVec 1 := Scalar.cmpi .slt v2039 c0_i32_1339
  let v2044 : BitVec 1 := Scalar.xori v2042 v2043
  let c0_i32_1337 : BitVec 32 := 0#32
  let v2041 : BitVec 1 := Scalar.cmpi .ne v2040 c0_i32_1337
  let v2045 : BitVec 1 := Scalar.andi v2044 v2041
  let v2046 : BitVec 32 := Scalar.addi v2040 v2039
  let v2047 : BitVec 32 := Scalar.select v2045 v2046 v2040
  let c1_i32_1345 : BitVec 32 := 1#32
  let v2052 : BitVec 32 := Scalar.muli v2047 c1_i32_1345
  let v2053 : BitVec 32 := Scalar.addi v2051 v2052
  v2053.toNat
def k0_dev50 (d0 : Dev nD) : Nat :=
  let c0_i32_1372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1348 : BitVec 32 := 1#32
  let v2060 : BitVec 32 := Scalar.addi v2 c1_i32_1348
  let c2_i32_1349 : BitVec 32 := 2#32
  let c0_i32_1350 : BitVec 32 := 0#32
  let v2061 : BitVec 1 := Scalar.cmpi .eq c2_i32_1349 c0_i32_1350
  let c1_i32_1351 : BitVec 32 := 1#32
  let v2062 : BitVec 32 := Scalar.select v2061 c1_i32_1351 c2_i32_1349
  let v2063 : BitVec 32 := Scalar.remsi v2060 v2062
  let c0_i32_1353 : BitVec 32 := 0#32
  let v2065 : BitVec 1 := Scalar.cmpi .slt v2063 c0_i32_1353
  let c0_i32_1354 : BitVec 32 := 0#32
  let v2066 : BitVec 1 := Scalar.cmpi .slt v2062 c0_i32_1354
  let v2067 : BitVec 1 := Scalar.xori v2065 v2066
  let c0_i32_1352 : BitVec 32 := 0#32
  let v2064 : BitVec 1 := Scalar.cmpi .ne v2063 c0_i32_1352
  let v2068 : BitVec 1 := Scalar.andi v2067 v2064
  let v2069 : BitVec 32 := Scalar.addi v2063 v2062
  let v2070 : BitVec 32 := Scalar.select v2068 v2069 v2063
  let c16_i32_1371 : BitVec 32 := 16#32
  let v2093 : BitVec 32 := Scalar.muli v2070 c16_i32_1371
  let v2094 : BitVec 32 := Scalar.addi c0_i32_1372 v2093
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1355 : BitVec 32 := 0#32
  let v2071 : BitVec 32 := Scalar.addi v5 c0_i32_1355
  let c4_i32_1356 : BitVec 32 := 4#32
  let c0_i32_1357 : BitVec 32 := 0#32
  let v2072 : BitVec 1 := Scalar.cmpi .eq c4_i32_1356 c0_i32_1357
  let c1_i32_1358 : BitVec 32 := 1#32
  let v2073 : BitVec 32 := Scalar.select v2072 c1_i32_1358 c4_i32_1356
  let v2074 : BitVec 32 := Scalar.remsi v2071 v2073
  let c0_i32_1360 : BitVec 32 := 0#32
  let v2076 : BitVec 1 := Scalar.cmpi .slt v2074 c0_i32_1360
  let c0_i32_1361 : BitVec 32 := 0#32
  let v2077 : BitVec 1 := Scalar.cmpi .slt v2073 c0_i32_1361
  let v2078 : BitVec 1 := Scalar.xori v2076 v2077
  let c0_i32_1359 : BitVec 32 := 0#32
  let v2075 : BitVec 1 := Scalar.cmpi .ne v2074 c0_i32_1359
  let v2079 : BitVec 1 := Scalar.andi v2078 v2075
  let v2080 : BitVec 32 := Scalar.addi v2074 v2073
  let v2081 : BitVec 32 := Scalar.select v2079 v2080 v2074
  let c4_i32_1373 : BitVec 32 := 4#32
  let v2095 : BitVec 32 := Scalar.muli v2081 c4_i32_1373
  let v2096 : BitVec 32 := Scalar.addi v2094 v2095
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1362 : BitVec 32 := 3#32
  let v2082 : BitVec 32 := Scalar.addi v8 c3_i32_1362
  let c4_i32_1363 : BitVec 32 := 4#32
  let c0_i32_1364 : BitVec 32 := 0#32
  let v2083 : BitVec 1 := Scalar.cmpi .eq c4_i32_1363 c0_i32_1364
  let c1_i32_1365 : BitVec 32 := 1#32
  let v2084 : BitVec 32 := Scalar.select v2083 c1_i32_1365 c4_i32_1363
  let v2085 : BitVec 32 := Scalar.remsi v2082 v2084
  let c0_i32_1367 : BitVec 32 := 0#32
  let v2087 : BitVec 1 := Scalar.cmpi .slt v2085 c0_i32_1367
  let c0_i32_1368 : BitVec 32 := 0#32
  let v2088 : BitVec 1 := Scalar.cmpi .slt v2084 c0_i32_1368
  let v2089 : BitVec 1 := Scalar.xori v2087 v2088
  let c0_i32_1366 : BitVec 32 := 0#32
  let v2086 : BitVec 1 := Scalar.cmpi .ne v2085 c0_i32_1366
  let v2090 : BitVec 1 := Scalar.andi v2089 v2086
  let v2091 : BitVec 32 := Scalar.addi v2085 v2084
  let v2092 : BitVec 32 := Scalar.select v2090 v2091 v2085
  let c1_i32_1374 : BitVec 32 := 1#32
  let v2097 : BitVec 32 := Scalar.muli v2092 c1_i32_1374
  let v2098 : BitVec 32 := Scalar.addi v2096 v2097
  v2098.toNat
def k0_dev51 (d0 : Dev nD) : Nat :=
  let c0_i32_1401 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1377 : BitVec 32 := 1#32
  let v2105 : BitVec 32 := Scalar.addi v2 c1_i32_1377
  let c2_i32_1378 : BitVec 32 := 2#32
  let c0_i32_1379 : BitVec 32 := 0#32
  let v2106 : BitVec 1 := Scalar.cmpi .eq c2_i32_1378 c0_i32_1379
  let c1_i32_1380 : BitVec 32 := 1#32
  let v2107 : BitVec 32 := Scalar.select v2106 c1_i32_1380 c2_i32_1378
  let v2108 : BitVec 32 := Scalar.remsi v2105 v2107
  let c0_i32_1382 : BitVec 32 := 0#32
  let v2110 : BitVec 1 := Scalar.cmpi .slt v2108 c0_i32_1382
  let c0_i32_1383 : BitVec 32 := 0#32
  let v2111 : BitVec 1 := Scalar.cmpi .slt v2107 c0_i32_1383
  let v2112 : BitVec 1 := Scalar.xori v2110 v2111
  let c0_i32_1381 : BitVec 32 := 0#32
  let v2109 : BitVec 1 := Scalar.cmpi .ne v2108 c0_i32_1381
  let v2113 : BitVec 1 := Scalar.andi v2112 v2109
  let v2114 : BitVec 32 := Scalar.addi v2108 v2107
  let v2115 : BitVec 32 := Scalar.select v2113 v2114 v2108
  let c16_i32_1400 : BitVec 32 := 16#32
  let v2138 : BitVec 32 := Scalar.muli v2115 c16_i32_1400
  let v2139 : BitVec 32 := Scalar.addi c0_i32_1401 v2138
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1384 : BitVec 32 := 1#32
  let v2116 : BitVec 32 := Scalar.addi v5 c1_i32_1384
  let c4_i32_1385 : BitVec 32 := 4#32
  let c0_i32_1386 : BitVec 32 := 0#32
  let v2117 : BitVec 1 := Scalar.cmpi .eq c4_i32_1385 c0_i32_1386
  let c1_i32_1387 : BitVec 32 := 1#32
  let v2118 : BitVec 32 := Scalar.select v2117 c1_i32_1387 c4_i32_1385
  let v2119 : BitVec 32 := Scalar.remsi v2116 v2118
  let c0_i32_1389 : BitVec 32 := 0#32
  let v2121 : BitVec 1 := Scalar.cmpi .slt v2119 c0_i32_1389
  let c0_i32_1390 : BitVec 32 := 0#32
  let v2122 : BitVec 1 := Scalar.cmpi .slt v2118 c0_i32_1390
  let v2123 : BitVec 1 := Scalar.xori v2121 v2122
  let c0_i32_1388 : BitVec 32 := 0#32
  let v2120 : BitVec 1 := Scalar.cmpi .ne v2119 c0_i32_1388
  let v2124 : BitVec 1 := Scalar.andi v2123 v2120
  let v2125 : BitVec 32 := Scalar.addi v2119 v2118
  let v2126 : BitVec 32 := Scalar.select v2124 v2125 v2119
  let c4_i32_1402 : BitVec 32 := 4#32
  let v2140 : BitVec 32 := Scalar.muli v2126 c4_i32_1402
  let v2141 : BitVec 32 := Scalar.addi v2139 v2140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1391 : BitVec 32 := 0#32
  let v2127 : BitVec 32 := Scalar.addi v8 c0_i32_1391
  let c4_i32_1392 : BitVec 32 := 4#32
  let c0_i32_1393 : BitVec 32 := 0#32
  let v2128 : BitVec 1 := Scalar.cmpi .eq c4_i32_1392 c0_i32_1393
  let c1_i32_1394 : BitVec 32 := 1#32
  let v2129 : BitVec 32 := Scalar.select v2128 c1_i32_1394 c4_i32_1392
  let v2130 : BitVec 32 := Scalar.remsi v2127 v2129
  let c0_i32_1396 : BitVec 32 := 0#32
  let v2132 : BitVec 1 := Scalar.cmpi .slt v2130 c0_i32_1396
  let c0_i32_1397 : BitVec 32 := 0#32
  let v2133 : BitVec 1 := Scalar.cmpi .slt v2129 c0_i32_1397
  let v2134 : BitVec 1 := Scalar.xori v2132 v2133
  let c0_i32_1395 : BitVec 32 := 0#32
  let v2131 : BitVec 1 := Scalar.cmpi .ne v2130 c0_i32_1395
  let v2135 : BitVec 1 := Scalar.andi v2134 v2131
  let v2136 : BitVec 32 := Scalar.addi v2130 v2129
  let v2137 : BitVec 32 := Scalar.select v2135 v2136 v2130
  let c1_i32_1403 : BitVec 32 := 1#32
  let v2142 : BitVec 32 := Scalar.muli v2137 c1_i32_1403
  let v2143 : BitVec 32 := Scalar.addi v2141 v2142
  v2143.toNat
def k0_dev52 (d0 : Dev nD) : Nat :=
  let c0_i32_1430 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1406 : BitVec 32 := 1#32
  let v2150 : BitVec 32 := Scalar.addi v2 c1_i32_1406
  let c2_i32_1407 : BitVec 32 := 2#32
  let c0_i32_1408 : BitVec 32 := 0#32
  let v2151 : BitVec 1 := Scalar.cmpi .eq c2_i32_1407 c0_i32_1408
  let c1_i32_1409 : BitVec 32 := 1#32
  let v2152 : BitVec 32 := Scalar.select v2151 c1_i32_1409 c2_i32_1407
  let v2153 : BitVec 32 := Scalar.remsi v2150 v2152
  let c0_i32_1411 : BitVec 32 := 0#32
  let v2155 : BitVec 1 := Scalar.cmpi .slt v2153 c0_i32_1411
  let c0_i32_1412 : BitVec 32 := 0#32
  let v2156 : BitVec 1 := Scalar.cmpi .slt v2152 c0_i32_1412
  let v2157 : BitVec 1 := Scalar.xori v2155 v2156
  let c0_i32_1410 : BitVec 32 := 0#32
  let v2154 : BitVec 1 := Scalar.cmpi .ne v2153 c0_i32_1410
  let v2158 : BitVec 1 := Scalar.andi v2157 v2154
  let v2159 : BitVec 32 := Scalar.addi v2153 v2152
  let v2160 : BitVec 32 := Scalar.select v2158 v2159 v2153
  let c16_i32_1429 : BitVec 32 := 16#32
  let v2183 : BitVec 32 := Scalar.muli v2160 c16_i32_1429
  let v2184 : BitVec 32 := Scalar.addi c0_i32_1430 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1413 : BitVec 32 := 1#32
  let v2161 : BitVec 32 := Scalar.addi v5 c1_i32_1413
  let c4_i32_1414 : BitVec 32 := 4#32
  let c0_i32_1415 : BitVec 32 := 0#32
  let v2162 : BitVec 1 := Scalar.cmpi .eq c4_i32_1414 c0_i32_1415
  let c1_i32_1416 : BitVec 32 := 1#32
  let v2163 : BitVec 32 := Scalar.select v2162 c1_i32_1416 c4_i32_1414
  let v2164 : BitVec 32 := Scalar.remsi v2161 v2163
  let c0_i32_1418 : BitVec 32 := 0#32
  let v2166 : BitVec 1 := Scalar.cmpi .slt v2164 c0_i32_1418
  let c0_i32_1419 : BitVec 32 := 0#32
  let v2167 : BitVec 1 := Scalar.cmpi .slt v2163 c0_i32_1419
  let v2168 : BitVec 1 := Scalar.xori v2166 v2167
  let c0_i32_1417 : BitVec 32 := 0#32
  let v2165 : BitVec 1 := Scalar.cmpi .ne v2164 c0_i32_1417
  let v2169 : BitVec 1 := Scalar.andi v2168 v2165
  let v2170 : BitVec 32 := Scalar.addi v2164 v2163
  let v2171 : BitVec 32 := Scalar.select v2169 v2170 v2164
  let c4_i32_1431 : BitVec 32 := 4#32
  let v2185 : BitVec 32 := Scalar.muli v2171 c4_i32_1431
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1420 : BitVec 32 := 1#32
  let v2172 : BitVec 32 := Scalar.addi v8 c1_i32_1420
  let c4_i32_1421 : BitVec 32 := 4#32
  let c0_i32_1422 : BitVec 32 := 0#32
  let v2173 : BitVec 1 := Scalar.cmpi .eq c4_i32_1421 c0_i32_1422
  let c1_i32_1423 : BitVec 32 := 1#32
  let v2174 : BitVec 32 := Scalar.select v2173 c1_i32_1423 c4_i32_1421
  let v2175 : BitVec 32 := Scalar.remsi v2172 v2174
  let c0_i32_1425 : BitVec 32 := 0#32
  let v2177 : BitVec 1 := Scalar.cmpi .slt v2175 c0_i32_1425
  let c0_i32_1426 : BitVec 32 := 0#32
  let v2178 : BitVec 1 := Scalar.cmpi .slt v2174 c0_i32_1426
  let v2179 : BitVec 1 := Scalar.xori v2177 v2178
  let c0_i32_1424 : BitVec 32 := 0#32
  let v2176 : BitVec 1 := Scalar.cmpi .ne v2175 c0_i32_1424
  let v2180 : BitVec 1 := Scalar.andi v2179 v2176
  let v2181 : BitVec 32 := Scalar.addi v2175 v2174
  let v2182 : BitVec 32 := Scalar.select v2180 v2181 v2175
  let c1_i32_1432 : BitVec 32 := 1#32
  let v2187 : BitVec 32 := Scalar.muli v2182 c1_i32_1432
  let v2188 : BitVec 32 := Scalar.addi v2186 v2187
  v2188.toNat
def k0_dev53 (d0 : Dev nD) : Nat :=
  let c0_i32_1459 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1435 : BitVec 32 := 1#32
  let v2195 : BitVec 32 := Scalar.addi v2 c1_i32_1435
  let c2_i32_1436 : BitVec 32 := 2#32
  let c0_i32_1437 : BitVec 32 := 0#32
  let v2196 : BitVec 1 := Scalar.cmpi .eq c2_i32_1436 c0_i32_1437
  let c1_i32_1438 : BitVec 32 := 1#32
  let v2197 : BitVec 32 := Scalar.select v2196 c1_i32_1438 c2_i32_1436
  let v2198 : BitVec 32 := Scalar.remsi v2195 v2197
  let c0_i32_1440 : BitVec 32 := 0#32
  let v2200 : BitVec 1 := Scalar.cmpi .slt v2198 c0_i32_1440
  let c0_i32_1441 : BitVec 32 := 0#32
  let v2201 : BitVec 1 := Scalar.cmpi .slt v2197 c0_i32_1441
  let v2202 : BitVec 1 := Scalar.xori v2200 v2201
  let c0_i32_1439 : BitVec 32 := 0#32
  let v2199 : BitVec 1 := Scalar.cmpi .ne v2198 c0_i32_1439
  let v2203 : BitVec 1 := Scalar.andi v2202 v2199
  let v2204 : BitVec 32 := Scalar.addi v2198 v2197
  let v2205 : BitVec 32 := Scalar.select v2203 v2204 v2198
  let c16_i32_1458 : BitVec 32 := 16#32
  let v2228 : BitVec 32 := Scalar.muli v2205 c16_i32_1458
  let v2229 : BitVec 32 := Scalar.addi c0_i32_1459 v2228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1442 : BitVec 32 := 1#32
  let v2206 : BitVec 32 := Scalar.addi v5 c1_i32_1442
  let c4_i32_1443 : BitVec 32 := 4#32
  let c0_i32_1444 : BitVec 32 := 0#32
  let v2207 : BitVec 1 := Scalar.cmpi .eq c4_i32_1443 c0_i32_1444
  let c1_i32_1445 : BitVec 32 := 1#32
  let v2208 : BitVec 32 := Scalar.select v2207 c1_i32_1445 c4_i32_1443
  let v2209 : BitVec 32 := Scalar.remsi v2206 v2208
  let c0_i32_1447 : BitVec 32 := 0#32
  let v2211 : BitVec 1 := Scalar.cmpi .slt v2209 c0_i32_1447
  let c0_i32_1448 : BitVec 32 := 0#32
  let v2212 : BitVec 1 := Scalar.cmpi .slt v2208 c0_i32_1448
  let v2213 : BitVec 1 := Scalar.xori v2211 v2212
  let c0_i32_1446 : BitVec 32 := 0#32
  let v2210 : BitVec 1 := Scalar.cmpi .ne v2209 c0_i32_1446
  let v2214 : BitVec 1 := Scalar.andi v2213 v2210
  let v2215 : BitVec 32 := Scalar.addi v2209 v2208
  let v2216 : BitVec 32 := Scalar.select v2214 v2215 v2209
  let c4_i32_1460 : BitVec 32 := 4#32
  let v2230 : BitVec 32 := Scalar.muli v2216 c4_i32_1460
  let v2231 : BitVec 32 := Scalar.addi v2229 v2230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1449 : BitVec 32 := 2#32
  let v2217 : BitVec 32 := Scalar.addi v8 c2_i32_1449
  let c4_i32_1450 : BitVec 32 := 4#32
  let c0_i32_1451 : BitVec 32 := 0#32
  let v2218 : BitVec 1 := Scalar.cmpi .eq c4_i32_1450 c0_i32_1451
  let c1_i32_1452 : BitVec 32 := 1#32
  let v2219 : BitVec 32 := Scalar.select v2218 c1_i32_1452 c4_i32_1450
  let v2220 : BitVec 32 := Scalar.remsi v2217 v2219
  let c0_i32_1454 : BitVec 32 := 0#32
  let v2222 : BitVec 1 := Scalar.cmpi .slt v2220 c0_i32_1454
  let c0_i32_1455 : BitVec 32 := 0#32
  let v2223 : BitVec 1 := Scalar.cmpi .slt v2219 c0_i32_1455
  let v2224 : BitVec 1 := Scalar.xori v2222 v2223
  let c0_i32_1453 : BitVec 32 := 0#32
  let v2221 : BitVec 1 := Scalar.cmpi .ne v2220 c0_i32_1453
  let v2225 : BitVec 1 := Scalar.andi v2224 v2221
  let v2226 : BitVec 32 := Scalar.addi v2220 v2219
  let v2227 : BitVec 32 := Scalar.select v2225 v2226 v2220
  let c1_i32_1461 : BitVec 32 := 1#32
  let v2232 : BitVec 32 := Scalar.muli v2227 c1_i32_1461
  let v2233 : BitVec 32 := Scalar.addi v2231 v2232
  v2233.toNat
def k0_dev54 (d0 : Dev nD) : Nat :=
  let c0_i32_1488 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1464 : BitVec 32 := 1#32
  let v2240 : BitVec 32 := Scalar.addi v2 c1_i32_1464
  let c2_i32_1465 : BitVec 32 := 2#32
  let c0_i32_1466 : BitVec 32 := 0#32
  let v2241 : BitVec 1 := Scalar.cmpi .eq c2_i32_1465 c0_i32_1466
  let c1_i32_1467 : BitVec 32 := 1#32
  let v2242 : BitVec 32 := Scalar.select v2241 c1_i32_1467 c2_i32_1465
  let v2243 : BitVec 32 := Scalar.remsi v2240 v2242
  let c0_i32_1469 : BitVec 32 := 0#32
  let v2245 : BitVec 1 := Scalar.cmpi .slt v2243 c0_i32_1469
  let c0_i32_1470 : BitVec 32 := 0#32
  let v2246 : BitVec 1 := Scalar.cmpi .slt v2242 c0_i32_1470
  let v2247 : BitVec 1 := Scalar.xori v2245 v2246
  let c0_i32_1468 : BitVec 32 := 0#32
  let v2244 : BitVec 1 := Scalar.cmpi .ne v2243 c0_i32_1468
  let v2248 : BitVec 1 := Scalar.andi v2247 v2244
  let v2249 : BitVec 32 := Scalar.addi v2243 v2242
  let v2250 : BitVec 32 := Scalar.select v2248 v2249 v2243
  let c16_i32_1487 : BitVec 32 := 16#32
  let v2273 : BitVec 32 := Scalar.muli v2250 c16_i32_1487
  let v2274 : BitVec 32 := Scalar.addi c0_i32_1488 v2273
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1471 : BitVec 32 := 1#32
  let v2251 : BitVec 32 := Scalar.addi v5 c1_i32_1471
  let c4_i32_1472 : BitVec 32 := 4#32
  let c0_i32_1473 : BitVec 32 := 0#32
  let v2252 : BitVec 1 := Scalar.cmpi .eq c4_i32_1472 c0_i32_1473
  let c1_i32_1474 : BitVec 32 := 1#32
  let v2253 : BitVec 32 := Scalar.select v2252 c1_i32_1474 c4_i32_1472
  let v2254 : BitVec 32 := Scalar.remsi v2251 v2253
  let c0_i32_1476 : BitVec 32 := 0#32
  let v2256 : BitVec 1 := Scalar.cmpi .slt v2254 c0_i32_1476
  let c0_i32_1477 : BitVec 32 := 0#32
  let v2257 : BitVec 1 := Scalar.cmpi .slt v2253 c0_i32_1477
  let v2258 : BitVec 1 := Scalar.xori v2256 v2257
  let c0_i32_1475 : BitVec 32 := 0#32
  let v2255 : BitVec 1 := Scalar.cmpi .ne v2254 c0_i32_1475
  let v2259 : BitVec 1 := Scalar.andi v2258 v2255
  let v2260 : BitVec 32 := Scalar.addi v2254 v2253
  let v2261 : BitVec 32 := Scalar.select v2259 v2260 v2254
  let c4_i32_1489 : BitVec 32 := 4#32
  let v2275 : BitVec 32 := Scalar.muli v2261 c4_i32_1489
  let v2276 : BitVec 32 := Scalar.addi v2274 v2275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1478 : BitVec 32 := 3#32
  let v2262 : BitVec 32 := Scalar.addi v8 c3_i32_1478
  let c4_i32_1479 : BitVec 32 := 4#32
  let c0_i32_1480 : BitVec 32 := 0#32
  let v2263 : BitVec 1 := Scalar.cmpi .eq c4_i32_1479 c0_i32_1480
  let c1_i32_1481 : BitVec 32 := 1#32
  let v2264 : BitVec 32 := Scalar.select v2263 c1_i32_1481 c4_i32_1479
  let v2265 : BitVec 32 := Scalar.remsi v2262 v2264
  let c0_i32_1483 : BitVec 32 := 0#32
  let v2267 : BitVec 1 := Scalar.cmpi .slt v2265 c0_i32_1483
  let c0_i32_1484 : BitVec 32 := 0#32
  let v2268 : BitVec 1 := Scalar.cmpi .slt v2264 c0_i32_1484
  let v2269 : BitVec 1 := Scalar.xori v2267 v2268
  let c0_i32_1482 : BitVec 32 := 0#32
  let v2266 : BitVec 1 := Scalar.cmpi .ne v2265 c0_i32_1482
  let v2270 : BitVec 1 := Scalar.andi v2269 v2266
  let v2271 : BitVec 32 := Scalar.addi v2265 v2264
  let v2272 : BitVec 32 := Scalar.select v2270 v2271 v2265
  let c1_i32_1490 : BitVec 32 := 1#32
  let v2277 : BitVec 32 := Scalar.muli v2272 c1_i32_1490
  let v2278 : BitVec 32 := Scalar.addi v2276 v2277
  v2278.toNat
def k0_dev55 (d0 : Dev nD) : Nat :=
  let c0_i32_1517 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1493 : BitVec 32 := 1#32
  let v2285 : BitVec 32 := Scalar.addi v2 c1_i32_1493
  let c2_i32_1494 : BitVec 32 := 2#32
  let c0_i32_1495 : BitVec 32 := 0#32
  let v2286 : BitVec 1 := Scalar.cmpi .eq c2_i32_1494 c0_i32_1495
  let c1_i32_1496 : BitVec 32 := 1#32
  let v2287 : BitVec 32 := Scalar.select v2286 c1_i32_1496 c2_i32_1494
  let v2288 : BitVec 32 := Scalar.remsi v2285 v2287
  let c0_i32_1498 : BitVec 32 := 0#32
  let v2290 : BitVec 1 := Scalar.cmpi .slt v2288 c0_i32_1498
  let c0_i32_1499 : BitVec 32 := 0#32
  let v2291 : BitVec 1 := Scalar.cmpi .slt v2287 c0_i32_1499
  let v2292 : BitVec 1 := Scalar.xori v2290 v2291
  let c0_i32_1497 : BitVec 32 := 0#32
  let v2289 : BitVec 1 := Scalar.cmpi .ne v2288 c0_i32_1497
  let v2293 : BitVec 1 := Scalar.andi v2292 v2289
  let v2294 : BitVec 32 := Scalar.addi v2288 v2287
  let v2295 : BitVec 32 := Scalar.select v2293 v2294 v2288
  let c16_i32_1516 : BitVec 32 := 16#32
  let v2318 : BitVec 32 := Scalar.muli v2295 c16_i32_1516
  let v2319 : BitVec 32 := Scalar.addi c0_i32_1517 v2318
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1500 : BitVec 32 := 2#32
  let v2296 : BitVec 32 := Scalar.addi v5 c2_i32_1500
  let c4_i32_1501 : BitVec 32 := 4#32
  let c0_i32_1502 : BitVec 32 := 0#32
  let v2297 : BitVec 1 := Scalar.cmpi .eq c4_i32_1501 c0_i32_1502
  let c1_i32_1503 : BitVec 32 := 1#32
  let v2298 : BitVec 32 := Scalar.select v2297 c1_i32_1503 c4_i32_1501
  let v2299 : BitVec 32 := Scalar.remsi v2296 v2298
  let c0_i32_1505 : BitVec 32 := 0#32
  let v2301 : BitVec 1 := Scalar.cmpi .slt v2299 c0_i32_1505
  let c0_i32_1506 : BitVec 32 := 0#32
  let v2302 : BitVec 1 := Scalar.cmpi .slt v2298 c0_i32_1506
  let v2303 : BitVec 1 := Scalar.xori v2301 v2302
  let c0_i32_1504 : BitVec 32 := 0#32
  let v2300 : BitVec 1 := Scalar.cmpi .ne v2299 c0_i32_1504
  let v2304 : BitVec 1 := Scalar.andi v2303 v2300
  let v2305 : BitVec 32 := Scalar.addi v2299 v2298
  let v2306 : BitVec 32 := Scalar.select v2304 v2305 v2299
  let c4_i32_1518 : BitVec 32 := 4#32
  let v2320 : BitVec 32 := Scalar.muli v2306 c4_i32_1518
  let v2321 : BitVec 32 := Scalar.addi v2319 v2320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1507 : BitVec 32 := 0#32
  let v2307 : BitVec 32 := Scalar.addi v8 c0_i32_1507
  let c4_i32_1508 : BitVec 32 := 4#32
  let c0_i32_1509 : BitVec 32 := 0#32
  let v2308 : BitVec 1 := Scalar.cmpi .eq c4_i32_1508 c0_i32_1509
  let c1_i32_1510 : BitVec 32 := 1#32
  let v2309 : BitVec 32 := Scalar.select v2308 c1_i32_1510 c4_i32_1508
  let v2310 : BitVec 32 := Scalar.remsi v2307 v2309
  let c0_i32_1512 : BitVec 32 := 0#32
  let v2312 : BitVec 1 := Scalar.cmpi .slt v2310 c0_i32_1512
  let c0_i32_1513 : BitVec 32 := 0#32
  let v2313 : BitVec 1 := Scalar.cmpi .slt v2309 c0_i32_1513
  let v2314 : BitVec 1 := Scalar.xori v2312 v2313
  let c0_i32_1511 : BitVec 32 := 0#32
  let v2311 : BitVec 1 := Scalar.cmpi .ne v2310 c0_i32_1511
  let v2315 : BitVec 1 := Scalar.andi v2314 v2311
  let v2316 : BitVec 32 := Scalar.addi v2310 v2309
  let v2317 : BitVec 32 := Scalar.select v2315 v2316 v2310
  let c1_i32_1519 : BitVec 32 := 1#32
  let v2322 : BitVec 32 := Scalar.muli v2317 c1_i32_1519
  let v2323 : BitVec 32 := Scalar.addi v2321 v2322
  v2323.toNat
def k0_dev56 (d0 : Dev nD) : Nat :=
  let c0_i32_1546 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1522 : BitVec 32 := 1#32
  let v2330 : BitVec 32 := Scalar.addi v2 c1_i32_1522
  let c2_i32_1523 : BitVec 32 := 2#32
  let c0_i32_1524 : BitVec 32 := 0#32
  let v2331 : BitVec 1 := Scalar.cmpi .eq c2_i32_1523 c0_i32_1524
  let c1_i32_1525 : BitVec 32 := 1#32
  let v2332 : BitVec 32 := Scalar.select v2331 c1_i32_1525 c2_i32_1523
  let v2333 : BitVec 32 := Scalar.remsi v2330 v2332
  let c0_i32_1527 : BitVec 32 := 0#32
  let v2335 : BitVec 1 := Scalar.cmpi .slt v2333 c0_i32_1527
  let c0_i32_1528 : BitVec 32 := 0#32
  let v2336 : BitVec 1 := Scalar.cmpi .slt v2332 c0_i32_1528
  let v2337 : BitVec 1 := Scalar.xori v2335 v2336
  let c0_i32_1526 : BitVec 32 := 0#32
  let v2334 : BitVec 1 := Scalar.cmpi .ne v2333 c0_i32_1526
  let v2338 : BitVec 1 := Scalar.andi v2337 v2334
  let v2339 : BitVec 32 := Scalar.addi v2333 v2332
  let v2340 : BitVec 32 := Scalar.select v2338 v2339 v2333
  let c16_i32_1545 : BitVec 32 := 16#32
  let v2363 : BitVec 32 := Scalar.muli v2340 c16_i32_1545
  let v2364 : BitVec 32 := Scalar.addi c0_i32_1546 v2363
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1529 : BitVec 32 := 2#32
  let v2341 : BitVec 32 := Scalar.addi v5 c2_i32_1529
  let c4_i32_1530 : BitVec 32 := 4#32
  let c0_i32_1531 : BitVec 32 := 0#32
  let v2342 : BitVec 1 := Scalar.cmpi .eq c4_i32_1530 c0_i32_1531
  let c1_i32_1532 : BitVec 32 := 1#32
  let v2343 : BitVec 32 := Scalar.select v2342 c1_i32_1532 c4_i32_1530
  let v2344 : BitVec 32 := Scalar.remsi v2341 v2343
  let c0_i32_1534 : BitVec 32 := 0#32
  let v2346 : BitVec 1 := Scalar.cmpi .slt v2344 c0_i32_1534
  let c0_i32_1535 : BitVec 32 := 0#32
  let v2347 : BitVec 1 := Scalar.cmpi .slt v2343 c0_i32_1535
  let v2348 : BitVec 1 := Scalar.xori v2346 v2347
  let c0_i32_1533 : BitVec 32 := 0#32
  let v2345 : BitVec 1 := Scalar.cmpi .ne v2344 c0_i32_1533
  let v2349 : BitVec 1 := Scalar.andi v2348 v2345
  let v2350 : BitVec 32 := Scalar.addi v2344 v2343
  let v2351 : BitVec 32 := Scalar.select v2349 v2350 v2344
  let c4_i32_1547 : BitVec 32 := 4#32
  let v2365 : BitVec 32 := Scalar.muli v2351 c4_i32_1547
  let v2366 : BitVec 32 := Scalar.addi v2364 v2365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1536 : BitVec 32 := 1#32
  let v2352 : BitVec 32 := Scalar.addi v8 c1_i32_1536
  let c4_i32_1537 : BitVec 32 := 4#32
  let c0_i32_1538 : BitVec 32 := 0#32
  let v2353 : BitVec 1 := Scalar.cmpi .eq c4_i32_1537 c0_i32_1538
  let c1_i32_1539 : BitVec 32 := 1#32
  let v2354 : BitVec 32 := Scalar.select v2353 c1_i32_1539 c4_i32_1537
  let v2355 : BitVec 32 := Scalar.remsi v2352 v2354
  let c0_i32_1541 : BitVec 32 := 0#32
  let v2357 : BitVec 1 := Scalar.cmpi .slt v2355 c0_i32_1541
  let c0_i32_1542 : BitVec 32 := 0#32
  let v2358 : BitVec 1 := Scalar.cmpi .slt v2354 c0_i32_1542
  let v2359 : BitVec 1 := Scalar.xori v2357 v2358
  let c0_i32_1540 : BitVec 32 := 0#32
  let v2356 : BitVec 1 := Scalar.cmpi .ne v2355 c0_i32_1540
  let v2360 : BitVec 1 := Scalar.andi v2359 v2356
  let v2361 : BitVec 32 := Scalar.addi v2355 v2354
  let v2362 : BitVec 32 := Scalar.select v2360 v2361 v2355
  let c1_i32_1548 : BitVec 32 := 1#32
  let v2367 : BitVec 32 := Scalar.muli v2362 c1_i32_1548
  let v2368 : BitVec 32 := Scalar.addi v2366 v2367
  v2368.toNat
def k0_dev57 (d0 : Dev nD) : Nat :=
  let c0_i32_1575 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1551 : BitVec 32 := 1#32
  let v2375 : BitVec 32 := Scalar.addi v2 c1_i32_1551
  let c2_i32_1552 : BitVec 32 := 2#32
  let c0_i32_1553 : BitVec 32 := 0#32
  let v2376 : BitVec 1 := Scalar.cmpi .eq c2_i32_1552 c0_i32_1553
  let c1_i32_1554 : BitVec 32 := 1#32
  let v2377 : BitVec 32 := Scalar.select v2376 c1_i32_1554 c2_i32_1552
  let v2378 : BitVec 32 := Scalar.remsi v2375 v2377
  let c0_i32_1556 : BitVec 32 := 0#32
  let v2380 : BitVec 1 := Scalar.cmpi .slt v2378 c0_i32_1556
  let c0_i32_1557 : BitVec 32 := 0#32
  let v2381 : BitVec 1 := Scalar.cmpi .slt v2377 c0_i32_1557
  let v2382 : BitVec 1 := Scalar.xori v2380 v2381
  let c0_i32_1555 : BitVec 32 := 0#32
  let v2379 : BitVec 1 := Scalar.cmpi .ne v2378 c0_i32_1555
  let v2383 : BitVec 1 := Scalar.andi v2382 v2379
  let v2384 : BitVec 32 := Scalar.addi v2378 v2377
  let v2385 : BitVec 32 := Scalar.select v2383 v2384 v2378
  let c16_i32_1574 : BitVec 32 := 16#32
  let v2408 : BitVec 32 := Scalar.muli v2385 c16_i32_1574
  let v2409 : BitVec 32 := Scalar.addi c0_i32_1575 v2408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1558 : BitVec 32 := 2#32
  let v2386 : BitVec 32 := Scalar.addi v5 c2_i32_1558
  let c4_i32_1559 : BitVec 32 := 4#32
  let c0_i32_1560 : BitVec 32 := 0#32
  let v2387 : BitVec 1 := Scalar.cmpi .eq c4_i32_1559 c0_i32_1560
  let c1_i32_1561 : BitVec 32 := 1#32
  let v2388 : BitVec 32 := Scalar.select v2387 c1_i32_1561 c4_i32_1559
  let v2389 : BitVec 32 := Scalar.remsi v2386 v2388
  let c0_i32_1563 : BitVec 32 := 0#32
  let v2391 : BitVec 1 := Scalar.cmpi .slt v2389 c0_i32_1563
  let c0_i32_1564 : BitVec 32 := 0#32
  let v2392 : BitVec 1 := Scalar.cmpi .slt v2388 c0_i32_1564
  let v2393 : BitVec 1 := Scalar.xori v2391 v2392
  let c0_i32_1562 : BitVec 32 := 0#32
  let v2390 : BitVec 1 := Scalar.cmpi .ne v2389 c0_i32_1562
  let v2394 : BitVec 1 := Scalar.andi v2393 v2390
  let v2395 : BitVec 32 := Scalar.addi v2389 v2388
  let v2396 : BitVec 32 := Scalar.select v2394 v2395 v2389
  let c4_i32_1576 : BitVec 32 := 4#32
  let v2410 : BitVec 32 := Scalar.muli v2396 c4_i32_1576
  let v2411 : BitVec 32 := Scalar.addi v2409 v2410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1565 : BitVec 32 := 2#32
  let v2397 : BitVec 32 := Scalar.addi v8 c2_i32_1565
  let c4_i32_1566 : BitVec 32 := 4#32
  let c0_i32_1567 : BitVec 32 := 0#32
  let v2398 : BitVec 1 := Scalar.cmpi .eq c4_i32_1566 c0_i32_1567
  let c1_i32_1568 : BitVec 32 := 1#32
  let v2399 : BitVec 32 := Scalar.select v2398 c1_i32_1568 c4_i32_1566
  let v2400 : BitVec 32 := Scalar.remsi v2397 v2399
  let c0_i32_1570 : BitVec 32 := 0#32
  let v2402 : BitVec 1 := Scalar.cmpi .slt v2400 c0_i32_1570
  let c0_i32_1571 : BitVec 32 := 0#32
  let v2403 : BitVec 1 := Scalar.cmpi .slt v2399 c0_i32_1571
  let v2404 : BitVec 1 := Scalar.xori v2402 v2403
  let c0_i32_1569 : BitVec 32 := 0#32
  let v2401 : BitVec 1 := Scalar.cmpi .ne v2400 c0_i32_1569
  let v2405 : BitVec 1 := Scalar.andi v2404 v2401
  let v2406 : BitVec 32 := Scalar.addi v2400 v2399
  let v2407 : BitVec 32 := Scalar.select v2405 v2406 v2400
  let c1_i32_1577 : BitVec 32 := 1#32
  let v2412 : BitVec 32 := Scalar.muli v2407 c1_i32_1577
  let v2413 : BitVec 32 := Scalar.addi v2411 v2412
  v2413.toNat
def k0_dev58 (d0 : Dev nD) : Nat :=
  let c0_i32_1604 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1580 : BitVec 32 := 1#32
  let v2420 : BitVec 32 := Scalar.addi v2 c1_i32_1580
  let c2_i32_1581 : BitVec 32 := 2#32
  let c0_i32_1582 : BitVec 32 := 0#32
  let v2421 : BitVec 1 := Scalar.cmpi .eq c2_i32_1581 c0_i32_1582
  let c1_i32_1583 : BitVec 32 := 1#32
  let v2422 : BitVec 32 := Scalar.select v2421 c1_i32_1583 c2_i32_1581
  let v2423 : BitVec 32 := Scalar.remsi v2420 v2422
  let c0_i32_1585 : BitVec 32 := 0#32
  let v2425 : BitVec 1 := Scalar.cmpi .slt v2423 c0_i32_1585
  let c0_i32_1586 : BitVec 32 := 0#32
  let v2426 : BitVec 1 := Scalar.cmpi .slt v2422 c0_i32_1586
  let v2427 : BitVec 1 := Scalar.xori v2425 v2426
  let c0_i32_1584 : BitVec 32 := 0#32
  let v2424 : BitVec 1 := Scalar.cmpi .ne v2423 c0_i32_1584
  let v2428 : BitVec 1 := Scalar.andi v2427 v2424
  let v2429 : BitVec 32 := Scalar.addi v2423 v2422
  let v2430 : BitVec 32 := Scalar.select v2428 v2429 v2423
  let c16_i32_1603 : BitVec 32 := 16#32
  let v2453 : BitVec 32 := Scalar.muli v2430 c16_i32_1603
  let v2454 : BitVec 32 := Scalar.addi c0_i32_1604 v2453
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1587 : BitVec 32 := 2#32
  let v2431 : BitVec 32 := Scalar.addi v5 c2_i32_1587
  let c4_i32_1588 : BitVec 32 := 4#32
  let c0_i32_1589 : BitVec 32 := 0#32
  let v2432 : BitVec 1 := Scalar.cmpi .eq c4_i32_1588 c0_i32_1589
  let c1_i32_1590 : BitVec 32 := 1#32
  let v2433 : BitVec 32 := Scalar.select v2432 c1_i32_1590 c4_i32_1588
  let v2434 : BitVec 32 := Scalar.remsi v2431 v2433
  let c0_i32_1592 : BitVec 32 := 0#32
  let v2436 : BitVec 1 := Scalar.cmpi .slt v2434 c0_i32_1592
  let c0_i32_1593 : BitVec 32 := 0#32
  let v2437 : BitVec 1 := Scalar.cmpi .slt v2433 c0_i32_1593
  let v2438 : BitVec 1 := Scalar.xori v2436 v2437
  let c0_i32_1591 : BitVec 32 := 0#32
  let v2435 : BitVec 1 := Scalar.cmpi .ne v2434 c0_i32_1591
  let v2439 : BitVec 1 := Scalar.andi v2438 v2435
  let v2440 : BitVec 32 := Scalar.addi v2434 v2433
  let v2441 : BitVec 32 := Scalar.select v2439 v2440 v2434
  let c4_i32_1605 : BitVec 32 := 4#32
  let v2455 : BitVec 32 := Scalar.muli v2441 c4_i32_1605
  let v2456 : BitVec 32 := Scalar.addi v2454 v2455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1594 : BitVec 32 := 3#32
  let v2442 : BitVec 32 := Scalar.addi v8 c3_i32_1594
  let c4_i32_1595 : BitVec 32 := 4#32
  let c0_i32_1596 : BitVec 32 := 0#32
  let v2443 : BitVec 1 := Scalar.cmpi .eq c4_i32_1595 c0_i32_1596
  let c1_i32_1597 : BitVec 32 := 1#32
  let v2444 : BitVec 32 := Scalar.select v2443 c1_i32_1597 c4_i32_1595
  let v2445 : BitVec 32 := Scalar.remsi v2442 v2444
  let c0_i32_1599 : BitVec 32 := 0#32
  let v2447 : BitVec 1 := Scalar.cmpi .slt v2445 c0_i32_1599
  let c0_i32_1600 : BitVec 32 := 0#32
  let v2448 : BitVec 1 := Scalar.cmpi .slt v2444 c0_i32_1600
  let v2449 : BitVec 1 := Scalar.xori v2447 v2448
  let c0_i32_1598 : BitVec 32 := 0#32
  let v2446 : BitVec 1 := Scalar.cmpi .ne v2445 c0_i32_1598
  let v2450 : BitVec 1 := Scalar.andi v2449 v2446
  let v2451 : BitVec 32 := Scalar.addi v2445 v2444
  let v2452 : BitVec 32 := Scalar.select v2450 v2451 v2445
  let c1_i32_1606 : BitVec 32 := 1#32
  let v2457 : BitVec 32 := Scalar.muli v2452 c1_i32_1606
  let v2458 : BitVec 32 := Scalar.addi v2456 v2457
  v2458.toNat
def k0_dev59 (d0 : Dev nD) : Nat :=
  let c0_i32_1633 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1609 : BitVec 32 := 1#32
  let v2465 : BitVec 32 := Scalar.addi v2 c1_i32_1609
  let c2_i32_1610 : BitVec 32 := 2#32
  let c0_i32_1611 : BitVec 32 := 0#32
  let v2466 : BitVec 1 := Scalar.cmpi .eq c2_i32_1610 c0_i32_1611
  let c1_i32_1612 : BitVec 32 := 1#32
  let v2467 : BitVec 32 := Scalar.select v2466 c1_i32_1612 c2_i32_1610
  let v2468 : BitVec 32 := Scalar.remsi v2465 v2467
  let c0_i32_1614 : BitVec 32 := 0#32
  let v2470 : BitVec 1 := Scalar.cmpi .slt v2468 c0_i32_1614
  let c0_i32_1615 : BitVec 32 := 0#32
  let v2471 : BitVec 1 := Scalar.cmpi .slt v2467 c0_i32_1615
  let v2472 : BitVec 1 := Scalar.xori v2470 v2471
  let c0_i32_1613 : BitVec 32 := 0#32
  let v2469 : BitVec 1 := Scalar.cmpi .ne v2468 c0_i32_1613
  let v2473 : BitVec 1 := Scalar.andi v2472 v2469
  let v2474 : BitVec 32 := Scalar.addi v2468 v2467
  let v2475 : BitVec 32 := Scalar.select v2473 v2474 v2468
  let c16_i32_1632 : BitVec 32 := 16#32
  let v2498 : BitVec 32 := Scalar.muli v2475 c16_i32_1632
  let v2499 : BitVec 32 := Scalar.addi c0_i32_1633 v2498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1616 : BitVec 32 := 3#32
  let v2476 : BitVec 32 := Scalar.addi v5 c3_i32_1616
  let c4_i32_1617 : BitVec 32 := 4#32
  let c0_i32_1618 : BitVec 32 := 0#32
  let v2477 : BitVec 1 := Scalar.cmpi .eq c4_i32_1617 c0_i32_1618
  let c1_i32_1619 : BitVec 32 := 1#32
  let v2478 : BitVec 32 := Scalar.select v2477 c1_i32_1619 c4_i32_1617
  let v2479 : BitVec 32 := Scalar.remsi v2476 v2478
  let c0_i32_1621 : BitVec 32 := 0#32
  let v2481 : BitVec 1 := Scalar.cmpi .slt v2479 c0_i32_1621
  let c0_i32_1622 : BitVec 32 := 0#32
  let v2482 : BitVec 1 := Scalar.cmpi .slt v2478 c0_i32_1622
  let v2483 : BitVec 1 := Scalar.xori v2481 v2482
  let c0_i32_1620 : BitVec 32 := 0#32
  let v2480 : BitVec 1 := Scalar.cmpi .ne v2479 c0_i32_1620
  let v2484 : BitVec 1 := Scalar.andi v2483 v2480
  let v2485 : BitVec 32 := Scalar.addi v2479 v2478
  let v2486 : BitVec 32 := Scalar.select v2484 v2485 v2479
  let c4_i32_1634 : BitVec 32 := 4#32
  let v2500 : BitVec 32 := Scalar.muli v2486 c4_i32_1634
  let v2501 : BitVec 32 := Scalar.addi v2499 v2500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1623 : BitVec 32 := 0#32
  let v2487 : BitVec 32 := Scalar.addi v8 c0_i32_1623
  let c4_i32_1624 : BitVec 32 := 4#32
  let c0_i32_1625 : BitVec 32 := 0#32
  let v2488 : BitVec 1 := Scalar.cmpi .eq c4_i32_1624 c0_i32_1625
  let c1_i32_1626 : BitVec 32 := 1#32
  let v2489 : BitVec 32 := Scalar.select v2488 c1_i32_1626 c4_i32_1624
  let v2490 : BitVec 32 := Scalar.remsi v2487 v2489
  let c0_i32_1628 : BitVec 32 := 0#32
  let v2492 : BitVec 1 := Scalar.cmpi .slt v2490 c0_i32_1628
  let c0_i32_1629 : BitVec 32 := 0#32
  let v2493 : BitVec 1 := Scalar.cmpi .slt v2489 c0_i32_1629
  let v2494 : BitVec 1 := Scalar.xori v2492 v2493
  let c0_i32_1627 : BitVec 32 := 0#32
  let v2491 : BitVec 1 := Scalar.cmpi .ne v2490 c0_i32_1627
  let v2495 : BitVec 1 := Scalar.andi v2494 v2491
  let v2496 : BitVec 32 := Scalar.addi v2490 v2489
  let v2497 : BitVec 32 := Scalar.select v2495 v2496 v2490
  let c1_i32_1635 : BitVec 32 := 1#32
  let v2502 : BitVec 32 := Scalar.muli v2497 c1_i32_1635
  let v2503 : BitVec 32 := Scalar.addi v2501 v2502
  v2503.toNat
def k0_dev60 (d0 : Dev nD) : Nat :=
  let c0_i32_1662 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1638 : BitVec 32 := 1#32
  let v2510 : BitVec 32 := Scalar.addi v2 c1_i32_1638
  let c2_i32_1639 : BitVec 32 := 2#32
  let c0_i32_1640 : BitVec 32 := 0#32
  let v2511 : BitVec 1 := Scalar.cmpi .eq c2_i32_1639 c0_i32_1640
  let c1_i32_1641 : BitVec 32 := 1#32
  let v2512 : BitVec 32 := Scalar.select v2511 c1_i32_1641 c2_i32_1639
  let v2513 : BitVec 32 := Scalar.remsi v2510 v2512
  let c0_i32_1643 : BitVec 32 := 0#32
  let v2515 : BitVec 1 := Scalar.cmpi .slt v2513 c0_i32_1643
  let c0_i32_1644 : BitVec 32 := 0#32
  let v2516 : BitVec 1 := Scalar.cmpi .slt v2512 c0_i32_1644
  let v2517 : BitVec 1 := Scalar.xori v2515 v2516
  let c0_i32_1642 : BitVec 32 := 0#32
  let v2514 : BitVec 1 := Scalar.cmpi .ne v2513 c0_i32_1642
  let v2518 : BitVec 1 := Scalar.andi v2517 v2514
  let v2519 : BitVec 32 := Scalar.addi v2513 v2512
  let v2520 : BitVec 32 := Scalar.select v2518 v2519 v2513
  let c16_i32_1661 : BitVec 32 := 16#32
  let v2543 : BitVec 32 := Scalar.muli v2520 c16_i32_1661
  let v2544 : BitVec 32 := Scalar.addi c0_i32_1662 v2543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1645 : BitVec 32 := 3#32
  let v2521 : BitVec 32 := Scalar.addi v5 c3_i32_1645
  let c4_i32_1646 : BitVec 32 := 4#32
  let c0_i32_1647 : BitVec 32 := 0#32
  let v2522 : BitVec 1 := Scalar.cmpi .eq c4_i32_1646 c0_i32_1647
  let c1_i32_1648 : BitVec 32 := 1#32
  let v2523 : BitVec 32 := Scalar.select v2522 c1_i32_1648 c4_i32_1646
  let v2524 : BitVec 32 := Scalar.remsi v2521 v2523
  let c0_i32_1650 : BitVec 32 := 0#32
  let v2526 : BitVec 1 := Scalar.cmpi .slt v2524 c0_i32_1650
  let c0_i32_1651 : BitVec 32 := 0#32
  let v2527 : BitVec 1 := Scalar.cmpi .slt v2523 c0_i32_1651
  let v2528 : BitVec 1 := Scalar.xori v2526 v2527
  let c0_i32_1649 : BitVec 32 := 0#32
  let v2525 : BitVec 1 := Scalar.cmpi .ne v2524 c0_i32_1649
  let v2529 : BitVec 1 := Scalar.andi v2528 v2525
  let v2530 : BitVec 32 := Scalar.addi v2524 v2523
  let v2531 : BitVec 32 := Scalar.select v2529 v2530 v2524
  let c4_i32_1663 : BitVec 32 := 4#32
  let v2545 : BitVec 32 := Scalar.muli v2531 c4_i32_1663
  let v2546 : BitVec 32 := Scalar.addi v2544 v2545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1652 : BitVec 32 := 1#32
  let v2532 : BitVec 32 := Scalar.addi v8 c1_i32_1652
  let c4_i32_1653 : BitVec 32 := 4#32
  let c0_i32_1654 : BitVec 32 := 0#32
  let v2533 : BitVec 1 := Scalar.cmpi .eq c4_i32_1653 c0_i32_1654
  let c1_i32_1655 : BitVec 32 := 1#32
  let v2534 : BitVec 32 := Scalar.select v2533 c1_i32_1655 c4_i32_1653
  let v2535 : BitVec 32 := Scalar.remsi v2532 v2534
  let c0_i32_1657 : BitVec 32 := 0#32
  let v2537 : BitVec 1 := Scalar.cmpi .slt v2535 c0_i32_1657
  let c0_i32_1658 : BitVec 32 := 0#32
  let v2538 : BitVec 1 := Scalar.cmpi .slt v2534 c0_i32_1658
  let v2539 : BitVec 1 := Scalar.xori v2537 v2538
  let c0_i32_1656 : BitVec 32 := 0#32
  let v2536 : BitVec 1 := Scalar.cmpi .ne v2535 c0_i32_1656
  let v2540 : BitVec 1 := Scalar.andi v2539 v2536
  let v2541 : BitVec 32 := Scalar.addi v2535 v2534
  let v2542 : BitVec 32 := Scalar.select v2540 v2541 v2535
  let c1_i32_1664 : BitVec 32 := 1#32
  let v2547 : BitVec 32 := Scalar.muli v2542 c1_i32_1664
  let v2548 : BitVec 32 := Scalar.addi v2546 v2547
  v2548.toNat
def k0_dev61 (d0 : Dev nD) : Nat :=
  let c0_i32_1691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1667 : BitVec 32 := 1#32
  let v2555 : BitVec 32 := Scalar.addi v2 c1_i32_1667
  let c2_i32_1668 : BitVec 32 := 2#32
  let c0_i32_1669 : BitVec 32 := 0#32
  let v2556 : BitVec 1 := Scalar.cmpi .eq c2_i32_1668 c0_i32_1669
  let c1_i32_1670 : BitVec 32 := 1#32
  let v2557 : BitVec 32 := Scalar.select v2556 c1_i32_1670 c2_i32_1668
  let v2558 : BitVec 32 := Scalar.remsi v2555 v2557
  let c0_i32_1672 : BitVec 32 := 0#32
  let v2560 : BitVec 1 := Scalar.cmpi .slt v2558 c0_i32_1672
  let c0_i32_1673 : BitVec 32 := 0#32
  let v2561 : BitVec 1 := Scalar.cmpi .slt v2557 c0_i32_1673
  let v2562 : BitVec 1 := Scalar.xori v2560 v2561
  let c0_i32_1671 : BitVec 32 := 0#32
  let v2559 : BitVec 1 := Scalar.cmpi .ne v2558 c0_i32_1671
  let v2563 : BitVec 1 := Scalar.andi v2562 v2559
  let v2564 : BitVec 32 := Scalar.addi v2558 v2557
  let v2565 : BitVec 32 := Scalar.select v2563 v2564 v2558
  let c16_i32_1690 : BitVec 32 := 16#32
  let v2588 : BitVec 32 := Scalar.muli v2565 c16_i32_1690
  let v2589 : BitVec 32 := Scalar.addi c0_i32_1691 v2588
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1674 : BitVec 32 := 3#32
  let v2566 : BitVec 32 := Scalar.addi v5 c3_i32_1674
  let c4_i32_1675 : BitVec 32 := 4#32
  let c0_i32_1676 : BitVec 32 := 0#32
  let v2567 : BitVec 1 := Scalar.cmpi .eq c4_i32_1675 c0_i32_1676
  let c1_i32_1677 : BitVec 32 := 1#32
  let v2568 : BitVec 32 := Scalar.select v2567 c1_i32_1677 c4_i32_1675
  let v2569 : BitVec 32 := Scalar.remsi v2566 v2568
  let c0_i32_1679 : BitVec 32 := 0#32
  let v2571 : BitVec 1 := Scalar.cmpi .slt v2569 c0_i32_1679
  let c0_i32_1680 : BitVec 32 := 0#32
  let v2572 : BitVec 1 := Scalar.cmpi .slt v2568 c0_i32_1680
  let v2573 : BitVec 1 := Scalar.xori v2571 v2572
  let c0_i32_1678 : BitVec 32 := 0#32
  let v2570 : BitVec 1 := Scalar.cmpi .ne v2569 c0_i32_1678
  let v2574 : BitVec 1 := Scalar.andi v2573 v2570
  let v2575 : BitVec 32 := Scalar.addi v2569 v2568
  let v2576 : BitVec 32 := Scalar.select v2574 v2575 v2569
  let c4_i32_1692 : BitVec 32 := 4#32
  let v2590 : BitVec 32 := Scalar.muli v2576 c4_i32_1692
  let v2591 : BitVec 32 := Scalar.addi v2589 v2590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1681 : BitVec 32 := 2#32
  let v2577 : BitVec 32 := Scalar.addi v8 c2_i32_1681
  let c4_i32_1682 : BitVec 32 := 4#32
  let c0_i32_1683 : BitVec 32 := 0#32
  let v2578 : BitVec 1 := Scalar.cmpi .eq c4_i32_1682 c0_i32_1683
  let c1_i32_1684 : BitVec 32 := 1#32
  let v2579 : BitVec 32 := Scalar.select v2578 c1_i32_1684 c4_i32_1682
  let v2580 : BitVec 32 := Scalar.remsi v2577 v2579
  let c0_i32_1686 : BitVec 32 := 0#32
  let v2582 : BitVec 1 := Scalar.cmpi .slt v2580 c0_i32_1686
  let c0_i32_1687 : BitVec 32 := 0#32
  let v2583 : BitVec 1 := Scalar.cmpi .slt v2579 c0_i32_1687
  let v2584 : BitVec 1 := Scalar.xori v2582 v2583
  let c0_i32_1685 : BitVec 32 := 0#32
  let v2581 : BitVec 1 := Scalar.cmpi .ne v2580 c0_i32_1685
  let v2585 : BitVec 1 := Scalar.andi v2584 v2581
  let v2586 : BitVec 32 := Scalar.addi v2580 v2579
  let v2587 : BitVec 32 := Scalar.select v2585 v2586 v2580
  let c1_i32_1693 : BitVec 32 := 1#32
  let v2592 : BitVec 32 := Scalar.muli v2587 c1_i32_1693
  let v2593 : BitVec 32 := Scalar.addi v2591 v2592
  v2593.toNat
def k0_dev62 (d0 : Dev nD) : Nat :=
  let c0_i32_1720 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1696 : BitVec 32 := 1#32
  let v2600 : BitVec 32 := Scalar.addi v2 c1_i32_1696
  let c2_i32_1697 : BitVec 32 := 2#32
  let c0_i32_1698 : BitVec 32 := 0#32
  let v2601 : BitVec 1 := Scalar.cmpi .eq c2_i32_1697 c0_i32_1698
  let c1_i32_1699 : BitVec 32 := 1#32
  let v2602 : BitVec 32 := Scalar.select v2601 c1_i32_1699 c2_i32_1697
  let v2603 : BitVec 32 := Scalar.remsi v2600 v2602
  let c0_i32_1701 : BitVec 32 := 0#32
  let v2605 : BitVec 1 := Scalar.cmpi .slt v2603 c0_i32_1701
  let c0_i32_1702 : BitVec 32 := 0#32
  let v2606 : BitVec 1 := Scalar.cmpi .slt v2602 c0_i32_1702
  let v2607 : BitVec 1 := Scalar.xori v2605 v2606
  let c0_i32_1700 : BitVec 32 := 0#32
  let v2604 : BitVec 1 := Scalar.cmpi .ne v2603 c0_i32_1700
  let v2608 : BitVec 1 := Scalar.andi v2607 v2604
  let v2609 : BitVec 32 := Scalar.addi v2603 v2602
  let v2610 : BitVec 32 := Scalar.select v2608 v2609 v2603
  let c16_i32_1719 : BitVec 32 := 16#32
  let v2633 : BitVec 32 := Scalar.muli v2610 c16_i32_1719
  let v2634 : BitVec 32 := Scalar.addi c0_i32_1720 v2633
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1703 : BitVec 32 := 3#32
  let v2611 : BitVec 32 := Scalar.addi v5 c3_i32_1703
  let c4_i32_1704 : BitVec 32 := 4#32
  let c0_i32_1705 : BitVec 32 := 0#32
  let v2612 : BitVec 1 := Scalar.cmpi .eq c4_i32_1704 c0_i32_1705
  let c1_i32_1706 : BitVec 32 := 1#32
  let v2613 : BitVec 32 := Scalar.select v2612 c1_i32_1706 c4_i32_1704
  let v2614 : BitVec 32 := Scalar.remsi v2611 v2613
  let c0_i32_1708 : BitVec 32 := 0#32
  let v2616 : BitVec 1 := Scalar.cmpi .slt v2614 c0_i32_1708
  let c0_i32_1709 : BitVec 32 := 0#32
  let v2617 : BitVec 1 := Scalar.cmpi .slt v2613 c0_i32_1709
  let v2618 : BitVec 1 := Scalar.xori v2616 v2617
  let c0_i32_1707 : BitVec 32 := 0#32
  let v2615 : BitVec 1 := Scalar.cmpi .ne v2614 c0_i32_1707
  let v2619 : BitVec 1 := Scalar.andi v2618 v2615
  let v2620 : BitVec 32 := Scalar.addi v2614 v2613
  let v2621 : BitVec 32 := Scalar.select v2619 v2620 v2614
  let c4_i32_1721 : BitVec 32 := 4#32
  let v2635 : BitVec 32 := Scalar.muli v2621 c4_i32_1721
  let v2636 : BitVec 32 := Scalar.addi v2634 v2635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1710 : BitVec 32 := 3#32
  let v2622 : BitVec 32 := Scalar.addi v8 c3_i32_1710
  let c4_i32_1711 : BitVec 32 := 4#32
  let c0_i32_1712 : BitVec 32 := 0#32
  let v2623 : BitVec 1 := Scalar.cmpi .eq c4_i32_1711 c0_i32_1712
  let c1_i32_1713 : BitVec 32 := 1#32
  let v2624 : BitVec 32 := Scalar.select v2623 c1_i32_1713 c4_i32_1711
  let v2625 : BitVec 32 := Scalar.remsi v2622 v2624
  let c0_i32_1715 : BitVec 32 := 0#32
  let v2627 : BitVec 1 := Scalar.cmpi .slt v2625 c0_i32_1715
  let c0_i32_1716 : BitVec 32 := 0#32
  let v2628 : BitVec 1 := Scalar.cmpi .slt v2624 c0_i32_1716
  let v2629 : BitVec 1 := Scalar.xori v2627 v2628
  let c0_i32_1714 : BitVec 32 := 0#32
  let v2626 : BitVec 1 := Scalar.cmpi .ne v2625 c0_i32_1714
  let v2630 : BitVec 1 := Scalar.andi v2629 v2626
  let v2631 : BitVec 32 := Scalar.addi v2625 v2624
  let v2632 : BitVec 32 := Scalar.select v2630 v2631 v2625
  let c1_i32_1722 : BitVec 32 := 1#32
  let v2637 : BitVec 32 := Scalar.muli v2632 c1_i32_1722
  let v2638 : BitVec 32 := Scalar.addi v2636 v2637
  v2638.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Mesh.lean ====
/-
The mesh of 32 devices (2 x 4 x 4), the 31 offsets of the all-to-all exchange and the kernel's device words.
-/
module

public import proofs.«01_k».proof.Proof.Gen.KernelIdeal

@[expose] public section

noncomputable section

namespace Cert.LseProof

open Cert.KernelIdeal Cert.KernelIdeal.Gen
open Idealize.ShloMosaic

/-- The device at offset number `k + 1` from `c`: the three mesh coordinates of `c` and of the offset added each in
    its own cyclic group (2, 4 and 4). -/
def peer (c : Dev nD) (k : Fin 31) : Dev nD :=
  ⟨((c.val / 16 + (k.val + 1) / 16) % 2) * 16 + ((c.val / 4 % 4 + (k.val + 1) / 4 % 4) % 4) * 4
      + (c.val % 4 + (k.val + 1) % 4) % 4, by show _ < 32; omega⟩

/-- The number of the opposite offset. -/
def neg (k : Fin 31) : Fin 31 :=
  ⟨((k.val + 1) / 16) * 16 + ((4 - (k.val + 1) / 4 % 4) % 4) * 4 + (4 - (k.val + 1) % 4) % 4 - 1, by
    have := k.isLt; omega⟩

theorem neg_neg (k : Fin 31) : neg (neg k) = k := by revert k; decide +kernel
theorem peer_neg (c : Dev nD) (k : Fin 31) : peer (peer c k) (neg k) = c := by revert c k; decide +kernel
theorem neg_peer (c : Dev nD) (k : Fin 31) : peer (peer c (neg k)) k = c := by revert c k; decide +kernel
theorem peer_ne (c : Dev nD) (k : Fin 31) : peer c k ≠ c := by revert c k; decide +kernel
theorem peer_inj (c : Dev nD) (k k' : Fin 31) (h : peer c k = peer c k') : k = k' := by
  revert c k k'; decide +kernel
theorem peer_surj (c d : Dev nD) (h : d ≠ c) : ∃ k, peer c k = d := by revert c d; decide +kernel

/-- Going to the device at offset `k`, and back. -/
def shift (k : Fin 31) : Dev nD ≃ Dev nD :=
  ⟨fun c => peer c k, fun c => peer c (neg k), fun c => peer_neg c k, fun c => neg_peer c k⟩

/-- The offsets, each sent to its opposite. -/
def flip : Fin 31 ≃ Fin 31 := ⟨neg, neg, neg_neg, neg_neg⟩

/-- The targets of the kernel's 31 barrier signals, as the kernel computes them. -/
def sigDev (k : Fin 31) (d : Dev nD) : Dev nD :=
  (![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩] : Fin 31 → Dev nD) k

/-- The targets of the kernel's 31 remote copies, as the kernel computes them. -/
def cpyDev (k : Fin 31) (d : Dev nD) : Dev nD :=
  (![⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩] : Fin 31 → Dev nD) k

theorem sigDev_eq (k : Fin 31) (d : Dev nD) : sigDev k d = peer d k := by
  revert k d; decide +kernel
theorem cpyDev_eq (k : Fin 31) (d : Dev nD) : cpyDev k d = peer d k := by
  revert k d; decide +kernel

end Cert.LseProof

end
-- ==== Proof.Flat.lean ====
/-
The kernel's body in loop form: the same operations in the same order, the four runs of 31 written as folds over
the offset numbers.
-/
module

public import proofs.«01_k».proof.Proof.Mesh
public import proofs.«01_k».proof.Proof.Gen.KernelIdeal.Skeleton
public import proofs.«01_k».proof.Proof.Gen.KernelIdeal.Points
public import Idealize.ShloMosaic.Lib.Pipeline.Regions

@[expose] public section

noncomputable section

namespace Cert.LseProof

open Cert.KernelIdeal Cert.KernelIdeal.Gen
open Idealize.ShloMosaic Idealize.SL Idealize.SL.Sem

variable {F : FTy → Type} [FloatOps F]

/-! ## The buffers and the semaphores -/

abbrev xM : Memref sig .tc .vmem S1024x2048 .f32 := Memref.whole cc0_stg0_0
abbrev lM : Memref sig .tc .vmem S1024 .i32 := Memref.whole cc0_stg1_0
abbrev oM : Memref sig .tc .vmem S1024 .f32 := Memref.whole cc0_stg2_0
abbrev gM : Memref sig .tc .hbm S2048x16384 .f32 := Memref.whole main_arg1
abbrev wM : Memref sig .tc .vmem S2048x1024 .f32 := Memref.whole cc0_scratch0
abbrev aM : Memref sig .tc .vmem S2x1024 .f32 := Memref.whole cc0_scratch1
abbrev rM : Memref sig .tc .vmem S31x2x1024 .f32 := Memref.whole cc0_scratch2

/-- Slot `k` lies inside the receive buffer. -/
theorem slot_inb (k : Fin 31) : ∀ a, (![k.val, 0, 0] : Fin 3 → ℕ) a + S1x2x1024.size a ≤ S31x2x1024.size a := by
  revert k; decide
theorem sem_inb (k : Fin 31) : ∀ a, (![k.val] : Fin 1 → ℕ) a + S1.size a ≤ S31.size a := by
  revert k; decide

/-- Slot `k` of the receive buffer, as a 2 x 1024 array. -/
abbrev slotM (k : Fin 31) : Memref sig .tc .vmem S2x1024 .f32 :=
  (rM.slice (Rect.unit (s := S31x2x1024) ![k.val, 0, 0] S1x2x1024.size (slot_inb k)) (fun _ => rfl)).squeeze S2x1024
    squeezes_S1x2x1024_S2x1024

/-- The device's own 1024 columns inside its block of W. -/
abbrev wSrc (d : Dev nD) : Memref sig .tc .hbm S2048x1024 .f32 :=
  gM.slice (Rect.unit (s := S2048x16384) (k0_off1 d) S2048x1024.size (k0_off1_inb d)) (fun _ => rfl)

abbrev barS : Sem sig := (SemArray.scalar (sig.barrier 0 rfl) : Sems sig S_).sem
abbrev wS : DmaSem sig := (cc0_scratch3 : DmaSems sig S_).sem
abbrev sendS (k : Fin 31) : DmaSem sig :=
  ((cc0_scratch4.slice (Rect.unit (s := S31) ![k.val] S1.size (sem_inb k))).squeeze S_ squeezes_S1_S_ : DmaSems sig S_).sem
abbrev recvS (k : Fin 31) : DmaSem sig :=
  ((cc0_scratch5.slice (Rect.unit (s := S31) ![k.val] S1.size (sem_inb k))).squeeze S_ squeezes_S1_S_ : DmaSems sig S_).sem

/-- The element every device's rows of `labels` are compared against: the device's coordinates as words. -/
abbrev wordX (d : Dev nD) : BitVec 32 := Scalar.remsi (Scalar.divsi (Dev.word d) 16#32) 2#32
abbrev wordSub (d : Dev nD) : BitVec 32 :=
  Scalar.addi (Scalar.muli (Scalar.remsi (Scalar.divsi (Dev.word d) 4#32) 4#32) 4#32)
    (Scalar.remsi (Scalar.divsi (Dev.word d) 1#32) 4#32)

/-- A program of one TensorCore of the mesh. -/
abbrev PROG (F : FTy → Type) : Type 1 := Prog (TpuEff nD τ sig (Elt F) Λ₀ .tc) PUnit

/-! ## The four runs -/

/-- One signal to the barrier semaphore of each listed offset's target, then `K`. -/
def sigs (d : Dev nD) : List (Fin 31) → PROG F → PROG F
  | [], K => K
  | k :: ks, K => .op (.semSignal (Dev.tc (sigDev k d)) barS ((1 : ℕ) : Int)) fun _ => sigs d ks K

/-- One remote copy of the accumulator to slot `k` of each listed offset's target, then `K`. -/
def sends (d : Dev nD) : List (Fin 31) → PROG F → PROG F
  | [], K => K
  | k :: ks, K => .op (.enqueueDma aM (.remote (Dev.tc (cpyDev k d)) (slotM k) (.dma (sendS k))) (.dma (recvS k))
      (Memref.isWhole_whole _).wordExact ((View.wordExact_bits rfl).reshape _ _) ⟨⟨rfl, Or.inl rfl⟩, trivial⟩)
      fun _ => sends d ks K

/-- One wait per listed offset for its own copy to have been read, then `K`. -/
def waitSends : List (Fin 31) → PROG F → PROG F
  | [], K => K
  | k :: ks, K => .op (.waitDma2 (sendS k) (slotM k) aM ((View.wordExact_bits rfl).reshape _ _) (Memref.isWhole_whole _).wordExact)
      fun _ => waitSends ks K

/-- One wait per listed offset for slot `k` to have landed, then `K`. -/
def waitRecvs : List (Fin 31) → PROG F → PROG F
  | [], K => K
  | k :: ks, K => .op (.waitDma2 (recvS k) aM (slotM k) (Memref.isWhole_whole _).wordExact ((View.wordExact_bits rfl).reshape _ _))
      fun _ => waitRecvs ks K

/-- All the offset numbers, in order. -/
def all31 : List (Fin 31) :=
  [0, 1, 2, 3, 4, 5, 6, 7, 8, 9, 10, 11, 12, 13, 14, 15, 16, 17, 18, 19, 20, 21, 22, 23, 24, 25, 26, 27, 28, 29, 30]

/-! ## The body -/

/-- The two loads of what has been gathered and the store of the result. -/
def tailP : PROG F :=
  .op (.load aM (Rect.unit (s := S2x1024) ![0, 0] S2x1024.size inb_S2x1024_S2x1024_0_0).toLoadRect (View.loadsAt_vmem h_S2x1024)) fun a =>
  .op (.load rM (Rect.unit (s := S31x2x1024) ![0, 0, 0] S31x2x1024.size inb_S31x2x1024_S31x2x1024_0_0_0).toLoadRect (View.loadsAt_vmem h_S31x2x1024)) fun r =>
  .op (.load oM (Rect.unit (s := S1024) ![0] S1024.size inb_S1024_S1024_0).toLoadRect (View.loadsAt_vmem h_S1024)) fun _ =>
  .op (.store oM (Rect.unit (s := S1024) ![0] S1024.size inb_S1024_S1024_0) (k0_pay1 a r) Finset.univ (View.stores_vmem_bits_univ h_S1024 rfl) (.inl rfl)) fun _ =>
  .ret ⟨⟩

/-- From the barrier wait on. -/
def exchP (d : Dev nD) : PROG F :=
  .op (.semWait barS ((31 : ℕ) : Int)) fun _ => sends d all31 (waitSends all31 (waitRecvs all31 tailP))

/-- The local work: W's columns awaited, the three loads and the two row stores of the accumulator. -/
def workP (d : Dev nD) : PROG F :=
  .op (.waitDma2 wS (wSrc d) wM (View.wordExact_bits rfl) (Memref.isWhole_whole _).wordExact) fun _ =>
  .op (.load xM (Rect.unit (s := S1024x2048) ![0, 0] S1024x2048.size inb_S1024x2048_S1024x2048_0_0).toLoadRect (View.loadsAt_vmem h_S1024x2048)) fun x =>
  .op (.load wM (Rect.unit (s := S2048x1024) ![0, 0] S2048x1024.size inb_S2048x1024_S2048x1024_0_0).toLoadRect (View.loadsAt_vmem h_S2048x1024)) fun w =>
  .op (.load lM (Rect.unit (s := S1024) ![0] S1024.size inb_S1024_S1024_0).toLoadRect (View.loadsAt_vmem h_S1024)) fun l =>
  .op (.load aM (Rect.unit (s := S2x1024) ![0, 0] S1x1024.size inb_S2x1024_S1x1024_0_0).toLoadRect (View.loadsAt_vmem h_S1x1024)) fun _ =>
  .op (.store aM (Rect.unit (s := S2x1024) ![0, 0] S1x1024.size inb_S2x1024_S1x1024_0_0) (k0_pay5 (k0_pay3 x w)) Finset.univ (View.stores_vmem_bits_univ h_S1x1024 rfl) (.inl rfl)) fun _ =>
  .op (.load aM (Rect.unit (s := S2x1024) ![1, 0] S1x1024.size inb_S2x1024_S1x1024_1_0).toLoadRect (View.loadsAt_vmem h_S1x1024)) fun _ =>
  .op (.store aM (Rect.unit (s := S2x1024) ![1, 0] S1x1024.size inb_S2x1024_S1x1024_1_0) (k0_pay6 (k0_pay2 x w) (k0_pay4 (wordX d) (wordSub d) l)) Finset.univ (View.stores_vmem_bits_univ h_S1x1024 rfl) (.inl rfl)) fun _ =>
  exchP d

/-- The body from the device's own number on. -/
def restP (d : Dev nD) : PROG F :=
  .op (.enqueueDma (wSrc d) (.here wM) (.dma wS) (View.wordExact_bits rfl) (Memref.isWhole_whole _).wordExact ⟨Or.inl rfl, trivial⟩) fun _ =>
  sigs d all31 (workP d)

/-- The whole body. -/
def flatP : PROG F := .op .deviceId restP

set_option maxRecDepth 65536 in
/-- The kernel's body is its loop form. -/
theorem body_eq (t : Fin cfg0.N) : (bodyAt0 t : PROG F) = flatP := by
  chain_rfl

end Cert.LseProof

end
-- ==== Proof.Sched.lean ====
/-
The protocol of the exchange: cells, contents, the round structure of every cell, what each device owes and the
levels of the cells.

Each device has 64 cells. Its barrier cell expects one unit from each of the 31 other devices; the unit paid by the
device at offset `k` hands over that device's receive slot `k`, which is where this device's copy `k` goes. Its W cell
is completed by the local copy of its columns. Its send cell `k` returns the share of the accumulator that copy `k`
reads; its receive cell `k` hands slot `k` with the accumulator of the device at the offset opposite to `k`.
-/
module

public import proofs.«01_k».proof.Proof.Flat
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.SparseCore.Stream
public import Idealize.ShloMosaic.Lib.Tactic
public import Idealize.ShloMosaic.Lib.Pointwise.Index

@[expose] public section

noncomputable section

namespace Cert.LseProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No custom call of the program has variants. -/
abbrev 𝒱₀ : Variants := Variants.none

variable (m : (ℓ : Loc nD τ sig) → Buf (Elt F) ℓ) (ρ : Dev nD → PrngReg)

/-- The memory at launch. -/
def st₀ : MemSt nD τ sig (Elt F) := ⟨m, fun _ => 0, ρ⟩

/-! ## The cells -/

/-- The cells of a device: its barrier cell, then its own: the W cell, the send cells, the receive cells. -/
abbrev OCI : Type := Unit ⊕ (Fin 31 ⊕ Fin 31)
abbrev CI : Type := Unit ⊕ OCI

/-- The semaphores of a device's own cells. -/
abbrev osem : OCI → SemLoc sig
  | .inl _ => .dma wS
  | .inr (.inl k) => .dma (sendS k)
  | .inr (.inr k) => .dma (recvS k)

abbrev csem : CI → SemLoc sig
  | .inl _ => .reg barS
  | .inr j => osem j

abbrev jb : CI := .inl ()
abbrev jw : CI := .inr (.inl ())
abbrev js (k : Fin 31) : CI := .inr (.inr (.inl k))
abbrev jr (k : Fin 31) : CI := .inr (.inr (.inr k))

abbrev barCell (c : Dev nD) : GSem nD τ sig := ((c : Thread nD τ), .reg barS)
abbrev wCell (c : Dev nD) : GSem nD τ sig := ((c : Thread nD τ), .dma wS)
abbrev sendCell (c : Dev nD) (k : Fin 31) : GSem nD τ sig := ((c : Thread nD τ), .dma (sendS k))
abbrev recvCell (c : Dev nD) (k : Fin 31) : GSem nD τ sig := ((c : Thread nD τ), .dma (recvS k))
abbrev kcell (cj : Dev nD × CI) : GSem nD τ sig := ((cj.1 : Thread nD τ), csem cj.2)

theorem w_num : wS.val = 3 := by decide
theorem send_num : ∀ k : Fin 31, (sendS k).val = 4 + k.val := by decide
theorem recv_num : ∀ k : Fin 31, (recvS k).val = 35 + k.val := by decide

theorem osem_injective : Function.Injective osem := by
  have hd : ∀ a b : DmaSem sig, (SemLoc.dma a : SemLoc sig) = .dma b → a.val = b.val := fun a b h => by cases h; rfl
  rintro (⟨⟩ | k | k) (⟨⟩ | k' | k') h
  · rfl
  · have := hd _ _ h; rw [w_num, send_num] at this; omega
  · have := hd _ _ h; rw [w_num, recv_num] at this; omega
  · have := hd _ _ h; rw [w_num, send_num] at this; omega
  · have := hd _ _ h; rw [send_num, send_num] at this
    rw [Fin.ext (by omega : k.val = k'.val)]
  · have := hd _ _ h; rw [send_num, recv_num] at this; have := k.isLt; omega
  · have := hd _ _ h; rw [w_num, recv_num] at this; omega
  · have := hd _ _ h; rw [send_num, recv_num] at this; have := k'.isLt; omega
  · have := hd _ _ h; rw [recv_num, recv_num] at this
    rw [Fin.ext (by omega : k.val = k'.val)]

theorem csem_injective : Function.Injective csem := by
  have hb : ∀ j : OCI, (SemLoc.reg barS : SemLoc sig) ≠ osem j := by rintro (_ | _ | _) h <;> cases h
  rintro (⟨⟩ | j) (⟨⟩ | j') h
  · rfl
  · exact absurd h (hb j')
  · exact absurd h.symm (hb j)
  · rw [osem_injective h]

theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]

/-- Which of the device's cells a semaphore is, if any. -/
def cix (s : SemLoc sig) : Option CI := if h : ∃ j, csem j = s then some h.choose else none

theorem cix_csem (j : CI) : cix (csem j) = some j := by
  have h : ∃ j', csem j' = csem j := ⟨j, rfl⟩
  unfold cix; rw [dif_pos h, csem_injective h.choose_spec]

/-- The credit of one remote copy, and of the local copy. -/
def N : ℕ := (slotM 0).view.dmaCredit
def Nw : ℕ := wM.view.dmaCredit
theorem N_pos : 0 < N := View.dmaCredit_pos _ (by decide)
theorem Nw_pos : 0 < Nw := View.dmaCredit_pos _ (by decide)

/-! ## Contents -/

/-- What a device's staging buffers of `x` and of `labels` hold. -/
def xAt (c : Dev nD) : (cc0_stg0_0 : Ref sig .tc).ty.Contents (Elt F) := iblk m c 0 t0_0
def lAt (c : Dev nD) : (cc0_stg1_0 : Ref sig .tc).ty.Contents (Elt F) := iblk m c 1 t0_0

/-- The device's columns of W. -/
def wAt (c : Dev nD) : (cc0_scratch0 : Ref sig .tc).ty.Contents (Elt F) :=
  (wSrc c).view.read (Elt F) (m ((c : Thread nD τ).loc main_arg1))

/-- The sums of exponentials over the device's columns, and the logits its columns pick, as rows. -/
abbrev bsAt (c : Dev nD) : FVec F S1x1024 .f32 := k0_pay5 (k0_pay3 (xAt m c) (wAt m c))
abbrev labAt (c : Dev nD) : FVec F S1x1024 .f32 :=
  k0_pay6 (k0_pay2 (xAt m c) (wAt m c)) (k0_pay4 (F := F) (wordX c) (wordSub c) (lAt m c))

abbrev r0 : Rect S2x1024 := Rect.unit (s := S2x1024) ![0, 0] S1x1024.size inb_S2x1024_S1x1024_0_0
abbrev r1 : Rect S2x1024 := Rect.unit (s := S2x1024) ![1, 0] S1x1024.size inb_S2x1024_S1x1024_1_0

/-- Two rows, one over the other. -/
def rows (b l : FVec F S1x1024 .f32) : FVec F S2x1024 .f32 :=
  fun i => if (i 0).val = 0 then b (ix2 (0 : Fin 1) (i 1 : Fin 1024)) else l (ix2 (0 : Fin 1) (i 1 : Fin 1024))

/-- The accumulator: the first row the sums of exponentials, the second the picked logits. -/
def accAt (c : Dev nD) : (cc0_scratch1 : Ref sig .tc).ty.Contents (Elt F) :=
  rows (bsAt m c) (labAt m c)

/-- The receive buffer when every slot has landed. -/
def recvAt (c : Dev nD) : (cc0_scratch2 : Ref sig .tc).ty.Contents (Elt F) :=
  fun (i : S31x2x1024.Idx) => accAt m (peer c (neg (i 0 : Fin 31))) (ix2 (i 1 : Fin 2) (i 2 : Fin 1024))

/-- The result. -/
def outAt (c : Dev nD) : (cc0_stg2_0 : Ref sig .tc).ty.Contents (Elt F) := k0_pay1 (accAt m c) (recvAt m c)

/-! ## What the cells hand over -/

def slotPts (c : Dev nD) (k : Fin 31) (f : Buf (Elt F) ((slotM k).view.loc (c : Thread nD τ))) : sProp 𝕄 :=
  (slotM k).view.loc (c : Thread nD τ) ↦[(slotM k).view.set]{fullShare} f
/-- The accumulator at piece `k` of its share. -/
def accPts (c : Dev nD) (k : Fin 31) : sProp 𝕄 :=
  aM.view.loc (c : Thread nD τ) ↦[aM.view.set]{pieceOf fullShare 31 (by decide) k} accAt m c
def wPts (c : Dev nD) (f : Buf (Elt F) (wM.view.loc (c : Thread nD τ))) : sProp 𝕄 :=
  wM.view.loc (c : Thread nD τ) ↦[wM.view.set]{fullShare} f
def srcPts (c : Dev nD) : sProp 𝕄 :=
  (wSrc c).view.loc (c : Thread nD τ) ↦[(wSrc c).view.set]{fullShare} m ((c : Thread nD τ).loc main_arg1)

instance slotPts_storable (c : Dev nD) (k) (f) : BI.Storable (upEmb : UEmb _ 𝕄) (slotPts (F := F) c k f) := by unfold slotPts; infer_instance
instance accPts_storable (c : Dev nD) (k) : BI.Storable (upEmb : UEmb _ 𝕄) (accPts (F := F) m c k) := by unfold accPts; infer_instance
instance wPts_storable (c : Dev nD) (f) : BI.Storable (upEmb : UEmb _ 𝕄) (wPts (F := F) c f) := by unfold wPts; infer_instance
instance srcPts_storable (c : Dev nD) : BI.Storable (upEmb : UEmb _ 𝕄) (srcPts (F := F) m c) := by unfold srcPts; infer_instance

/-- What the device at offset `k` hands device `c` with its signal: the slot that copy `k` of `c` fills. -/
def barPay (c : Dev nD) (k : Fin 31) : sProp 𝕄 := iprop(∃ f, slotPts (peer c k) k f)
def wPay (c : Dev nD) : sProp 𝕄 := iprop(wPts c (wAt m c) ∗ srcPts m c)
def recvPay (c : Dev nD) (k : Fin 31) : sProp 𝕄 := slotPts c k (recvAt m c)

/-! ## The round structure -/

def dutiesOf : Option CI → Finset (Fin 31)
  | some (.inl _) => Finset.univ
  | some (.inr _) => {0}
  | none => ∅

def amountOf' : Option CI → ℕ
  | some (.inl _) => 1
  | some (.inr (.inl _)) => Nw
  | some (.inr (.inr _)) => N
  | none => 1

def payOf (c : Dev nD) (d : Fin 31) : Option CI → sProp 𝕄
  | some (.inl _) => barPay c d
  | some (.inr (.inl _)) => wPay m c
  | some (.inr (.inr (.inl k))) => accPts m c k
  | some (.inr (.inr (.inr k))) => recvPay m c k
  | none => iprop(emp)

/-- One round. The barrier cell has 31 duties of one unit, every other cell one duty of its copy's credit. -/
def rd : Rounds.Schedule (GSem nD τ sig) (Fin 31) 𝕄 where
  duties g r := if r = 0 then (if g.1.2 = .tc then dutiesOf (cix g.2) else ∅) else ∅
  unitless _ := False
  amount g _ _ := amountOf' (cix g.2)
  payload g _ d := payOf m g.1.1 d (cix g.2)
  amount_pos g _ _ _ := by
    rcases cix g.2 with _ | _ | _ | _
    · exact Nat.one_pos
    · exact Nat.one_pos
    · exact Nw_pos
    · exact N_pos

instance rd_payload_storable (g : GSem nD τ sig) (r : ℕ) (d : Fin 31) :
    BI.Storable (upEmb : UEmb _ 𝕄) ((rd (F := F) m).payload g r d) := by
  show BI.Storable upEmb (payOf m g.1.1 d (cix g.2))
  rcases cix g.2 with _ | _ | _ | _ | _ <;> dsimp only [payOf, barPay, wPay, recvPay] <;> infer_instance

section Cells
variable (c : Dev nD)

theorem duties_cell (j : CI) : (rd (F := F) m).duties (kcell (c, j)) 0 = dutiesOf (some j) := by
  show (if (0 : ℕ) = 0 then (if ((c : Thread nD τ)).2 = .tc then dutiesOf (cix (csem j)) else ∅) else ∅) = _
  rw [if_pos rfl, if_pos rfl, cix_csem]
theorem amount_cell (j : CI) (d : Fin 31) : (rd (F := F) m).amount (kcell (c, j)) 0 d = amountOf' (some j) := by
  show amountOf' (cix (csem j)) = _
  rw [cix_csem]
theorem payload_cell (j : CI) (d : Fin 31) : (rd (F := F) m).payload (kcell (c, j)) 0 d = payOf m c d (some j) := by
  show payOf m c d (cix (csem j)) = _
  rw [cix_csem]
theorem duties_later (g : GSem nD τ sig) : ∀ r, 1 ≤ r → (rd (F := F) m).duties g r = ∅ :=
  fun r hr => if_neg (by omega)

theorem expect_bar : (rd (F := F) m).expect (barCell c) 0 = 31 := by
  unfold Schedule.expect Schedule.amountOf
  rw [show (rd (F := F) m).duties (barCell c) 0 = Finset.univ from duties_cell m c jb,
    Finset.sum_congr rfl fun d _ => amount_cell m c jb d]
  show ∑ _d : Fin 31, 1 = 31
  rw [Finset.sum_const, Finset.card_univ, Fintype.card_fin, smul_eq_mul]
theorem expect_own (j : OCI) : (rd (F := F) m).expect (kcell (c, .inr j)) 0 = amountOf' (some (.inr j)) := by
  unfold Schedule.expect Schedule.amountOf
  rw [duties_cell m c (.inr j)]
  show ∑ d ∈ ({0} : Finset (Fin 31)), _ = _
  rw [Finset.sum_singleton, amount_cell]

theorem rest_bar : bigSep ((rd (F := F) m).duties (barCell c) 0 \ ∅) (fun d => (rd (F := F) m).payload (barCell c) 0 d) = bigSep Finset.univ (fun k => barPay c k) := by
  rw [Finset.sdiff_empty, show (rd (F := F) m).duties (barCell c) 0 = Finset.univ from duties_cell m c jb]
  exact congrArg (bigSep Finset.univ) (funext fun d => payload_cell m c jb d)
theorem rest_own (j : OCI) : bigSep ((rd (F := F) m).duties (kcell (c, .inr j)) 0 \ ∅) (fun d => (rd (F := F) m).payload (kcell (c, .inr j)) 0 d)
    = payOf m c 0 (some (.inr j)) := by
  rw [Finset.sdiff_empty, duties_cell m c (.inr j)]
  show bigSep ({0} : Finset (Fin 31)) _ = _
  rw [bigSep_singleton, payload_cell]

end Cells

/-! ## What each device owes, and the levels -/

/-- The credit of the copies `ks` at the receivers. -/
def owedRecv (c : Dev nD) : List (Fin 31) → CellTallies nD τ sig Unit
  | [] => 0
  | k :: ks => owedRecv c ks + tallyAt (recvCell (peer c k) k) () N
/-- The signals `ks`, on top of `O`. -/
def owedSig (c : Dev nD) (O : CellTallies nD τ sig Unit) : List (Fin 31) → CellTallies nD τ sig Unit
  | [] => O
  | k :: ks => owedSig c O ks + tallyAt (barCell (peer c k)) () 1

def O₁ (c : Dev nD) : CellTallies nD τ sig Unit := owedRecv c all31
def O₀ (c : Dev nD) : CellTallies nD τ sig Unit := owedSig c (O₁ c) all31

/-- Barrier cells are at level 1, receive cells at 2, everything else at 0. -/
def lvOf : Option CI → ℕ
  | some (.inl _) => 1
  | some (.inr (.inr (.inr _))) => 2
  | _ => 0

def L (g : GSem nD τ sig) : Finset Unit := if g.1.2 = .tc then {()} else ∅
def lv (g : GSem nD τ sig) (_ : Unit) : ℕ := lvOf (cix g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : CI) (u : Unit) : lv (kcell (c, j)) u = lvOf (some j) := by
  show lvOf (cix (csem j)) = _
  rw [cix_csem]

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem owedRecv_pos {c : Dev nD} {g : GSem nD τ sig} {u : Unit} : ∀ (ks : List (Fin 31)), 0 < owedRecv c ks g u → ∃ d k, g = recvCell d k
  | [], h => absurd h (Nat.lt_irrefl 0)
  | k :: ks, h => by
    unfold owedRecv at h
    rw [Pi.add_apply, Finsupp.add_apply] at h
    rcases Nat.add_pos_iff_pos_or_pos.mp h with h | h
    · exact owedRecv_pos ks h
    · exact ⟨_, _, tally_pos h⟩
theorem owedSig_pos {c : Dev nD} {O : CellTallies nD τ sig Unit} {g : GSem nD τ sig} {u : Unit} :
    ∀ (ks : List (Fin 31)), 0 < owedSig c O ks g u → 0 < O g u ∨ ∃ d, g = barCell d
  | [], h => .inl h
  | k :: ks, h => by
    unfold owedSig at h
    rw [Pi.add_apply, Finsupp.add_apply] at h
    rcases Nat.add_pos_iff_pos_or_pos.mp h with h | h
    · exact owedSig_pos ks h
    · exact .inr ⟨_, tally_pos h⟩
theorem O₀_pos {c : Dev nD} {g : GSem nD τ sig} {u : Unit} (h : 0 < O₀ c g u) :
    (∃ d k, g = recvCell d k) ∨ ∃ d, g = barCell d :=
  (owedSig_pos all31 h).imp (owedRecv_pos all31) id

/-- A wait on a semaphore of level 0 may be done whatever of the launch's debt is still owed. -/
theorem mayWait_low (c : Dev nD) (q : DmaSem sig) (hq : lvOf (cix (.dma q)) = 0) (O : CellTallies nD τ sig Unit) (hO : O = O₀ c ∨ O = O₁ c ∨ O = 0) :
    (levAts L lv : sProp 𝕄) ⊢ MayWait (c : Thread nD τ) (.dma q) () O := by
  have key : ∀ O : CellTallies nD τ sig Unit, (∀ g u, 0 < O g u → (∃ d k, g = recvCell d k) ∨ ∃ d, g = barCell d) →
      ((levAts L lv : sProp 𝕄) ⊢ MayWait (c : Thread nD τ) (.dma q) () O) := fun O h =>
    MayOwe.of_cut (L := L) (lev := lv) 0 (fun p hp => by rw [Finset.mem_singleton.mp hp, L_tc]; exact Finset.mem_singleton_self _)
      (fun g u hg => by rcases h g u hg with ⟨d, k, rfl⟩ | ⟨d, rfl⟩ <;> exact Finset.mem_singleton_self _)
      (fun p hp => by rw [Finset.mem_singleton.mp hp]; exact le_of_eq hq)
      (fun g u hg => by
        rcases h g u hg with ⟨d, k, rfl⟩ | ⟨d, rfl⟩
        · rw [show lv (recvCell d k) u = 2 from lv_cell d (jr k) u]; decide
        · rw [show lv (barCell d) u = 1 from lv_cell d jb u]; decide)
  rcases hO with rfl | rfl | rfl
  · exact key _ fun g u h => O₀_pos h
  · exact key _ fun g u h => .inl (owedRecv_pos all31 h)
  · rw [MayWait_zero]; iintro -; iempintro

/-- At its barrier wait a device owes the copies' credit only: receive cells, above its barrier cell. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, k, rfl⟩ := owedRecv_pos all31 hg; exact Finset.mem_singleton_self _)
    (fun p hp => by rw [Finset.mem_singleton.mp hp]; exact le_of_eq (lv_cell c jb ()))
    (fun g u hg => by
      obtain ⟨d, k, rfl⟩ := owedRecv_pos all31 hg
      rw [show lv (recvCell d k) u = 2 from lv_cell d (jr k) u]; decide)

end Cert.LseProof

end
-- ==== Proof.Slots.lean ====
/-
The receive buffer cut into its slots, what a landing leaves in a slot, and the accumulator cut into shares.
-/
module

public import proofs.«01_k».proof.Proof.Mesh
public import proofs.«01_k».proof.Proof.Sched
public import Idealize.ShloMosaic.Lib.ValueLayout
public import Idealize.ShloMosaic.Lib.Pipeline.Value

@[expose] public section

noncomputable section

namespace Cert.LseProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The receive buffer and its slots -/

/-- Slot `k`'s elements are those of leading coordinate `k`. -/
theorem mem_slot (k : Fin 31) (i : S31x2x1024.Idx) : i ∈ (slotM k).view.set ↔ (i 0).val = k.val := by
  have h : (slotM k).view.set = (Rect.unit (s := S31x2x1024) ![k.val, 0, 0] S1x2x1024.size (slot_inb k)).set :=
    (View.set_reshape _ _).trans (View.set_slice_whole cc0_scratch2 _)
  have hm : i ∈ (slotM k).view.set ↔ i ∈ (Rect.unit (s := S31x2x1024) ![k.val, 0, 0] S1x2x1024.size (slot_inb k)).set := by rw [h]
  refine hm.trans ((Rect.mem_set_unit).trans ⟨fun hi => ?_, fun hk a => ?_⟩)
  · have h0 := hi 0
    have e1 : (![k.val, 0, 0] : Fin 3 → ℕ) 0 = k.val := rfl
    have e2 : S1x2x1024.size 0 = 1 := rfl
    rw [e1, e2] at h0
    omega
  · have h1 : (i 1).val < 2 := (i 1).isLt
    have h2 : (i 2).val < 1024 := (i 2).isLt
    match a with
    | ⟨0, _⟩ => exact ⟨le_of_eq hk.symm, by show (i 0).val < k.val + 1; omega⟩
    | ⟨1, _⟩ => exact ⟨Nat.zero_le _, by show (i 1).val < 0 + 2; omega⟩
    | ⟨2, _⟩ => exact ⟨Nat.zero_le _, by show (i 2).val < 0 + 1024; omega⟩

abbrev slotSet (c : Dev nD) (k : Fin 31) : Finset (Idx ((c : Thread nD τ).loc cc0_scratch2)) := (slotM k).view.set

theorem slot_disjoint (c : Dev nD) (k k' : Fin 31) (h : k ≠ k') : Disjoint (slotSet c k) (slotSet c k') := by
  rw [Finset.disjoint_left]
  intro i h1 h2
  exact h (Fin.ext (((mem_slot k i).mp h1).symm.trans ((mem_slot k' i).mp h2)))

theorem slot_union (c : Dev nD) : (Finset.univ : Finset (Fin 31)).biUnion (slotSet c) = Finset.univ := by
  refine Finset.eq_univ_iff_forall.mpr fun i => Finset.mem_biUnion.mpr ⟨(i : S31x2x1024.Idx) 0, Finset.mem_univ _, (mem_slot _ i).mpr rfl⟩

/-- The whole receive buffer is its 31 slots. -/
theorem recv_slots (c : Dev nD) (f : Buf (Elt F) ((c : Thread nD τ).loc cc0_scratch2)) :
    (((c : Thread nD τ).loc cc0_scratch2) ↦{fullShare} f : sProp 𝕄) = bigSep Finset.univ fun k => slotPts c k f := by
  rw [← slot_union c]
  exact pointsTo_biUnion Finset.univ (slotSet c) fun t _ t' _ h => slot_disjoint c t t' h

/-- The slot read through its own view. -/
theorem slot_read (k : Fin 31) (g : (cc0_scratch2 : Ref sig .tc).ty.Contents (Elt F)) (x : S2x1024.Idx) :
    (slotM k).view.read (Elt F) g x = (g : S31x2x1024.Idx → F .f32) (ix3 k (x 0 : Fin 2) (x 1 : Fin 1024)) := by
  have hc : (⟨3, ![1, 2, 1024]⟩ : Shape).ShapeCasts S2x1024 := by decide
  have h := congrFun (Memref.read_squeeze_slice (Val := Elt F) rM
    (Rect.unit (s := S31x2x1024) ![k.val, 0, 0] S1x2x1024.size (slot_inb k)) (fun _ => rfl) squeezes_S1x2x1024_S2x1024 hc g) x
  refine h.trans ?_
  conv_lhs => rw [eq_ix2 x]
  refine (ValueIdx.shapeCast_1ab_ab_apply _ hc _ _).trans ?_
  refine congrArg (g : S31x2x1024.Idx → F .f32) ?_
  funext a
  match a with
  | ⟨0, _⟩ => exact Fin.ext (Nat.add_zero _)
  | ⟨1, _⟩ => exact Fin.ext ((Nat.zero_add _).trans (Nat.one_mul _))
  | ⟨2, _⟩ => exact Fin.ext ((Nat.zero_add _).trans (Nat.one_mul _))

/-- A slot written with the sender's accumulator is the slot of the receiver's full buffer. -/
theorem slot_landed (c : Dev nD) (k : Fin 31) (f : Buf (Elt F) ((slotM k).view.loc (peer c k : Thread nD τ))) :
    ((slotM k).view.loc (peer c k : Thread nD τ) ↦[(slotM k).view.set]{fullShare}
        ((slotM k).view.write (Elt F) f (aM.view.read (Elt F) (accAt m c)) Finset.univ) : sProp 𝕄)
      = slotPts (peer c k) k (recvAt m (peer c k)) := by
  unfold slotPts
  refine pointsTo_congr fun i hi => ?_
  obtain ⟨x, -, rfl⟩ := Finset.mem_map.mp hi
  refine (View.write_emb_of_mem (Val := Elt F) (v := (slotM k).view) f _ (Finset.mem_univ x)).trans ?_
  refine Eq.trans ?_ (show (slotM k).view.read (Elt F) (recvAt m (peer c k)) x = recvAt m (peer c k) ((slotM k).view.emb x) from rfl)
  rw [slot_read]
  show (accAt m c : S2x1024.Idx → F .f32) x = accAt m (peer (peer c k) (neg k)) (ix2 (x 0 : Fin 2) (x 1 : Fin 1024))
  rw [peer_neg, ← eq_ix2 x]

/-! ## The accumulator -/

theorem acc_pieces (c : Dev nD) :
    (((c : Thread nD τ).loc cc0_scratch1) ↦{fullShare} accAt m c : sProp 𝕄) = bigSep Finset.univ fun k => accPts m c k := by
  have h := pointsTo_piecesOf (nD := nD) (τ := τ) (sig := sig) (Ix := Unit) (Val := Elt F) (Name := ℕ) (U := UU) (Lvl := ℕ)
    (ℓ := (c : Thread nD τ).loc cc0_scratch1) Finset.univ (accAt m c) (o := 31) (by decide) fullShare
  refine h.trans ?_
  refine congrArg (bigSep Finset.univ) (funext fun k => ?_)
  unfold accPts
  rw [View.set_whole]

end Cert.LseProof

end
-- ==== Proof.Loops.lean ====
/-
The four runs of the body: the signals, the remote copies, the waits for the copies to have been read and the waits
for the slots to have landed, each proved for any list of offsets.
-/
module

public import proofs.«01_k».proof.Proof.Slots

@[expose] public section

noncomputable section

namespace Cert.LseProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Separating conjunctions along a list -/

/-- One conjunct per element of the list. -/
def sepL (Φ : Fin 31 → sProp 𝕄) : List (Fin 31) → sProp 𝕄
  | [] => iprop(emp)
  | k :: ks => iprop(Φ k ∗ sepL Φ ks)

theorem all31_nodup : all31.Nodup := by decide
theorem all31_univ : (Finset.univ : Finset (Fin 31)) = all31.toFinset := by decide

theorem bigSep_toFinset (Φ : Fin 31 → sProp 𝕄) : ∀ ks : List (Fin 31), ks.Nodup → bigSep ks.toFinset Φ = sepL Φ ks
  | [], _ => bigSep_empty
  | k :: ks, h => by
    have hk := (List.nodup_cons.mp h)
    rw [List.toFinset_cons, bigSep_insert (by simpa using hk.1), bigSep_toFinset Φ ks hk.2]
    rfl

theorem bigSep_all (Φ : Fin 31 → sProp 𝕄) : bigSep Finset.univ Φ = sepL Φ all31 := by
  rw [all31_univ]; exact bigSep_toFinset Φ all31 all31_nodup

/-! ## The cells' records -/

/-- Every cell's invariant, at the names the launch chose, and that its round 0 is reached. -/
def records (K : Dev nD × CI → ℕ) : sProp 𝕄 :=
  bigSep Finset.univ fun p : Dev nD × CI => iprop(cellInv ER (rd m) (K p) (kcell p) ∗ reached ER (kcell p) 0)

instance records_persistent (K : Dev nD × CI → ℕ) : BI.Persistent (records m K) := by unfold records; infer_instance

variable (K : Dev nD × CI → ℕ)

theorem records_inv (p : Dev nD × CI) : records m K ⊢ cellInv ER (rd m) (K p) (kcell p) :=
  by
  refine (bigSep_elim (Finset.mem_univ p)).trans ?_
  show iprop(cellInv ER (rd m) (K p) (kcell p) ∗ reached ER (kcell p) 0) ⊢ _
  iintro ⟨H, -⟩; iexact H
theorem records_reached (p : Dev nD × CI) : records m K ⊢ reached ER (kcell p) 0 :=
  by
  refine (bigSep_elim (Finset.mem_univ p)).trans ?_
  show iprop(cellInv ER (rd m) (K p) (kcell p) ∗ reached ER (kcell p) 0) ⊢ _
  iintro ⟨-, H⟩; iexact H

/-! ## The signals -/

/-- What signal `k` uses: the duty's token, and the slot it hands over. -/
def sigRes (c : Dev nD) (k : Fin 31) : sProp 𝕄 :=
  iprop(dutyTok ER (barCell (peer c k)) 0 (neg k) ∗ ∃ f, slotPts c (neg k) f)

theorem payload_sig (c : Dev nD) (k : Fin 31) :
    (rd (F := F) m).payload (barCell (peer c k)) 0 (neg k) = iprop(∃ f, slotPts c (neg k) f) := by
  rw [show (rd (F := F) m).payload (barCell (peer c k)) 0 (neg k) = barPay (peer c k) (neg k) from payload_cell m (peer c k) jb (neg k)]
  unfold barPay
  rw [peer_neg]

theorem sigs_wp (c : Dev nD) (O : CellTallies nD τ sig Unit) (W : Waits sig Unit) (P : PROG F) (Q : PUnit → sProp 𝕄) : ∀ ks : List (Fin 31),
    iprop(records m K ∗ owes (c : Thread nD τ) (owedSig c O ks) W ∗ sepL (sigRes c) ks)
      ⊢ iprop((owes (c : Thread nD τ) O W -∗ wp frame (wpE (defs₀ (F := F)) 𝒱₀ (c : Thread nD τ) none) Set.univ P Q)
          -∗ wp frame (wpE (defs₀ (F := F)) 𝒱₀ (c : Thread nD τ) none) Set.univ (sigs c ks P) Q)
  | [] => by
    unfold sigs owedSig
    iintro ⟨-, HO, -⟩ Hk
    iapply Hk; iexact HO
  | k :: ks => by
    unfold sigs owedSig sepL
    rw [sigDev_eq]
    iintro ⟨#HR, HO, ⟨Hk, Hks⟩⟩ Hcont
    unfold sigRes
    icases Hk with ⟨Htok, Hslot⟩
    iapply (Rounds.wp_signal 𝒱₀ ER (rd m) (c : Thread nD τ) none (dst := (peer c k : Thread nD τ)) (κ := K (peer c k, jb))
        (d := neg k) (by rw [show (rd (F := F) m).duties (barCell (peer c k)) 0 = Finset.univ from duties_cell m _ jb]; exact Finset.mem_univ _)
        ((amount_cell m (peer c k) jb (neg k)).trans (by decide)) () (owedSig c O ks) rfl) $$ [HO Htok Hslot]
    · isplitr; · iapply (records_inv m K (peer c k, jb)); iexact HR
      isplitl [HO]; · iexact HO
      isplitl [Htok]; · iexact Htok
      isplitl [Hslot]; · rw [payload_sig]; iexact Hslot
      iapply (records_reached m K (peer c k, jb)); iexact HR
    iintro HO
    iapply (sigs_wp c O W P Q ks) $$ [HO Hks]
    · isplitr; · iexact HR
      isplitl [HO]; · iexact HO
      iexact Hks
    iexact Hcont

/-! ## The remote copies -/

/-- What copy `k` uses: both duties' tokens, its share of the accumulator and the slot it fills. -/
def sendRes (c : Dev nD) (k : Fin 31) : sProp 𝕄 :=
  iprop(dutyTok ER (sendCell c k) 0 0 ∗ dutyTok ER (recvCell (peer c k) k) 0 0 ∗ accPts m c k ∗ barPay c k)

theorem wp_send_one (c n : Dev nD) (k : Fin 31) (hn : n = peer c k) (f : Buf (Elt F) ((slotM k).view.loc (peer c k : Thread nD τ)))
    (O : CellTallies nD τ sig Unit) (W : Waits sig Unit) {hsc hsrc hdst hsem} {kt : PUnit → PROG F} {Q : PUnit → sProp 𝕄} :
    iprop(cellInv ER (rd m) (K (c, js k)) (sendCell c k) ∗ cellInv ER (rd m) (K (peer c k, jr k)) (recvCell (peer c k) k)
        ∗ accPts m c k ∗ slotPts (peer c k) k f ∗ owes (c : Thread nD τ) (O + tallyAt (recvCell (peer c k) k) () N) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma aM (.remote (Dev.tc n) (slotM k) (.dma (sendS k)) hsc) (.dma (recvS k)) hsrc hdst hsem) kt) Q) := by
  subst hn
  unfold accPts slotPts
  exact Rounds.wp_send_pointsTo 𝒱₀ ER (rd m) (c : Thread nD τ) none (κ₁ := K (c, js k)) (κ₂ := K (peer c k, jr k))
    (r₁ := 0) (r₂ := 0) (d₁ := 0) (d₂ := 0) (fd := f)
    (by rw [show (rd (F := F) m).duties (sendCell c k) 0 = {0} from duties_cell m c (js k)]; exact Finset.mem_singleton_self _)
    (by rw [show (rd (F := F) m).duties (recvCell (peer c k) k) 0 = {0} from duties_cell m (peer c k) (jr k)]; exact Finset.mem_singleton_self _)
    () () N rfl (amount_cell m c (js k) 0) (amount_cell m (peer c k) (jr k) 0) O rfl (W := W)
    (Entails.of_eq (payload_cell m c (js k) 0).symm)
    (Entails.of_eq ((slot_landed m c k f).trans (payload_cell m (peer c k) (jr k) 0).symm))

theorem sends_wp (c : Dev nD) (W : Waits sig Unit) (P : PROG F) (Q : PUnit → sProp 𝕄) : ∀ ks : List (Fin 31),
    iprop(records m K ∗ owes (c : Thread nD τ) (owedRecv c ks) W ∗ sepL (sendRes m c) ks)
      ⊢ iprop(((owes (c : Thread nD τ) 0 W ∗ sepL (fun k => cred (tallyAt (sendCell c k) () N)) ks)
            -∗ wp frame (wpE (defs₀ (F := F)) 𝒱₀ (c : Thread nD τ) none) Set.univ P Q)
          -∗ wp frame (wpE (defs₀ (F := F)) 𝒱₀ (c : Thread nD τ) none) Set.univ (sends c ks P) Q)
  | [] => by
    unfold sends owedRecv sepL
    iintro ⟨-, HO, -⟩ Hk
    iapply Hk
    isplitl [HO]; · iexact HO
    iempintro
  | k :: ks => by
    unfold sends owedRecv sepL
    iintro ⟨#HR, HO, ⟨Hk, Hks⟩⟩ Hcont
    unfold sendRes barPay
    icases Hk with ⟨Ht1, Ht2, Hacc, ⟨%f, Hslot⟩⟩
    iapply (wp_send_one m K c _ k (cpyDev_eq k c) f (owedRecv c ks) W) $$ [HO Ht1 Ht2 Hacc Hslot]
    · isplitr; · iapply (records_inv m K (c, js k)); iexact HR
      isplitr; · iapply (records_inv m K (peer c k, jr k)); iexact HR
      isplitl [Hacc]; · iexact Hacc
      isplitl [Hslot]; · iexact Hslot
      isplitl [HO]; · iexact HO
      isplitl [Ht1]; · iexact Ht1
      isplitr; · iapply (records_reached m K (c, js k)); iexact HR
      isplitl [Ht2]; · iexact Ht2
      iapply (records_reached m K (peer c k, jr k)); iexact HR
    iintro ⟨Hc, HO⟩
    iapply (sends_wp c W P Q ks) $$ [HO Hks]
    · isplitr; · iexact HR
      isplitl [HO]; · iexact HO
      iexact Hks
    iintro ⟨HO, Hcs⟩
    iapply Hcont
    isplitl [HO]; · iexact HO
    isplitl [Hc]; · iexact Hc
    iexact Hcs

/-! ## The waits -/

/-- A wait for the whole of a cell's one round, the cell closed after it. -/
theorem wait_own (c : Dev nD) (j : OCI) (W : Waits sig Unit) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (osem j) (amountOf' (some (.inr j))) Kt)
    {kt : PUnit → PROG F} {Q : PUnit → sProp 𝕄} (O : CellTallies nD τ sig Unit) :
    iprop(records m K ∗ cred (tallyAt (kcell (c, .inr j)) () (amountOf' (some (.inr j)))) ∗ owes (c : Thread nD τ) O W
        ∗ MayWait (c : Thread nD τ) (osem j) () O ∗ atPos ER (kcell (c, .inr j)) 0 ∅ 0)
      ⊢ iprop(((owes (c : Thread nD τ) O (insert (osem j, ()) W) ∗ payOf m c 0 (some (.inr j)) ∗ semVal (kcell (c, .inr j)) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  iintro ⟨#HR, Hc, HO, Hmay, Hat⟩ Hcont
  iapply (Rounds.wp_wait_rest_token 𝒱₀ ER (rd m) (c : Thread nD τ) none (κ := K (c, .inr j)) hw (Set.mem_univ _) () (O := O) (W := W)
    (R := 0) (m := 0) (T := ∅) (by rw [Nat.zero_add]; exact (expect_own m c j).symm)) $$ [Hc HO Hmay Hat]
  · isplitr; · iapply (records_inv m K (c, .inr j)); iexact HR
    isplitl [Hc]; · iexact Hc
    isplitl [HO]; · iexact HO
    isplitl [Hmay]; · iexact Hmay
    iexact Hat
  iintro ⟨HO, Hat, -, Hpay⟩
  ihave Hp := (Entails.of_eq (rest_own m c j)) $$ Hpay
  imod (Rounds.cell_close ER (rd m) (Set.mem_univ (K (c, .inr j))) (fun h => h) (R := 0 + 1) (duties_later m (kcell (c, .inr j)))) $$ [Hat] with Hz
  · isplitr; · iapply (records_inv m K (c, .inr j)); iexact HR
    iexact Hat
  iapply Hcont
  isplitl [HO]; · iexact HO
  isplitl [Hp] <;> iassumption

theorem slot_credit (k : Fin 31) : (slotM k).view.dmaCredit = N := rfl
theorem acc_credit : aM.view.dmaCredit = N := by unfold N; decide

/-- The wait on send cell `k` is a wait for the copy's credit, and so is the one on receive cell `k`. -/
theorem waitSend_eq (c : Dev nD) (k : Fin 31) {h1 h2} (Kt : PUnit → sProp 𝕄) :
    wpE (defs₀ (F := F)) 𝒱₀ (c : Thread nD τ) none Set.univ (.waitDma2 (sendS k) (slotM k) aM h1 h2) Kt
      = waitSpec (c : Thread nD τ) Set.univ (osem (.inr (.inl k))) (amountOf' (some (js k))) Kt :=
  (wpE_waitDma2_eq 𝒱₀ (c : Thread nD τ) none Set.univ Kt).trans
    (congrArg (fun n => waitSpec (c : Thread nD τ) Set.univ (.dma (sendS k)) n Kt) acc_credit)
theorem waitRecv_eq (c : Dev nD) (k : Fin 31) {h1 h2} (Kt : PUnit → sProp 𝕄) :
    wpE (defs₀ (F := F)) 𝒱₀ (c : Thread nD τ) none Set.univ (.waitDma2 (recvS k) aM (slotM k) h1 h2) Kt
      = waitSpec (c : Thread nD τ) Set.univ (osem (.inr (.inr k))) (amountOf' (some (jr k))) Kt :=
  (wpE_waitDma2_eq 𝒱₀ (c : Thread nD τ) none Set.univ Kt).trans
    (congrArg (fun n => waitSpec (c : Thread nD τ) Set.univ (.dma (recvS k)) n Kt) (slot_credit k))
theorem waitW_eq (c d : Dev nD) {h1 h2} (Kt : PUnit → sProp 𝕄) :
    wpE (defs₀ (F := F)) 𝒱₀ (c : Thread nD τ) none Set.univ (.waitDma2 wS (wSrc d) wM h1 h2) Kt
      = waitSpec (c : Thread nD τ) Set.univ (osem (.inl ())) (amountOf' (some jw)) Kt :=
  wpE_waitDma2_eq 𝒱₀ (c : Thread nD τ) none Set.univ Kt

/-- After wait `k` for a copy to have been read: its share of the accumulator and the cell at zero. -/
def sentRes (c : Dev nD) (k : Fin 31) : sProp 𝕄 := iprop(accPts m c k ∗ semVal (sendCell c k) 0)
/-- After wait `k` for a landing: the slot and the cell at zero. -/
def landRes (c : Dev nD) (k : Fin 31) : sProp 𝕄 := iprop(recvPay m c k ∗ semVal (recvCell c k) 0)

theorem waitSends_wp (c : Dev nD) (P : PROG F) (Q : PUnit → sProp 𝕄) : ∀ (ks : List (Fin 31)) (W : Waits sig Unit),
    iprop(records m K ∗ owes (c : Thread nD τ) 0 W ∗ sepL (fun k => iprop(cred (tallyAt (sendCell c k) () N) ∗ atPos ER (sendCell c k) 0 ∅ 0)) ks)
      ⊢ iprop((∀ W', (owes (c : Thread nD τ) 0 W' ∗ sepL (sentRes m c) ks)
            -∗ wp frame (wpE (defs₀ (F := F)) 𝒱₀ (c : Thread nD τ) none) Set.univ P Q)
          -∗ wp frame (wpE (defs₀ (F := F)) 𝒱₀ (c : Thread nD τ) none) Set.univ (waitSends ks P) Q)
  | [], W => by
    unfold waitSends sepL
    iintro ⟨-, HO, -⟩ Hk
    iapply Hk
    isplitl [HO]; · iexact HO
    iempintro
  | k :: ks, W => by
    unfold waitSends sepL
    iintro ⟨#HR, HO, ⟨⟨Hc, Hat⟩, Hks⟩⟩ Hcont
    iapply (wait_own m K c (.inr (.inl k)) W (waitSend_eq c k) 0) $$ [HO Hc Hat]
    · isplitr; · iexact HR
      isplitl [Hc]; · iexact Hc
      isplitl [HO]; · iexact HO
      isplitr; · rw [MayWait_zero]; iempintro
      iexact Hat
    iintro ⟨HO, Hp, Hz⟩
    iapply (waitSends_wp c P Q ks _) $$ [HO Hks]
    · isplitr; · iexact HR
      isplitl [HO]; · iexact HO
      iexact Hks
    iintro %W' ⟨HO, Hs⟩
    iapply Hcont
    isplitl [HO]; · iexact HO
    isplitl [Hp Hz]
    · unfold sentRes
      ihave Hp := (Entails.of_eq (show payOf m c 0 (some (js k)) = accPts m c k from rfl)) $$ Hp
      isplitl [Hp]; · iexact Hp
      iexact Hz
    iexact Hs

theorem waitRecvs_wp (c : Dev nD) (P : PROG F) (Q : PUnit → sProp 𝕄) : ∀ (ks : List (Fin 31)) (W : Waits sig Unit),
    iprop(records m K ∗ owes (c : Thread nD τ) 0 W ∗ sepL (fun k => iprop(cred (tallyAt (recvCell c k) () N) ∗ atPos ER (recvCell c k) 0 ∅ 0)) ks)
      ⊢ iprop((∀ W', (owes (c : Thread nD τ) 0 W' ∗ sepL (landRes m c) ks)
            -∗ wp frame (wpE (defs₀ (F := F)) 𝒱₀ (c : Thread nD τ) none) Set.univ P Q)
          -∗ wp frame (wpE (defs₀ (F := F)) 𝒱₀ (c : Thread nD τ) none) Set.univ (waitRecvs ks P) Q)
  | [], W => by
    unfold waitRecvs sepL
    iintro ⟨-, HO, -⟩ Hk
    iapply Hk
    isplitl [HO]; · iexact HO
    iempintro
  | k :: ks, W => by
    unfold waitRecvs sepL
    iintro ⟨#HR, HO, ⟨⟨Hc, Hat⟩, Hks⟩⟩ Hcont
    iapply (wait_own m K c (.inr (.inr k)) W (waitRecv_eq c k) 0) $$ [HO Hc Hat]
    · isplitr; · iexact HR
      isplitl [Hc]; · iexact Hc
      isplitl [HO]; · iexact HO
      isplitr; · rw [MayWait_zero]; iempintro
      iexact Hat
    iintro ⟨HO, Hp, Hz⟩
    iapply (waitRecvs_wp c P Q ks _) $$ [HO Hks]
    · isplitr; · iexact HR
      isplitl [HO]; · iexact HO
      iexact Hks
    iintro %W' ⟨HO, Hs⟩
    iapply Hcont
    isplitl [HO]; · iexact HO
    isplitl [Hp Hz]
    · unfold landRes
      ihave Hp := (Entails.of_eq (show payOf m c 0 (some (jr k)) = recvPay m c k from rfl)) $$ Hp
      isplitl [Hp]; · iexact Hp
      iexact Hz
    iexact Hs

end Cert.LseProof

end
-- ==== Proof.Body.lean ====
/-
The body run once on a symbolic device, and the pipeline's obligation from it.
-/
module

public import proofs.«01_k».proof.Proof.Loops

@[expose] public section

noncomputable section

namespace Cert.LseProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The proof data of the one pipeline -/

/-- The device's block of W, whole, as at launch. -/
def gPts (c : Dev nD) : sProp 𝕄 := ((c : Thread nD τ).loc main_arg1) ↦{fullShare} m ((c : Thread nD τ).loc main_arg1)

/-- The exchange's ghost state device `c` starts from: every cell's record, its positions in its own cells, and the
    tokens of the duties it pays. -/
def ghost (K : Dev nD × CI → ℕ) (c : Dev nD) : sProp 𝕄 :=
  iprop(records m K
    ∗ (bigSep Finset.univ fun j : CI => atPos ER (kcell (c, j)) 0 ∅ 0)
    ∗ (bigSep Finset.univ fun k : Fin 31 => dutyTok ER (barCell (peer c k)) 0 (neg k))
    ∗ dutyTok ER (wCell c) 0 0
    ∗ (bigSep Finset.univ fun k : Fin 31 => dutyTok ER (sendCell c k) 0 0)
    ∗ (bigSep Finset.univ fun k : Fin 31 => dutyTok ER (recvCell (peer c k) k) 0 0))

def start (c : Dev nD) : sProp 𝕄 :=
  iprop((∃ K, ghost m K c) ∗ cred (tallyAt (barCell c) () 31)
    ∗ (bigSep Finset.univ fun k : Fin 31 => cred (tallyAt (recvCell c k) () N)) ∗ levAts L lv ∗ gPts m c)

/-- Before the body: the start and the three scratch buffers. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)
/-- After the body: the scratch buffers filled, the block of W as it was, every cell at zero. -/
def Φ₁ (c : Dev nD) : sProp 𝕄 :=
  iprop((((c : Thread nD τ).loc cc0_scratch0) ↦{fullShare} wAt m c) ∗ (((c : Thread nD τ).loc cc0_scratch1) ↦{fullShare} accAt m c)
    ∗ (((c : Thread nD τ).loc cc0_scratch2) ↦{fullShare} recvAt m c) ∗ gPts m c
    ∗ (bigSep Finset.univ fun j : OCI => semVal (kcell (c, .inr j)) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => lAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reads and writes of whole buffers, and the two rows of the accumulator -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem row_emb (r : Fin 2) (inb) (x : S1x1024.Idx) :
    (aM.access (Rect.unit (s := S2x1024) ![r.val, 0] S1x1024.size inb) : View sig .tc _ _ _).emb x = (ix2 r (x 1 : Fin 1024) : S2x1024.Idx) := by
  funext a
  have h0 : (x 0).val < 1 := (x 0).isLt
  match a with
  | ⟨0, _⟩ => exact Fin.ext (show r.val + 1 * (x 0).val = r.val by omega)
  | ⟨1, _⟩ => exact Fin.ext ((Nat.zero_add _).trans (Nat.one_mul _))

theorem row0_same (f : (cc0_scratch1 : Ref sig .tc).ty.Contents (Elt F)) (b : FVec F S1x1024 .f32) (j : Fin 1024) :
    (aM.access r0 : View sig .tc _ _ _).write (Elt F) f b Finset.univ (ix2 (0 : Fin 2) j : S2x1024.Idx) = b (ix2 (0 : Fin 1) j) := by
  have h := View.write_emb_of_mem (Val := Elt F) (v := (aM.access r0 : View sig .tc _ _ _)) f b (Finset.mem_univ (ix2 (0 : Fin 1) j : S1x1024.Idx))
  exact (congrArg _ (row_emb 0 _ (ix2 (0 : Fin 1) j : S1x1024.Idx)).symm).trans h
theorem row1_same (f : (cc0_scratch1 : Ref sig .tc).ty.Contents (Elt F)) (b : FVec F S1x1024 .f32) (j : Fin 1024) :
    (aM.access r1 : View sig .tc _ _ _).write (Elt F) f b Finset.univ (ix2 (1 : Fin 2) j : S2x1024.Idx) = b (ix2 (0 : Fin 1) j) := by
  have h := View.write_emb_of_mem (Val := Elt F) (v := (aM.access r1 : View sig .tc _ _ _)) f b (Finset.mem_univ (ix2 (0 : Fin 1) j : S1x1024.Idx))
  exact (congrArg _ (row_emb 1 _ (ix2 (0 : Fin 1) j : S1x1024.Idx)).symm).trans h
theorem row1_other (f : (cc0_scratch1 : Ref sig .tc).ty.Contents (Elt F)) (b : FVec F S1x1024 .f32) (j : Fin 1024) :
    (aM.access r1 : View sig .tc _ _ _).write (Elt F) f b Finset.univ (ix2 (0 : Fin 2) j : S2x1024.Idx) = (f : S2x1024.Idx → F .f32) (ix2 (0 : Fin 2) j) := by
  refine View.write_of_not_mem (Val := Elt F) (v := (aM.access r1 : View sig .tc _ _ _)) f b Finset.univ fun h => ?_
  obtain ⟨x, -, hx⟩ := Finset.mem_map.mp h
  have h0 := congrFun ((row_emb 1 _ x).symm.trans hx) (0 : Fin 2)
  exact absurd h0 (by decide : ¬ (1 : Fin 2) = 0)

/-- The two row stores fill the accumulator, whatever it held. -/
theorem acc_write (c : Dev nD) (f : (cc0_scratch1 : Ref sig .tc).ty.Contents (Elt F)) :
    (aM.access r1 : View sig .tc _ _ _).write (Elt F) ((aM.access r0 : View sig .tc _ _ _).write (Elt F) f (bsAt m c) Finset.univ) (labAt m c) Finset.univ
      = accAt m c := by
  funext i
  obtain ⟨r, j, rfl⟩ : ∃ (r : Fin 2) (j : Fin 1024), i = (ix2 r j : S2x1024.Idx) := ⟨_, _, eq_ix2 (n0 := 2) (n1 := 1024) i⟩
  match r with
  | 0 => exact (row1_other _ _ j).trans (row0_same _ _ j)
  | 1 => exact row1_same _ _ j

/-- The local copy leaves the device's columns of W. -/
theorem w_landed (c : Dev nD) (f : (cc0_scratch0 : Ref sig .tc).ty.Contents (Elt F)) :
    wM.view.write (Elt F) f ((wSrc c).view.read (Elt F) (m ((c : Thread nD τ).loc main_arg1))) Finset.univ = wAt m c :=
  View.write_whole_univ _ _ _

/-! ## The block of W cut for the local copy -/

/-- What of the block of W the local copy does not read. -/
def restPts (c : Dev nD) : sProp 𝕄 :=
  ((c : Thread nD τ).loc main_arg1) ↦[Finset.univ \ (wSrc c).view.set]{fullShare} m ((c : Thread nD τ).loc main_arg1)

theorem gPts_split (c : Dev nD) : (gPts m c : sProp 𝕄) ⊣⊢ iprop(srcPts m c ∗ restPts m c) :=
  pointsTo_split_subset (Finset.subset_univ _)

/-! ## The body -/

section Run

variable (K : Dev nD × CI → ℕ)

theorem sepL_sep (A B : Fin 31 → sProp 𝕄) :
    sepL (fun k => iprop(A k ∗ B k)) all31 = iprop((bigSep Finset.univ fun k => A k) ∗ (bigSep Finset.univ fun k => B k)) :=
  (bigSep_all _).symm.trans (bigSep_sep' Finset.univ A B)

theorem bigSep_one (Φ : Unit → sProp 𝕄) : bigSep Finset.univ Φ = Φ () := BI.bigSep_univ_of_subsingleton ()

theorem wp_copy_w (c : Dev nD) (f : Buf (Elt F) (wM.view.loc (c : Thread nD τ))) {hsrc hdst hsem} {kt : PUnit → PROG F} {Q : PUnit → sProp 𝕄} :
    iprop(cellInv ER (rd m) (K (c, jw)) (wCell c) ∗ srcPts m c ∗ wPts c f ∗ dutyTok ER (wCell c) 0 0 ∗ reached ER (wCell c) 0)
      ⊢ iprop((cred (tallyAt (wCell c) () Nw) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (wSrc c) (.here wM) (.dma wS) hsrc hdst hsem) kt) Q) := by
  unfold srcPts wPts
  exact Rounds.wp_copy_pointsTo 𝒱₀ ER (rd m) (c : Thread nD τ) none (r := 0) (d := 0) (κ := K (c, jw)) (fd := f)
    (by rw [show (rd (F := F) m).duties (wCell c) 0 = {0} from duties_cell m c jw]; exact Finset.mem_singleton_self _)
    () Nw rfl (amount_cell m c jw 0)
    (by
      rw [show (rd (F := F) m).payload (wCell c) 0 0 = wPay m c from payload_cell m c jw 0, w_landed]
      unfold wPay wPts srcPts
      exact BI.Entails.refl _)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev WPC (c : Dev nD) (P : PROG F) (Q : PUnit → sProp 𝕄) : sProp 𝕄 :=
  wp frame (wpE (defs₀ (F := F)) 𝒱₀ (c : Thread nD τ) none) Set.univ P Q

/-- The loads of what has been gathered and the store of the result. -/
theorem tail_wp (c : Dev nD) (f2 : Buf (Elt F) ((c : Thread nD τ).loc cc0_stg2_0)) (Q : PUnit → sProp 𝕄) :
    iprop((((c : Thread nD τ).loc cc0_scratch1) ↦{fullShare} accAt m c) ∗ (((c : Thread nD τ).loc cc0_scratch2) ↦{fullShare} recvAt m c)
        ∗ (((c : Thread nD τ).loc cc0_stg2_0) ↦{fullShare} f2))
      ⊢ iprop((((((c : Thread nD τ).loc cc0_scratch1) ↦{fullShare} accAt m c) ∗ (((c : Thread nD τ).loc cc0_scratch2) ↦{fullShare} recvAt m c)
        ∗ (((c : Thread nD τ).loc cc0_stg2_0) ↦{fullShare} outAt m c)) -∗ Q ⟨⟩) -∗ WPC c tailP Q) := by
  unfold tailP WPC
  iintro ⟨Ha, Hr, Ho⟩ Hk
  iapply (wp_load 𝒱₀ (c : Thread nD τ) none Set.univ (m := aM) (Finset.subset_univ _)) $$ Ha; iintro Ha
  rw [show aM.view.readAt (Elt F) (Rect.unit (s := S2x1024) ![0, 0] S2x1024.size inb_S2x1024_S2x1024_0_0).toLoadRect (accAt m c) = accAt m c
    from Memref.readAt_unit_zero (Elt F) cc0_scratch1 hz2 _ _]
  iapply (wp_load 𝒱₀ (c : Thread nD τ) none Set.univ (m := rM) (Finset.subset_univ _)) $$ Hr; iintro Hr
  rw [show rM.view.readAt (Elt F) (Rect.unit (s := S31x2x1024) ![0, 0, 0] S31x2x1024.size inb_S31x2x1024_S31x2x1024_0_0_0).toLoadRect (recvAt m c) = recvAt m c
    from Memref.readAt_unit_zero (Elt F) cc0_scratch2 hz3 _ _]
  iapply (wp_load 𝒱₀ (c : Thread nD τ) none Set.univ (m := oM) (Finset.subset_univ _)) $$ Ho; iintro Ho
  iapply (wp_store 𝒱₀ (c : Thread nD τ) none Set.univ (m := oM) (r := Rect.unit (s := S1024) ![0] S1024.size inb_S1024_S1024_0) (Mk := Finset.univ) (Finset.subset_univ _)) $$ Ho; iintro Ho
  rw [show (oM.access (Rect.unit (s := S1024) ![0] S1024.size inb_S1024_S1024_0) : View sig .tc _ _ _).write (Elt F) f2 (k0_pay1 (accAt m c) (recvAt m c)) Finset.univ
      = outAt m c from Memref.write_access_unit_zero_univ (Elt F) cc0_stg2_0 hz1 _ f2 _, wp_ret]
  imodintro
  iapply Hk
  isplitl [Ha]; · iexact Ha
  isplitl [Hr] <;> iassumption

/-- From the barrier wait on. -/
theorem exch_wp (c : Dev nD) (f2 : Buf (Elt F) ((c : Thread nD τ).loc cc0_stg2_0)) (W : Waits sig Unit) (Q : PUnit → sProp 𝕄) :
    iprop(records m K ∗ levAts L lv ∗ cred (tallyAt (barCell c) () 31) ∗ owes (c : Thread nD τ) (O₁ c) W ∗ atPos ER (barCell c) 0 ∅ 0
        ∗ (bigSep Finset.univ fun k : Fin 31 => dutyTok ER (sendCell c k) 0 0)
        ∗ (bigSep Finset.univ fun k : Fin 31 => dutyTok ER (recvCell (peer c k) k) 0 0)
        ∗ (bigSep Finset.univ fun k : Fin 31 => atPos ER (sendCell c k) 0 ∅ 0)
        ∗ (bigSep Finset.univ fun k : Fin 31 => atPos ER (recvCell c k) 0 ∅ 0)
        ∗ (bigSep Finset.univ fun k : Fin 31 => cred (tallyAt (recvCell c k) () N))
        ∗ (((c : Thread nD τ).loc cc0_scratch1) ↦{fullShare} accAt m c) ∗ (((c : Thread nD τ).loc cc0_stg2_0) ↦{fullShare} f2))
      ⊢ iprop((∀ W', (owes (c : Thread nD τ) 0 W'
          ∗ (((c : Thread nD τ).loc cc0_scratch1) ↦{fullShare} accAt m c) ∗ (((c : Thread nD τ).loc cc0_scratch2) ↦{fullShare} recvAt m c)
          ∗ (((c : Thread nD τ).loc cc0_stg2_0) ↦{fullShare} outAt m c)
          ∗ semVal (barCell c) 0 ∗ (bigSep Finset.univ fun k : Fin 31 => semVal (sendCell c k) 0)
          ∗ (bigSep Finset.univ fun k : Fin 31 => semVal (recvCell c k) 0)) -∗ Q ⟨⟩) -∗ WPC c (exchP c) Q) := by
  unfold exchP WPC
  iintro ⟨#HR, #Hlev, HcB, HO, HatB, Ht1, Ht2, HatS, HatV, HcV, Ha, Hout⟩ Hk
  iapply (Rounds.wp_wait_rest_token 𝒱₀ ER (rd m) (c : Thread nD τ) none (κ := K (c, jb))
      (wpE_semWait_eq 𝒱₀ (c : Thread nD τ) none Set.univ) (Set.mem_univ _) () (O := O₁ c) (W := W) (R := 0) (m := 0) (T := ∅)
      (by rw [expect_bar])) $$ [HcB HO HatB]
  · isplitr; · iapply (records_inv m K (c, jb)); iexact HR
    isplitl [HcB]; · iexact HcB
    isplitl [HO]; · iexact HO
    isplitr; · iapply (mayWait_bar c); iexact Hlev
    iexact HatB
  iintro ⟨HO, HatB, -, Hpay⟩
  ihave Hslots := (Entails.of_eq (rest_bar m c)) $$ Hpay
  imod (Rounds.cell_close ER (rd m) (Set.mem_univ (K (c, jb))) (fun h => h) (R := 0 + 1) (duties_later m (barCell c))) $$ [HatB] with HzB
  · isplitr; · iapply (records_inv m K (c, jb)); iexact HR
    iexact HatB
  ihave Ha' := (Entails.of_eq (acc_pieces m c)) $$ Ha
  iapply (sends_wp m K c (insert (SemLoc.reg barS, ()) W) _ Q all31) $$ [HO Ht1 Ht2 Ha' Hslots]
  · isplitr; · iexact HR
    isplitl [HO]; · iexact HO
    iapply (Entails.of_eq (((sepL_sep _ _).trans (congrArg (fun X => iprop((bigSep Finset.univ fun k : Fin 31 => dutyTok ER (sendCell c k) 0 0) ∗ X))
      ((bigSep_sep' Finset.univ _ _).trans (congrArg (fun X => iprop((bigSep Finset.univ fun k : Fin 31 => dutyTok ER (recvCell (peer c k) k) 0 0) ∗ X))
        (bigSep_sep' Finset.univ _ _))))).symm :
      _ = sepL (sendRes m c) all31))
    isplitl [Ht1]; · iexact Ht1
    isplitl [Ht2]; · iexact Ht2
    isplitl [Ha'] <;> iassumption
  iintro ⟨HO, HcS⟩
  iapply (waitSends_wp m K c _ Q all31 (insert (SemLoc.reg barS, ()) W)) $$ [HO HcS HatS]
  · isplitr; · iexact HR
    isplitl [HO]; · iexact HO
    iapply (Entails.of_eq (sepL_sep _ _).symm)
    rw [bigSep_all (fun k => cred (tallyAt (sendCell c k) () N))]
    isplitl [HcS] <;> iassumption
  iintro %W1 ⟨HO, HS⟩
  iapply (waitRecvs_wp m K c _ Q all31 W1) $$ [HO HcV HatV]
  · isplitr; · iexact HR
    isplitl [HO]; · iexact HO
    iapply (Entails.of_eq (sepL_sep _ _).symm)
    isplitl [HcV] <;> iassumption
  iintro %W2 ⟨HO, HV⟩
  ihave HS' := (Entails.of_eq (show sepL (sentRes m c) all31 = _ from sepL_sep (fun k => accPts m c k) (fun k => semVal (sendCell c k) 0))) $$ HS
  ihave HV' := (Entails.of_eq (show sepL (landRes m c) all31 = _ from sepL_sep (fun k => recvPay m c k) (fun k => semVal (recvCell c k) 0))) $$ HV
  icases HS' with ⟨Ha, HzS⟩
  icases HV' with ⟨Hr, HzV⟩
  ihave Ha' := (Entails.of_eq (acc_pieces m c).symm) $$ Ha
  ihave Hr' := (Entails.of_eq (show (bigSep Finset.univ fun k => recvPay m c k) = _ from (recv_slots c (recvAt m c)).symm)) $$ Hr
  iapply (tail_wp m c f2 Q) $$ [Ha' Hr' Hout]
  · isplitl [Ha']; · iexact Ha'
    isplitl [Hr'] <;> iassumption
  iintro ⟨Ha, Hr, Ho⟩
  iapply Hk
  isplitl [HO]; · iexact HO
  isplitl [Ha]; · iexact Ha
  isplitl [Hr]; · iexact Hr
  isplitl [Ho]; · iexact Ho
  isplitl [HzB]; · iexact HzB
  isplitl [HzS] <;> iassumption

/-- The local work and the exchange. -/
theorem work_wp (c : Dev nD) (f1 : Buf (Elt F) ((c : Thread nD τ).loc cc0_scratch1)) (W : Waits sig Unit) (Q : PUnit → sProp 𝕄) (R : sProp 𝕄)
    (hexch : ∀ W' : Waits sig Unit, iprop(R ∗ owes (c : Thread nD τ) (O₁ c) W' ∗ (((c : Thread nD τ).loc cc0_scratch0) ↦{fullShare} wAt m c) ∗ gPts m c
        ∗ (((c : Thread nD τ).loc cc0_stg0_0) ↦{fullShare} xAt m c) ∗ (((c : Thread nD τ).loc cc0_stg1_0) ↦{fullShare} lAt m c)
        ∗ (((c : Thread nD τ).loc cc0_scratch1) ↦{fullShare} accAt m c) ∗ semVal (wCell c) 0) ⊢ WPC c (exchP c) Q) :
    iprop(R ∗ records m K ∗ levAts L lv ∗ owes (c : Thread nD τ) (O₁ c) W ∗ cred (tallyAt (wCell c) () Nw) ∗ atPos ER (wCell c) 0 ∅ 0 ∗ restPts m c
        ∗ (((c : Thread nD τ).loc cc0_stg0_0) ↦{fullShare} xAt m c) ∗ (((c : Thread nD τ).loc cc0_stg1_0) ↦{fullShare} lAt m c)
        ∗ (((c : Thread nD τ).loc cc0_scratch1) ↦{fullShare} f1))
      ⊢ WPC c (workP c) Q := by
  unfold workP
  iintro ⟨HR0, #HR, #Hlev, HO, Hc, Hat, Hrest, Hx, Hl, Ha⟩
  iapply (wait_own m K c (.inl ()) W (waitW_eq c c) (O₁ c)) $$ [HO Hc Hat]
  · isplitr; · iexact HR
    isplitl [Hc]; · iexact Hc
    isplitl [HO]; · iexact HO
    isplitr
    · iapply (mayWait_low c wS (by rw [show cix (.dma wS) = some jw from cix_csem jw]; rfl) (O₁ c) (.inr (.inl rfl))); iexact Hlev
    iexact Hat
  iintro ⟨HO, Hp, Hz⟩
  ihave Hp := (Entails.of_eq (show payOf m c 0 (some jw) = iprop(wPts c (wAt m c) ∗ srcPts m c) from rfl)) $$ Hp
  icases Hp with ⟨Hw, Hsrc⟩
  ihave Hg := (gPts_split m c).2 $$ [Hsrc Hrest]
  · isplitl [Hsrc] <;> iassumption
  ihave Hw := (Entails.of_eq (show (wPts c (wAt m c) : sProp 𝕄) = (((c : Thread nD τ).loc cc0_scratch0) ↦{fullShare} wAt m c)
    by unfold wPts; rw [View.set_whole])) $$ Hw
  iapply (wp_load 𝒱₀ (c : Thread nD τ) none Set.univ (m := xM) (Finset.subset_univ _)) $$ Hx; iintro Hx
  rw [show xM.view.readAt (Elt F) (Rect.unit (s := S1024x2048) ![0, 0] S1024x2048.size inb_S1024x2048_S1024x2048_0_0).toLoadRect (xAt m c) = xAt m c
    from Memref.readAt_unit_zero (Elt F) cc0_stg0_0 hz2 _ _]
  iapply (wp_load 𝒱₀ (c : Thread nD τ) none Set.univ (m := wM) (Finset.subset_univ _)) $$ Hw; iintro Hw
  rw [show wM.view.readAt (Elt F) (Rect.unit (s := S2048x1024) ![0, 0] S2048x1024.size inb_S2048x1024_S2048x1024_0_0).toLoadRect (wAt m c) = wAt m c
    from Memref.readAt_unit_zero (Elt F) cc0_scratch0 hz2 _ _]
  iapply (wp_load 𝒱₀ (c : Thread nD τ) none Set.univ (m := lM) (Finset.subset_univ _)) $$ Hl; iintro Hl
  rw [show lM.view.readAt (Elt F) (Rect.unit (s := S1024) ![0] S1024.size inb_S1024_S1024_0).toLoadRect (lAt m c) = lAt m c
    from Memref.readAt_unit_zero (Elt F) cc0_stg1_0 hz1 _ _]
  iapply (wp_load 𝒱₀ (c : Thread nD τ) none Set.univ (m := aM) (Finset.subset_univ _)) $$ Ha; iintro Ha
  iapply (wp_store 𝒱₀ (c : Thread nD τ) none Set.univ (m := aM) (r := r0) (Mk := Finset.univ) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := r1) (Mk := Finset.univ) (Finset.subset_univ _)) $$ Ha; iintro Ha
  ihave Ha := (Entails.of_eq (congrArg (fun f => (((c : Thread nD τ).loc cc0_scratch1) ↦{fullShare} f : sProp 𝕄)) (acc_write m c f1))) $$ Ha
  iapply (hexch _)
  isplitl [HR0]; · iexact HR0
  isplitl [HO]; · iexact HO
  isplitl [Hw]; · iexact Hw
  isplitl [Hg]; · iexact Hg
  isplitl [Hx]; · iexact Hx
  isplitl [Hl]; · iexact Hl
  isplitl [Ha] <;> iassumption

theorem slots_ex (c : Dev nD) (f : Buf (Elt F) ((c : Thread nD τ).loc cc0_scratch2)) :
    (bigSep Finset.univ fun k : Fin 31 => (slotPts c (neg k) f : sProp 𝕄)) ⊢ bigSep Finset.univ fun k : Fin 31 => iprop(∃ f, slotPts c (neg k) f) :=
  bigSep_mono fun k _ => by
    show (slotPts c (neg k) f : sProp 𝕄) ⊢ iprop(∃ f, slotPts c (neg k) f)
    iintro H; iexists f; iexact H

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xAt m c) ∗ stg c cc0_stg1_0 (lAt m c) ∗ stg c cc0_stg2_0 (outAt m c))

theorem own_zero (c : Dev nD) (Ψ : OCI → sProp 𝕄) :
    bigSep Finset.univ Ψ = iprop(Ψ (.inl ()) ∗ (bigSep Finset.univ fun k : Fin 31 => Ψ (.inr (.inl k))) ∗ (bigSep Finset.univ fun k : Fin 31 => Ψ (.inr (.inr k)))) :=
  (bigSep_univ_sum Ψ).trans (by rw [bigSep_one, bigSep_univ_sum]; rfl)

theorem all_zero (c : Dev nD) (Ψ : CI → sProp 𝕄) :
    bigSep Finset.univ Ψ = iprop(Ψ jb ∗ Ψ jw ∗ (bigSep Finset.univ fun k : Fin 31 => Ψ (js k)) ∗ (bigSep Finset.univ fun k : Fin 31 => Ψ (jr k))) :=
  (bigSep_univ_sum Ψ).trans (by rw [bigSep_one, own_zero c]; rfl)

set_option maxRecDepth 8000 in
/-- The body, from the launch's start to its end. -/
theorem sound_body (c : Dev nD) (Q : PUnit → sProp 𝕄) : iprop(bodyPre m c ∗ (bodyPost m c -∗ Q ⟨⟩)) ⊢ WPC c flatP Q := by
  unfold flatP WPC
  rw [wp_deviceId]
  show _ ⊢ WPC c (restP c) Q
  unfold restP bodyPre Φ₀ start ghost
  iintro ⟨⟨⟨⟨⟨%K, #HR, Hat, HtB, HtW, HtS, HtV⟩, HcB, HcV, #Hlev, Hg⟩, ⟨%f0, Hw⟩, ⟨%f1, Ha⟩, ⟨%f2, Hr⟩⟩, Ho,
    ⟨%d0, %g0, %hg0, Hx⟩, ⟨%d1, %g1, %hg1, Hl⟩, ⟨%d2, %g2, %hg2, Hout⟩⟩, Hk⟩
  have hx : g0 = xAt m c := by rw [hg0]; unfold Dat.before; rw [if_pos (fetch0_0 t0_0)]; rfl
  have hl : g1 = lAt m c := by rw [hg1]; unfold Dat.before; rw [if_pos (fetch0_1 t0_0)]; rfl
  subst hx; subst hl
  unfold Dat.owesAt Pipeline.owesWithin
  icases Ho with ⟨%W, %hW, HO⟩
  rw [show (dats m 0 c).owed t0_0.castSucc = O₀ c from rfl]
  ihave Hat := (Entails.of_eq (all_zero c fun j : CI => atPos ER (kcell (c, j)) 0 ∅ 0)) $$ Hat
  icases Hat with ⟨HatB, HatW, HatS, HatV⟩
  ihave Hg := (gPts_split m c).1 $$ Hg
  icases Hg with ⟨Hsrc, Hrest⟩
  iapply (wp_copy_w m K c f0) $$ [Hsrc Hw HtW]
  · isplitr; · iapply (records_inv m K (c, jw)); iexact HR
    isplitl [Hsrc]; · iexact Hsrc
    isplitl [Hw]
    · unfold wPts; rw [View.set_whole]; iexact Hw
    isplitl [HtW]; · iexact HtW
    iapply (records_reached m K (c, jw)); iexact HR
  iintro HcW
  ihave Hslots := (Entails.of_eq ((recv_slots c f2).trans (bigSep_univ_equiv flip fun k => slotPts c k f2))) $$ Hr
  unfold O₀
  iapply (sigs_wp m K c (O₁ c) W _ Q all31) $$ [HO HtB Hslots]
  · isplitr; · iexact HR
    isplitl [HO]; · iexact HO
    iapply (Entails.of_eq (sepL_sep (fun k => dutyTok ER (barCell (peer c k)) 0 (neg k)) (fun k => iprop(∃ f, slotPts c (neg k) f))).symm)
    isplitl [HtB]; · iexact HtB
    iapply (slots_ex c f2)
    iexact Hslots
  iintro HO
  iapply (work_wp m K c f1 W Q iprop(records m K ∗ levAts L lv ∗ cred (tallyAt (barCell c) () 31) ∗ atPos ER (barCell c) 0 ∅ 0
        ∗ (bigSep Finset.univ fun k : Fin 31 => dutyTok ER (sendCell c k) 0 0)
        ∗ (bigSep Finset.univ fun k : Fin 31 => dutyTok ER (recvCell (peer c k) k) 0 0)
        ∗ (bigSep Finset.univ fun k : Fin 31 => atPos ER (sendCell c k) 0 ∅ 0)
        ∗ (bigSep Finset.univ fun k : Fin 31 => atPos ER (recvCell c k) 0 ∅ 0)
        ∗ (bigSep Finset.univ fun k : Fin 31 => cred (tallyAt (recvCell c k) () N))
        ∗ (((c : Thread nD τ).loc cc0_stg2_0) ↦{fullShare} g2)
        ∗ (bodyPost m c -∗ Q ⟨⟩)) ?_)
  rotate_left
  · isplitl [HcB HatB HtS HtV HatS HatV HcV Hout Hk]
    · isplitr; · iexact HR
      isplitr; · iexact Hlev
      isplitl [HcB]; · iexact HcB
      isplitl [HatB]; · iexact HatB
      isplitl [HtS]; · iexact HtS
      isplitl [HtV]; · iexact HtV
      isplitl [HatS]; · iexact HatS
      isplitl [HatV]; · iexact HatV
      isplitl [HcV]; · iexact HcV
      isplitl [Hout] <;> iassumption
    isplitr; · iexact HR
    isplitr; · iexact Hlev
    isplitl [HO]; · iexact HO
    isplitl [HcW]; · iexact HcW
    isplitl [HatW]; · iexact HatW
    isplitl [Hrest]; · iexact Hrest
    isplitl [Hx]; · iexact Hx
    isplitl [Hl] <;> iassumption
  · intro W'
    iintro ⟨⟨#HR, #Hlev, HcB, HatB, HtS, HtV, HatS, HatV, HcV, Hout, Hk⟩, HO, Hw, Hg, Hx, Hl, Ha, HzW⟩
    iapply (exch_wp m K c g2 W' Q) $$ [HcB HatB HtS HtV HatS HatV HcV Hout HO Ha]
    · isplitr; · iexact HR
      isplitr; · iexact Hlev
      isplitl [HcB]; · iexact HcB
      isplitl [HO]; · iexact HO
      isplitl [HatB]; · iexact HatB
      isplitl [HtS]; · iexact HtS
      isplitl [HtV]; · iexact HtV
      isplitl [HatS]; · iexact HatS
      isplitl [HatV]; · iexact HatV
      isplitl [HcV]; · iexact HcV
      isplitl [Ha] <;> iassumption
    iintro %W2 ⟨HO, Ha, Hr, Hout, HzB, HzS, HzV⟩
    iapply Hk
    unfold bodyPost Φ₁ Dat.owesAt Pipeline.owesWithin
    rw [show (dats m 0 c).owed t0_0.succ = 0 from rfl]
    isplitl [Hw Ha Hr Hg HzB HzS HzV HzW]
    · isplitl [Hw]; · iexact Hw
      isplitl [Ha]; · iexact Ha
      isplitl [Hr]; · iexact Hr
      isplitl [Hg]; · iexact Hg
      isplitr [HzB]
      · rw [own_zero c fun j : OCI => semVal (kcell (c, .inr j)) 0]
        isplitl [HzW]; · iexact HzW
        isplitl [HzS] <;> iassumption
      iexact HzB
    isplitl [HO]
    · iexists W2
      isplitr; · ipureintro; exact fun _ _ => Or.inl trivial
      iexact HO
    isplitl [Hx]
    · iexists _; isplitr; · (ipureintro; rfl)
      iexact Hx
    isplitl [Hl]
    · iexists _; isplitr; · (ipureintro; rfl)
      iexact Hl
    iexists _; isplitr; · (ipureintro; rfl)
    iexact Hout

set_option maxRecDepth 65536 in
/-- The pipeline's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WPC c (bodyAt0 t0_0) (fun _ => bodyPost m c)
  rw [body_eq t0_0]
  iintro H
  iapply (sound_body m c fun _ => bodyPost m c)
  isplitl [H]; · iexact H
  iintro H; iexact H

end Run

end Cert.LseProof

end
-- ==== Proof.Launch.lean ====
/-
The launch: the ghost state dealt to the devices, the side conditions of the launch theorem, and the run of @main.
-/
module

public import proofs.«01_k».proof.Proof.Body
public import Idealize.ShloMosaic.Lib.Pipeline.CollectiveSegs

@[expose] public section

noncomputable section

namespace Cert.LseProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Cells and tokens at launch -/

/-- The exchange's cells, over all devices. -/
def ringCells : Finset (GSem nD τ sig) := Finset.univ.map ⟨kcell, kcell_injective⟩

/-- The duties of one device's own cells: the barrier's 31, and one of every other cell. -/
abbrev TI : Type := Fin 31 ⊕ OCI

/-- A duty's token, named by its device and duty. -/
def tokOf : Dev nD × TI → GSem nD τ sig × ℕ × Fin 31
  | (c, .inl d) => (barCell c, 0, d)
  | (c, .inr j) => (kcell (c, .inr j), 0, 0)

theorem tokOf_injective : Function.Injective tokOf := by
  rintro ⟨c, d | j⟩ ⟨c', d' | j'⟩ h
  · have h1 := kcell_injective (a₁ := (c, jb)) (a₂ := (c', jb)) (congrArg Prod.fst h)
    have h2 : d = d' := congrArg (fun x : GSem nD τ sig × ℕ × Fin 31 => x.2.2) h
    obtain rfl : c = c' := (Prod.ext_iff.mp h1).1
    rw [h2]
  · have h1 := kcell_injective (a₁ := (c, jb)) (a₂ := (c', .inr j')) (congrArg Prod.fst h)
    exact absurd (Prod.ext_iff.mp h1).2 (by simp)
  · have h1 := kcell_injective (a₁ := (c, .inr j)) (a₂ := (c', jb)) (congrArg Prod.fst h)
    exact absurd (Prod.ext_iff.mp h1).2 (by simp)
  · have h1 := kcell_injective (a₁ := (c, .inr j)) (a₂ := (c', .inr j')) (congrArg Prod.fst h)
    obtain rfl : c = c' := (Prod.ext_iff.mp h1).1
    obtain rfl : j = j' := Sum.inr.inj (Prod.ext_iff.mp h1).2
    rfl

/-- The exchange's tokens, over all devices. -/
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The tokens of device `c`'s own cells, as minted. -/
def toks (c : Dev nD) : sProp 𝕄 :=
  iprop((bigSep Finset.univ fun k : Fin 31 => dutyTok ER (barCell c) 0 k) ∗ dutyTok ER (wCell c) 0 0
    ∗ (bigSep Finset.univ fun k : Fin 31 => dutyTok ER (sendCell c k) 0 0)
    ∗ (bigSep Finset.univ fun k : Fin 31 => dutyTok ER (recvCell c k) 0 0))

/-- The tokens of the duties that device `c` pays. -/
def payToks (c : Dev nD) : sProp 𝕄 :=
  iprop((bigSep Finset.univ fun k : Fin 31 => dutyTok ER (barCell (peer c k)) 0 (neg k)) ∗ dutyTok ER (wCell c) 0 0
    ∗ (bigSep Finset.univ fun k : Fin 31 => dutyTok ER (sendCell c k) 0 0)
    ∗ (bigSep Finset.univ fun k : Fin 31 => dutyTok ER (recvCell (peer c k) k) 0 0))

/-- What the launch deals to device `c`. -/
def G (c : Dev nD) : sProp 𝕄 :=
  iprop((bigSep Finset.univ fun j : CI => roundState ER (rd m) (kcell (c, j)) 0)
    ∗ (bigSep Finset.univ fun j : CI => atPos ER (kcell (c, j)) 0 ∅ 0)
    ∗ (bigSep Finset.univ fun j : CI => reached ER (kcell (c, j)) 0) ∗ toks c)

/-- What the global step makes of it. -/
def G' (c : Dev nD) : sProp 𝕄 := iprop(∃ K, ghost m K c)

theorem toks_eq (c : Dev nD) :
    (bigSep Finset.univ fun t : TI => dutyTok ER (tokOf (c, t)).1 (tokOf (c, t)).2.1 (tokOf (c, t)).2.2 : sProp 𝕄) = toks c := by
  rw [bigSep_univ_sum, own_zero c]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : CI => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores become invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's are the values of the exchange's cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CI => semVal (kcell (c, j)) 0 : sProp 𝕄) := by
  rw [unscopedSems0_eq, bigSep_univ_sum, bigSep_one]
  show iprop((bigSep Finset.univ fun j : OCI => semVal (kcell (c, .inr j)) 0) ∗ semVal (barCell c) 0)
    ⊢ iprop(semVal (barCell c) 0 ∗ bigSep Finset.univ fun j : OCI => semVal (kcell (c, .inr j)) 0)
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CI => iprop(∃ κ : ℕ, cellInv ER (rd m) κ (kcell (c, j))))
          ∗ (bigSep Finset.univ fun j : CI => atPos ER (kcell (c, j)) 0 ∅ 0)
          ∗ (bigSep Finset.univ fun j : CI => reached ER (kcell (c, j)) 0) ∗ toks c) := by
  have hinv : iprop((bigSep Finset.univ fun j : CI => semVal (kcell (c, j)) 0) ∗ bigSep Finset.univ fun j : CI => roundState ER (rd m) (kcell (c, j)) 0)
      ⊢ (|={Set.univ}=> bigSep Finset.univ fun j : CI => iprop(∃ κ : ℕ, cellInv ER (rd m) κ (kcell (c, j))) : sProp 𝕄) := by
    rw [← bigSep_sep']
    exact (bigSep_mono fun j _ => (Rounds.body_intro ER (rd m) (kcell (c, j))).trans inv_alloc).trans (bigSep_fupd _ _)
  unfold G
  iintro ⟨Hos, Hus, Hst, Hrest⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  iexact Hrest

/-- The tokens dealt to their payers: of a barrier's duties, duty `d` goes to the device whose offset to it is opposite to
    `d`; a landing's token goes to the device that sends it. -/
theorem toks_around : (bigSep Finset.univ fun c : Dev nD => (toks c : sProp 𝕄)) ⊢ bigSep Finset.univ fun c : Dev nD => payToks c := by
  have hB : (bigSep Finset.univ fun c : Dev nD => bigSep Finset.univ fun k : Fin 31 => (dutyTok ER (barCell c) 0 k : sProp 𝕄))
      = bigSep Finset.univ fun c : Dev nD => bigSep Finset.univ fun k : Fin 31 => dutyTok ER (barCell (peer c k)) 0 (neg k) := by
    rw [BI.bigSep_univ_comm, bigSep_univ_equiv flip, BI.bigSep_univ_comm (fun (c : Dev nD) (k : Fin 31) => (dutyTok ER (barCell (peer c k)) 0 (neg k) : sProp 𝕄))]
    exact bigSep_congr fun k _ => bigSep_univ_equiv (shift k) _
  have hR : (bigSep Finset.univ fun c : Dev nD => bigSep Finset.univ fun k : Fin 31 => (dutyTok ER (recvCell c k) 0 0 : sProp 𝕄))
      = bigSep Finset.univ fun c : Dev nD => bigSep Finset.univ fun k : Fin 31 => dutyTok ER (recvCell (peer c k) k) 0 0 := by
    rw [BI.bigSep_univ_comm, BI.bigSep_univ_comm (fun (c : Dev nD) (k : Fin 31) => (dutyTok ER (recvCell (peer c k) k) 0 0 : sProp 𝕄))]
    exact bigSep_congr fun k _ => bigSep_univ_equiv (shift k) _
  unfold toks payToks
  simp only [bigSep_sep']
  rw [hB, hR]

theorem ghost_intro (K : Dev nD × CI → ℕ) (c : Dev nD) :
    iprop(records m K ∗ ((bigSep Finset.univ fun j : CI => atPos ER (kcell (c, j)) 0 ∅ 0) ∗ payToks c)) ⊢ G' m c := by
  unfold payToks G' ghost
  iintro ⟨HR, Hat, Hrest⟩
  iexists K
  isplitl [HR]; · iexact HR
  isplitl [Hat]; · iexact Hat
  iexact Hrest

theorem regroup :
    (bigSep Finset.univ fun c : Dev nD => iprop((bigSep Finset.univ fun j : CI => iprop(∃ κ : ℕ, cellInv ER (rd m) κ (kcell (c, j))))
          ∗ (bigSep Finset.univ fun j : CI => atPos ER (kcell (c, j)) 0 ∅ 0)
          ∗ (bigSep Finset.univ fun j : CI => reached ER (kcell (c, j)) 0) ∗ toks c) : sProp 𝕄)
      ⊢ bigSep Finset.univ (G' m) := by
  rw [bigSep_sep', bigSep_sep', bigSep_sep', ← bigSep_univ_prod (fun p : Dev nD × CI => iprop(∃ κ : ℕ, cellInv ER (rd m) κ (kcell p))),
    ← bigSep_univ_prod (fun p : Dev nD × CI => (reached ER (kcell p) 0 : sProp 𝕄))]
  iintro ⟨HI, Hat, HR, Htok⟩
  ihave HK := (BI.bigSep_exists_pi Finset.univ (fun (p : Dev nD × CI) (κ : ℕ) => (cellInv ER (rd m) κ (kcell p) : sProp 𝕄))) $$ HI
  icases HK with ⟨%K, HI⟩
  ihave Htk := (toks_around (F := F)) $$ Htok
  iapply (BI.bigSep_with_persistent (R := records m K) fun c _ => ghost_intro m K c)
  isplitl [HI HR]
  · unfold records; rw [bigSep_sep']
    isplitl [HI]; · iexact HI
    iexact HR
  · rw [bigSep_sep']
    isplitl [Hat]; · iexact Hat
    iexact Htk

/-- Every device's own and unscoped semaphores, at once, become the exchange's records. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {a b : Dev nD} {i j : CI} : kcell (a, i) = kcell (b, j) ↔ a = b ∧ i = j :=
  ⟨fun h => Prod.ext_iff.mp (kcell_injective h), fun h => by rw [h.1, h.2]⟩

theorem tally_cell (a b : Dev nD) (i j : CI) (n : ℕ) :
    (tallyAt (kcell (a, i)) () n : CellTallies nD τ sig Unit) (kcell (b, j)) () = if b = a ∧ j = i then n else 0 := by
  rw [tallyAt_apply]
  exact if_congr (by rw [cell_eq_iff]; exact ⟨fun h => h.1, fun h => ⟨h, rfl⟩⟩) rfl rfl

/-- Over all devices, one is at offset `k` from `c`. -/
theorem sum_peer (k : Fin 31) (c : Dev nD) (n : ℕ) : (∑ d : Dev nD, if c = peer d k then n else 0) = n := by
  refine (Equiv.sum_comp (shift k) (fun d : Dev nD => if c = d then n else 0)).trans ?_
  exact (Finset.sum_ite_eq Finset.univ c fun _ => n).trans (if_pos (Finset.mem_univ _))

theorem owedRecv_bar (c : Dev nD) : ∀ ks : List (Fin 31), (∑ d : Dev nD, owedRecv d ks (kcell (c, jb)) ()) = 0
  | [] => Finset.sum_eq_zero fun d _ => rfl
  | k :: ks => by
    have e (d : Dev nD) : owedRecv d (k :: ks) (kcell (c, jb)) () = owedRecv d ks (kcell (c, jb)) () + 0 := by
      show owedRecv d ks (kcell (c, jb)) () + (tallyAt (kcell (peer d k, jr k)) () N : CellTallies nD τ sig Unit) (kcell (c, jb)) () = _
      rw [tally_cell, if_neg (fun h => by simpa using h.2)]
    simp only [e, Nat.add_zero]; exact owedRecv_bar c ks

theorem owedRecv_recv (c : Dev nD) (i : Fin 31) : ∀ ks : List (Fin 31), (∑ d : Dev nD, owedRecv d ks (kcell (c, jr i)) ()) = ks.count i * N
  | [] => by rw [List.count_nil, Nat.zero_mul]; exact Finset.sum_eq_zero fun d _ => rfl
  | k :: ks => by
    have e (d : Dev nD) : owedRecv d (k :: ks) (kcell (c, jr i)) () = owedRecv d ks (kcell (c, jr i)) () + if c = peer d k then (if k = i then N else 0) else 0 := by
      show owedRecv d ks (kcell (c, jr i)) () + (tallyAt (kcell (peer d k, jr k)) () N : CellTallies nD τ sig Unit) (kcell (c, jr i)) () = _
      rw [tally_cell]
      congr 1
      by_cases h1 : c = peer d k
      · by_cases h2 : k = i
        · rw [if_pos ⟨h1, by rw [h2]⟩, if_pos h1, if_pos h2]
        · rw [if_neg (fun h => h2 (by simpa using h.2.symm)), if_pos h1, if_neg h2]
      · rw [if_neg (fun h => h1 h.1), if_neg h1]
    simp only [e]
    rw [Finset.sum_add_distrib, owedRecv_recv c i ks, sum_peer, List.count_cons]
    by_cases h : k = i <;> simp [h, Nat.add_mul]

theorem owedSig_bar (c : Dev nD) : ∀ ks : List (Fin 31), (∑ d : Dev nD, owedSig d (O₁ d) ks (kcell (c, jb)) ()) = ks.length
  | [] => owedRecv_bar c all31
  | k :: ks => by
    have e (d : Dev nD) : owedSig d (O₁ d) (k :: ks) (kcell (c, jb)) () = owedSig d (O₁ d) ks (kcell (c, jb)) () + if c = peer d k then 1 else 0 := by
      show owedSig d (O₁ d) ks (kcell (c, jb)) () + (tallyAt (kcell (peer d k, jb)) () 1 : CellTallies nD τ sig Unit) (kcell (c, jb)) () = _
      rw [tally_cell]
      congr 1
      exact if_congr ⟨fun h => h.1, fun h => ⟨h, rfl⟩⟩ rfl rfl
    simp only [e]
    rw [Finset.sum_add_distrib, owedSig_bar c ks, sum_peer, List.length_cons]

theorem owedSig_recv (c : Dev nD) (i : Fin 31) : ∀ ks : List (Fin 31), (∑ d : Dev nD, owedSig d (O₁ d) ks (kcell (c, jr i)) ()) = all31.count i * N
  | [] => owedRecv_recv c i all31
  | k :: ks => by
    have e (d : Dev nD) : owedSig d (O₁ d) (k :: ks) (kcell (c, jr i)) () = owedSig d (O₁ d) ks (kcell (c, jr i)) () + 0 := by
      show owedSig d (O₁ d) ks (kcell (c, jr i)) () + (tallyAt (kcell (peer d k, jb)) () 1 : CellTallies nD τ sig Unit) (kcell (c, jr i)) () = _
      rw [tally_cell, if_neg (fun h => by simpa using h.2)]
    simp only [e, Nat.add_zero]; exact owedSig_recv c i ks

theorem launch_bar (c : Dev nD) :
    tallyOn (kcell (c, jb)) (launchCredit (Pipeline.owing O₀) 0 (kcell (c, jb))) = (tallyAt (barCell c) () 31 : CellTallies nD τ sig Unit) := by
  unfold tallyAt; refine congrArg _ (Finsupp.ext fun u => ?_); cases u
  rw [Pipeline.launchCredit_owing, Finsupp.single_eq_same]
  exact owedSig_bar c all31

theorem launch_recv (c : Dev nD) (k : Fin 31) :
    tallyOn (kcell (c, jr k)) (launchCredit (Pipeline.owing O₀) 0 (kcell (c, jr k))) = (tallyAt (recvCell c k) () N : CellTallies nD τ sig Unit) := by
  unfold tallyAt; refine congrArg _ (Finsupp.ext fun u => ?_); cases u
  rw [Pipeline.launchCredit_owing, Finsupp.single_eq_same]
  exact (owedSig_recv c k all31).trans (by rw [show all31.count k = 1 from by revert k; decide, Nat.one_mul])

/-- Of the launch's credit a device keeps what it will wait for: its barrier's 31 units and its landings. -/
theorem creds (c : Dev nD) :
    (Pipeline.launchCred O₀ c : sProp 𝕄) ⊢ iprop(cred (tallyAt (barCell c) () 31)
      ∗ bigSep Finset.univ fun k : Fin 31 => cred (tallyAt (recvCell c k) () N)) := by
  unfold Pipeline.launchCred
  refine (bigSep_subset (Finset.subset_univ (Finset.univ.map ⟨csem, csem_injective⟩))).trans ?_
  rw [bigSep_map, all_zero c]
  show iprop(cred (tallyOn (kcell (c, jb)) (launchCredit (Pipeline.owing O₀) 0 (kcell (c, jb)))) ∗ _ ∗ _
    ∗ bigSep Finset.univ fun k : Fin 31 => cred (tallyOn (kcell (c, jr k)) (launchCredit (Pipeline.owing O₀) 0 (kcell (c, jr k))))) ⊢ _
  simp only [launch_bar, launch_recv]
  iintro ⟨HB, -, -, HR⟩
  isplitl [HB]; · iexact HB
  iexact HR

/-! ## The launch theorem's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HW, Hlev, Hcr, -, HG⟩
  ihave Hc := (creds (F := F) c) $$ Hcr
  icases Hc with ⟨H1, HN⟩
  imodintro
  unfold start G' gPts
  isplitl
  · isplitl [HG]; · iexact HG
    isplitl [H1]; · iexact H1
    isplitl [HN]; · iexact HN
    isplitl [Hlev]; · iexact Hlev
    iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ gPts m c) ∗ Pipeline.ownSems0 osem c ∗ Pipeline.scopedRest cfg0.spec c) := by
  rw [show (dats m 0 c).Φ (Fin.last cfg0.N) = Φ₁ m c from rfl, scopedRest0_eq, unscopedSems0_eq]
  unfold Φ₁
  iintro ⟨H0, H1, H2, HW, HO, HB⟩
  isplitl [HB HW]
  · isplitl [HB] <;> iassumption
  isplitl [HO]; · iapply (Entails.of_eq (show (bigSep Finset.univ fun j : OCI => semVal (kcell (c, .inr j)) 0 : sProp 𝕄) = Pipeline.ownSems0 osem c from rfl)); iexact HO
  isplitl [H0]; · iexists _; iexact H0
  isplitl [H1]; · iexists _; iexact H1
  iexists _; iexact H2

/-- A staging buffer's semaphore is none of the exchange's. -/
theorem cix_stage (q : DmaSem sig) (h : ∀ j, csem j ≠ .dma q) : cix (.dma q) = none := by
  unfold cix; rw [dif_neg (fun ⟨j, hj⟩ => h j hj)]

theorem waits (c : Dev nD) : (levAts L lv : sProp 𝕄) ⊢ Pipeline.cellsWaits cfgs (dats m) () 0 c :=
  Pipeline.cellsWaits_intro cfgs (dats m) () 0 c fun w s t =>
    mayWait_low c _ (by
      rw [cix_stage]
      · rfl
      · fin_cases w <;> fin_cases s <;> decide) _ (by
      rcases t with ⟨_ | _, ht⟩
      · exact Or.inl rfl
      · exact Or.inr (Or.inr rfl))

/-! ## The run -/

/-- The windows' arrays after the run. -/
def finalA (c : Dev nD) (w : Fin cfg0.W) : Buf (Elt F) ((cfg0.win w).arr.view.loc (c : Thread nD τ)) := (dats m 0 c).arrAt w cfg0.N

/-- What is known of device `c`'s block of W and of its unscoped semaphores at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_end (c : Dev nD) (s' : Phys nD τ sig (Elt F)) :
    iprop((unscopedSems0 c ∗ gPts m c) ∗ emp ∗ SI s') ⊢ (|={Set.univ}=> iprop(⌜QY m c s'.mem⌝ ∗ SI s') : sProp 𝕄) := by
  unfold gPts
  iintro ⟨⟨Hu, HW⟩, -, HSI⟩
  icombine HSI HW gives %h
  imod (Pipeline.unscopedSems0_read (X := unscopedSems0 c) (c := c) fupd_intro s') $$ [Hu HSI] with ⟨%hz, HSI⟩
  · isplitl [Hu] <;> iassumption
  imodintro
  isplitr
  · ipureintro; exact ⟨hz, funext fun i => h i (Finset.mem_univ i)⟩
  iexact HSI

set_option maxRecDepth 8000 in
/-- From any memory with every counter at zero, at any float values: every weakly fair execution of @main on the 32 devices
    terminates; at the end the windows' arrays hold what the run computes, each device's block of W is unchanged and every
    semaphore counter is zero. -/
theorem run_main : θ_run defs (onTc (τ := τ) (main (F := F))) (st₀ m ρ) (fun r =>
    (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ gPts m c)) (Z := fun _ => iprop(emp))
    (hX := start_intro m ρ) (hin := phi0_intro m) (hout := phi1_exit m)
    (QY := QY m) (hY := read_end m)
    (hQ := fun _ h hs => ⟨fun c => ⟨(h c).1, (h c).2.2.2⟩, sem_eq_zero hs fun c => (h c).2.2.1⟩)

end Cert.LseProof

end
-- ==== Proof.Frames.lean ====
/-
The frames of the three programs: each terminates, leaves its arguments as they were and every semaphore counter at zero.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.LseProof

open Idealize.ShloMosaic
open Idealize.ShloMosaic.TcCoe
open Idealize.SL.Sem
open Cert.KernelIdeal Cert.KernelIdeal.Gen

variable {F : FTy → Type} [FloatOps F]

/-- The run of @main with the arguments read as unchanged: the result array of every device, its three arguments, the
    counters. -/
theorem run_args (m : (ℓ : Loc nD τ sig) → Buf (Elt F) ℓ) (ρ : Dev nD → PrngReg) :
    θ_run defs (onTc (τ := τ) (main (F := F))) (st₀ m ρ) (fun r =>
      (∀ c : Dev nD, r.2.mem ((c.tc : Thread nD τ).loc main_v1) = finalA m c (2 : Fin 3)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun _ h => ⟨fun c => ⟨(h.1 c).1 (2 : Fin 3),
      ((h.1 c).1 (0 : Fin 3)).trans ((dats m 0 c).arrAt_in (0 : Fin 3) rfl _), (h.1 c).2,
      ((h.1 c).1 (1 : Fin 3)).trans ((dats m 0 c).arrAt_in (1 : Fin 3) rfl _)⟩, h.2⟩) (run_main m ρ)

/-- The frame at any float values: the run with the result dropped. -/
theorem frame_any (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_args m ρ)

/-- The idealized kernel's frame. -/
theorem frame_ideal : Cert.quiescent_KernelIdeal := fun m ρ _ => frame_any (F := Ideal) m ρ

/-- The two programs' kernel bodies are the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- So are their tables of bodies and regions. -/
theorem defs_eq : Cert.Kernel.defs (F := Bits) = Cert.KernelIdeal.defs (F := Bits) := by
  unfold Cert.Kernel.defs Cert.KernelIdeal.defs
  exact congrArg _ bodies_eq

/-- The kernel's frame: the same run at the machine's float words. -/
theorem frame_kernel : Cert.quiescent_Kernel := fun m ρ _ => by
  rw [defs_eq]
  exact frame_any (F := Bits) m ρ

/-- The reference's frame: its host operations run one after the other, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.LseProof

end
-- ==== Proof.PreFacts.lean ====
/-
The side conditions that the precondition's own operations state.
-/
module

public import proofs.«01_k».proof.Defs

@[expose] public section

noncomputable section

namespace Cert.LseProof

open Idealize.ShloMosaic

/-- The side conditions that the precondition's operations state, at one device's shapes. -/
theorem preKernel_facts : Cert.Pre_finite_and_in_range_KernelIdeal.Facts where
  bcast_S_S1024x2048 := by decide
  reducesTo_S1024x2048_S_d0_1 := by decide
  h_S_ := by decide
  bcast_S_S2048x16384 := by decide
  reducesTo_S2048x16384_S_d0_1 := by decide
  bcast_S_S1024 := by decide
  reducesTo_S1024_S_d0 := by decide

/-- The same at the whole arrays' shapes. -/
theorem preReference_facts : Cert.Pre_finite_and_in_range_ReferenceIdeal.Facts := by
  constructor <;> decide

end Cert.LseProof

end
-- ==== Proof.Values.lean ====
/-
What the kernel's payloads read at an index over the extended reals.
-/
module

public import proofs.«01_k».proof.Proof.Frames
public import Idealize.ShloMosaic.Lib.Pointwise

@[expose] public section

set_option maxRecDepth 65536
noncomputable section

namespace Cert.LseProof

open Idealize.ShloMosaic
open Idealize.ShloMosaic.TcCoe
open Cert.KernelIdeal Cert.KernelIdeal.Gen

/-- A logit: one entry of the product. -/
theorem pay2_apply (x : FVec Ideal S1024x2048 .f32) (w : FVec Ideal S2048x1024 .f32) (r j : Fin 1024) :
    k0_pay2 (F := Ideal) x w (ix2 r j) = ∑ k : Fin 2048, x (ix2 r k) * w (ix2 k j) := by
  pointwise [k0_pay2]

/-- A row's sum of exponentials. -/
theorem pay5_apply (x : FVec Ideal S1024x2048 .f32) (w : FVec Ideal S2048x1024 .f32) (r : Fin 1024) :
    k0_pay5 (F := Ideal) (k0_pay3 (F := Ideal) x w) (ix2 (0 : Fin 1) r)
      = ∑ j : Fin 1024, Ideal.exp (∑ k : Fin 2048, x (ix2 r k) * w (ix2 k j)) := by
  pointwise [k0_pay5, k0_pay3, k0_pay2]

/-- A row's picked logit. -/
theorem pay6_apply (lg : FVec Ideal S1024x1024 .f32) (u v : BitVec 32) (l : IVec S1024 32) (r : Fin 1024) :
    k0_pay6 (F := Ideal) lg (k0_pay4 (F := Ideal) u v l) (ix2 (0 : Fin 1) r)
      = ∑ j : Fin 1024, if BitVec.ofNat 32 j.val = l (ix1 r) - (u * 16384#32 + v * 1024#32) then lg (ix2 r j) else 0 := by
  pointwise [k0_pay6, k0_pay4]
  refine Finset.sum_congr rfl fun j _ => ?_
  show (if BitVec.ofBool (BitVec.ofNat 32 j.val == l (ix1 r) - (u * 16384#32 + v * 1024#32)) = 1 then _ else _) = _
  by_cases h : BitVec.ofNat 32 j.val = l (ix1 r) - (u * 16384#32 + v * 1024#32)
  · rw [if_pos h, if_pos (by rw [beq_iff_eq.2 h]; rfl)]
  · rw [if_neg h, if_neg (by rw [beq_eq_false_iff_ne.2 h]; decide)]

/-- The result: the logarithm of the summed exponentials, less the picked logit. -/
theorem pay1_apply (a : FVec Ideal S2x1024 .f32) (b : FVec Ideal S31x2x1024 .f32) (r : Fin 1024) :
    k0_pay1 (F := Ideal) a b (ix1 r)
      = Ideal.log (a (ix2 (0 : Fin 2) r) + ∑ k : Fin 31, b (ix3 k (0 : Fin 2) r))
        - (a (ix2 (1 : Fin 2) r) + ∑ k : Fin 31, b (ix3 k (1 : Fin 2) r)) := by
  pointwise [k0_pay1]

/-! ## The buffers -/

variable {F : FTy → Type} [FloatOps F]
variable (m : (ℓ : Loc nD τ sig) → Buf (Elt F) ℓ)

/-- The staged `x` is the argument. -/
theorem xAt_eq (c : Dev nD) : xAt m c = m ((c : Thread nD τ).loc main_arg0) := by
  funext x
  unfold xAt iblk
  rw [View.read_apply]
  refine congrArg (m ((c : Thread nD τ).loc main_arg0)) (funext fun a => Fin.ext ?_)
  exact Pipeline.Window.rect_emb_val_of_index_zero (cfg0.win 0) t0_0 a (by revert a; decide) x

/-- The staged `labels` are the argument. -/
theorem lAt_eq (c : Dev nD) : lAt m c = m ((c : Thread nD τ).loc main_arg2) := by
  funext x
  unfold lAt iblk
  rw [View.read_apply]
  refine congrArg (m ((c : Thread nD τ).loc main_arg2)) (funext fun a => Fin.ext ?_)
  exact Pipeline.Window.rect_emb_val_of_index_zero (cfg0.win 1) t0_0 a (by revert a; decide) x

/-- The column of the device's block of W that its own column `j` is. -/
def subCol (c : Dev nD) (j : Fin 1024) : Fin 16384 := ⟨1024 * (c.val % 16) + j.val, by omega⟩

/-- The device's columns, read off its block of W. -/
theorem wAt_apply (c : Dev nD) (k : Fin 2048) (j : Fin 1024) :
    wAt m c (ix2 k j) = m ((c : Thread nD τ).loc main_arg1) (ix2 k (subCol c j)) := by
  unfold wAt
  rw [View.read_apply]
  refine congrArg (m ((c : Thread nD τ).loc main_arg1)) (funext fun a => Fin.ext ?_)
  match a with
  | ⟨0, _⟩ =>
    show k0_off1 c 0 + 1 * k.val = k.val
    rw [k0_off1_eq]; show 0 + 1 * k.val = k.val; omega
  | ⟨1, _⟩ =>
    show k0_off1 c 1 + 1 * j.val = 1024 * (c.val % 16) + j.val
    rw [k0_off1_eq]; show 4096 * ((c.val / 4) % 4) + 1024 * (c.val % 4) + 1 * j.val = _; omega

/-- The result array ends at the device's result. -/
theorem result_eq (c : Dev nD) : finalA m c (2 : Fin 3) = outAt m c := by
  have hz : ∀ a : Fin 1, (cfg0.win 2).index t0_0 a = 0 := by decide
  have hemb : ∀ (t : Fin cfg0.N) (y : S1024.Idx), ((cfg0.win 2).blk t).view.emb y = y := fun t y => by
    refine funext fun a => Fin.ext ?_
    exact Pipeline.Window.rect_emb_val_of_index_zero (cfg0.win 2) t a (by rw [fin_N0 t]; exact hz a) y
  refine (dats m 0 c).arrAt_eq_of_cover (2 : Fin 3) (outAt m c) (fun t _ => ?_) (fun i => ⟨t0_0, flush0_2 _, ?_⟩)
  · funext y
    rw [View.read_apply]
    exact (congrArg (outAt m c) (hemb t y)).symm
  · have h := ((cfg0.win 2).blk t0_0).view.emb_mem_set i
    rw [hemb] at h; exact h

end Cert.LseProof

end
-- ==== Proof.Total.lean ====
/-
The kernel's result over the extended reals: the sums over the 32 devices' columns are sums over all columns of W.
-/
module

public import proofs.«01_k».proof.Proof.Values
public import Idealize.ShloMosaic.Lib.Layout

@[expose] public section

set_option maxRecDepth 65536
noncomputable section

namespace Cert.LseProof

open Idealize.ShloMosaic
open Idealize.ShloMosaic.TcCoe
open Cert.KernelIdeal Cert.KernelIdeal.Gen

/-! ## Sums -/

/-- A device's own term and those of its 31 sources: the sum over all devices. -/
theorem sum_devices {M : Type} [AddCommMonoid M] (f : Dev nD → M) (c : Dev nD) :
    f c + ∑ k : Fin 31, f (peer c (neg k)) = ∑ d : Dev nD, f d := by
  classical
  have h1 : ∑ k : Fin 31, f (peer c (neg k)) = ∑ k : Fin 31, f (peer c k) := Equiv.sum_comp flip fun k => f (peer c k)
  have h2 : ∑ k : Fin 31, f (peer c k) = ∑ d ∈ Finset.univ.erase c, f d :=
    Finset.sum_bij (fun k _ => peer c k) (fun k _ => Finset.mem_erase.2 ⟨peer_ne c k, Finset.mem_univ _⟩)
      (fun k _ k' _ h => peer_inj c k k' h)
      (fun d hd => (peer_surj c d (Finset.mem_erase.1 hd).1).imp fun k hk => ⟨Finset.mem_univ _, hk⟩) (fun _ _ => rfl)
  rw [h1, h2]
  exact Finset.add_sum_erase _ _ (Finset.mem_univ c)

/-- Column `j` of device `d`, among all the columns of W. -/
def col (d : Dev nD) (j : Fin 1024) : Fin 32768 :=
  ⟨1024 * d.val + j.val, by have hd : d.val < 32 := d.isLt; omega⟩

/-- Every column is one device's. -/
def colEquiv : Dev nD × Fin 1024 ≃ Fin 32768 where
  toFun p := col p.1 p.2
  invFun n := (⟨n.val / 1024, by show _ < 32; omega⟩, ⟨n.val % 1024, by omega⟩)
  left_inv p := by
    refine Prod.ext (Fin.ext ?_) (Fin.ext ?_)
    · show (1024 * p.1.val + p.2.val) / 1024 = p.1.val; omega
    · show (1024 * p.1.val + p.2.val) % 1024 = p.2.val; omega
  right_inv n := Fin.ext (by show 1024 * (n.val / 1024) + n.val % 1024 = n.val; omega)

theorem sum_cols {M : Type} [AddCommMonoid M] (g : Fin 32768 → M) :
    ∑ d : Dev nD, ∑ j : Fin 1024, g (col d j) = ∑ n : Fin 32768, g n := by
  rw [← Fintype.sum_prod_type' (fun d j => g (col d j))]
  exact Equiv.sum_comp colEquiv g

/-! ## The label test -/

theorem word_base (d : Dev nD) : wordX d * 16384#32 + wordSub d * 1024#32 = BitVec.ofNat 32 (1024 * d.val) := by
  revert d; decide +kernel

theorem label_test (d : Dev nD) (j : Fin 1024) (l : BitVec 32) :
    BitVec.ofNat 32 j.val = l - (wordX d * 16384#32 + wordSub d * 1024#32) ↔ (col d j).val = l.toNat := by
  have hd : d.val < 32 := d.isLt
  rw [word_base, BitVec.eq_sub_iff_add_eq, ← BitVec.toNat_inj, BitVec.toNat_add, BitVec.toNat_ofNat, BitVec.toNat_ofNat]
  show _ ↔ 1024 * d.val + j.val = l.toNat
  omega

/-! ## The arguments as the claim lays them out -/

/-- A logit of the whole product. -/
def logit (x : FVec Ideal S1024x2048 .f32) (W : FVec Ideal ⟨2, ![2048, 32768]⟩ .f32) (r : Fin 1024) (n : Fin 32768) : EReal :=
  ∑ k : Fin 2048, x (ix2 r k) * W (ix2 k n)

/-- The launch of the kernel at the whole arguments. -/
structure Laid (m : (ℓ : Loc nD τ sig) → Buf (Elt Ideal) ℓ) (x : FVec Ideal S1024x2048 .f32)
    (W : FVec Ideal ⟨2, ![2048, 32768]⟩ .f32) (L : IVec S1024 32) : Prop where
  hx : ∀ c : Dev nD, m ((c : Thread nD τ).loc main_arg0) = x
  hW : ∀ c : Dev nD, m ((c : Thread nD τ).loc main_arg1)
    = Layout.blockN ⟨2, ![2048, 16384]⟩ ⟨2, ![2048, 32768]⟩ (Layout.meshBlock [2, 4, 4] ![[], [0]] c) W
  hL : ∀ c : Dev nD, m ((c : Thread nD τ).loc main_arg2) = L

variable {m : (ℓ : Loc nD τ sig) → Buf (Elt Ideal) ℓ} {x : FVec Ideal S1024x2048 .f32}
  {W : FVec Ideal ⟨2, ![2048, 32768]⟩ .f32} {L : IVec S1024 32}

/-- The buffers as arrays of extended reals. -/
abbrev xI (m : (ℓ : Loc nD τ sig) → Buf (Elt Ideal) ℓ) (c : Dev nD) : FVec Ideal S1024x2048 .f32 := xAt m c
abbrev wI (m : (ℓ : Loc nD τ sig) → Buf (Elt Ideal) ℓ) (c : Dev nD) : FVec Ideal S2048x1024 .f32 := wAt m c
abbrev accI (m : (ℓ : Loc nD τ sig) → Buf (Elt Ideal) ℓ) (c : Dev nD) : FVec Ideal S2x1024 .f32 := accAt m c
abbrev recvI (m : (ℓ : Loc nD τ sig) → Buf (Elt Ideal) ℓ) (c : Dev nD) : FVec Ideal S31x2x1024 .f32 := recvAt m c

theorem block_col (c : Dev nD) : Layout.meshLin [2, 4, 4] c.val [0] = c.val / 16 := by
  revert c; decide +kernel

theorem Laid.w_apply (h : Laid m x W L) (c : Dev nD) (k : Fin 2048) (j : Fin 1024) :
    wAt m c (ix2 k j) = W (ix2 k (col c j)) := by
  rw [wAt_apply, h.hW, Layout.blockN_apply]
  refine congrArg W (funext fun a => Fin.ext ?_)
  rw [Layout.TilesN.idx_val, Layout.meshBlock_val]
  match a with
  | ⟨0, _⟩ =>
    show 0 * 2048 + k.val = k.val
    omega
  | ⟨1, _⟩ =>
    show Layout.meshLin [2, 4, 4] c.val [0] * 16384 + (1024 * (c.val % 16) + j.val) = 1024 * c.val + j.val
    rw [block_col]; omega

theorem Laid.logit_apply (h : Laid m x W L) (c : Dev nD) (r j : Fin 1024) :
    ∑ k : Fin 2048, xI m c (ix2 r k) * wI m c (ix2 k j) = logit x W r (col c j) := by
  rw [show xI m c = x from (xAt_eq m c).trans (h.hx c)]
  exact Finset.sum_congr rfl fun k _ => congrArg (x (ix2 r k) * ·) (h.w_apply c k j)

/-- The accumulator's first row: the sums of exponentials over the device's columns. -/
theorem Laid.acc0 (h : Laid m x W L) (c : Dev nD) (r : Fin 1024) :
    accI m c (ix2 (0 : Fin 2) r) = ∑ j : Fin 1024, Ideal.exp (logit x W r (col c j)) := by
  refine (pay5_apply (xAt m c) (wAt m c) r).trans ?_
  exact Finset.sum_congr rfl fun j _ => congrArg Ideal.exp (h.logit_apply c r j)

/-- Its second row: the picked logits. -/
theorem Laid.acc1 (h : Laid m x W L) (c : Dev nD) (r : Fin 1024) :
    accI m c (ix2 (1 : Fin 2) r) = ∑ j : Fin 1024, if (col c j).val = (L (ix1 r)).toNat then logit x W r (col c j) else 0 := by
  refine (pay6_apply _ _ _ _ r).trans ?_
  rw [show (lAt m c : IVec S1024 32) = L from (lAt_eq m c).trans (h.hL c)]
  refine Finset.sum_congr rfl fun j _ => ?_
  rw [pay2_apply, h.logit_apply]
  exact if_congr (label_test c j _) rfl rfl

/-- **The result**: the logarithm of a row's summed exponentials, less the row's picked logit. -/
theorem Laid.out (h : Laid m x W L) (c : Dev nD) (r : Fin 1024) :
    outAt m c (ix1 r) = Ideal.log (∑ n : Fin 32768, Ideal.exp (logit x W r n))
      - ∑ n : Fin 32768, if n.val = (L (ix1 r)).toNat then logit x W r n else 0 := by
  refine (pay1_apply (accI m c) (recvI m c) r).trans ?_
  have e : ∀ i : Fin 2, accI m c (ix2 i r) + ∑ k : Fin 31, recvI m c (ix3 k i r) = ∑ d : Dev nD, accI m d (ix2 i r) :=
    fun i => sum_devices (fun d => accI m d (ix2 i r)) c
  rw [e 0, e 1, ← sum_cols (fun n => Ideal.exp (logit x W r n)),
    ← sum_cols (fun n => if n.val = (L (ix1 r)).toNat then logit x W r n else 0)]
  simp only [h.acc0, h.acc1]

end Cert.LseProof

end
-- ==== Proof.Ref.lean ====
/-
The reference's result over the extended reals, at an index.
-/
module

public import proofs.«01_k».proof.Proof.Gen.ReferenceIdeal.Run
public import Idealize.ShloMosaic.Lib.Pointwise

@[expose] public section

set_option maxRecDepth 65536
noncomputable section

namespace Cert.LseProof

open Idealize.ShloMosaic
open Idealize.ShloMosaic.TcCoe
open Cert.ReferenceIdeal Cert.ReferenceIdeal.Gen

/-- The logits. -/
def refLogits (x : FVec Ideal S1024x2048 .f32) (W : FVec Ideal S2048x32768 .f32) : FVec Ideal S1024x32768 .f32 :=
  Host.dotGeneral (F := Ideal) dot_S1024x2048_S2048x32768_S1024x32768_1_0_0_1_n_n none x W

/-- The rows' maxima. -/
def refMax (lg : FVec Ideal S1024x32768 .f32) : FVec Ideal S1024 .f32 :=
  Host.reduce FloatOps.maximumf lg (constant S_ .f32 0xFF800000#32) reducesTo_S1024x32768_S1024_d1 h_S_

/-- The logits less the rows' maxima. -/
def refShift (lg : FVec Ideal S1024x32768 .f32) (M : FVec Ideal S1024 .f32) : FVec Ideal S1024x32768 .f32 :=
  subf lg (broadcastInDim S1024x32768 ![0, 1] bcast_S1024x1_S1024x32768_0_1 (broadcastInDim S1024x1 ![0] bcast_S1024_S1024x1_0 M))

/-- The rows' sums. -/
def refSum (v : FVec Ideal S1024x32768 .f32) : FVec Ideal S1024 .f32 :=
  Host.reduceAdd v (constant S_ .f32 0x00000000#32) reducesTo_S1024x32768_S1024_d1 h_S_

/-- The rows' maxima plus the logarithms of the sums. -/
def refJoin (M S : FVec Ideal S1024 .f32) : FVec Ideal S1024 .f32 :=
  shapeCast _ (addf (broadcastInDim S1024x1 ![0] bcast_S1024_S1024x1_0 M)
    (Host.log (broadcastInDim S1024x1 ![0] bcast_S1024_S1024x1_0 S))) shapeCasts_S1024x1_S1024

/-- The rows' logarithms of the summed exponentials. -/
def refLse (lg : FVec Ideal S1024x32768 .f32) : FVec Ideal S1024 .f32 :=
  refJoin (refMax lg) (refSum (Host.exp (refShift lg (refMax lg))))

/-- The positions the labels pick. -/
def refIdx (L : IVec S1024 32) : IVec S1024x2 32 :=
  concatenate S1024x2 1 [⟨S1024x1, (broadcastInDim S1024x1 ![0] bcast_S1024_S1024x1_0
      (select (cmpi .slt (iotaInDim S1024 32 0) (broadcastInDim S1024 ![] bcast_S_S1024 (constantI S_ 32 0#32)))
        (addi (iotaInDim S1024 32 0) (broadcastInDim S1024 ![] bcast_S_S1024 (constantI S_ 32 1024#32))) (iotaInDim S1024 32 0)))⟩,
    ⟨S1024x1, (broadcastInDim S1024x1 ![0] bcast_S1024_S1024x1_0
      (select (cmpi .slt L (broadcastInDim S1024 ![] bcast_S_S1024 (constantI S_ 32 0#32)))
        (addi L (broadcastInDim S1024 ![] bcast_S_S1024 (constantI S_ 32 32768#32))) L))⟩] concatenates_S1024x1_S1024x1_S1024x2_d1

/-- The reference's result. -/
def refOut (x : FVec Ideal S1024x2048 .f32) (W : FVec Ideal S2048x32768 .f32) (L : IVec S1024 32) : FVec Ideal S1024 .f32 :=
  subf (refLse (refLogits x W))
    (Host.gather gather_S1024x32768_S1024x2_S1024_n_01_n_n_01_1_11 (refLogits x W) (refIdx L))

theorem refLogits_apply (x : FVec Ideal S1024x2048 .f32) (W : FVec Ideal S2048x32768 .f32) (r : Fin 1024) (n : Fin 32768) :
    refLogits x W (ix2 r n) = ∑ k : Fin 2048, x (ix2 r k) * W (ix2 k n) := by
  pointwise [refLogits]

theorem refMax_apply (lg : FVec Ideal S1024x32768 .f32) (r : Fin 1024) :
    refMax lg (ix1 r) = Finset.univ.fold max (Ideal.ofBits .f32 0xFF800000#32) fun n : Fin 32768 => lg (ix2 r n) := by
  pointwise [refMax]

theorem refShift_apply (lg : FVec Ideal S1024x32768 .f32) (M : FVec Ideal S1024 .f32) (r : Fin 1024) (n : Fin 32768) :
    refShift lg M (ix2 r n) = lg (ix2 r n) - M (ix1 r) := by
  pointwise [refShift]

theorem refSum_apply (v : FVec Ideal S1024x32768 .f32) (r : Fin 1024) :
    refSum v (ix1 r) = ∑ n : Fin 32768, v (ix2 r n) := by
  pointwise [refSum]

theorem refJoin_apply (M S : FVec Ideal S1024 .f32) (r : Fin 1024) :
    refJoin M S (ix1 r) = M (ix1 r) + Ideal.log (S (ix1 r)) := by
  pointwise [refJoin]

theorem refLse_apply (lg : FVec Ideal S1024x32768 .f32) (r : Fin 1024) :
    refLse lg (ix1 r) = refMax lg (ix1 r) + Ideal.log (∑ n : Fin 32768, Ideal.exp (lg (ix2 r n) - refMax lg (ix1 r))) := by
  unfold refLse
  rw [refJoin_apply, refSum_apply]
  refine congrArg (fun z => refMax lg (ix1 r) + Ideal.log z) (Finset.sum_congr rfl fun n _ => ?_)
  exact congrArg Ideal.exp (refShift_apply lg (refMax lg) r n)

/-- A word below 2^31 is not negative. -/
theorem not_neg (w : BitVec 32) (h : w.toNat < 2 ^ 31) (a b : BitVec 32) :
    Scalar.select (IntOp.cmpi .slt w 0#32) a b = b := by
  have hs : w.slt 0#32 = false := by
    rw [BitVec.slt_eq_decide, decide_eq_false_iff_not, BitVec.toInt_eq_toNat_of_lt (by omega)]
    show ¬ ((w.toNat : Int) < 0)
    omega
  show (if BitVec.ofBool (w.slt 0#32) = 1 then a else b) = b
  rw [hs]; rfl

theorem refIdx_row (L : IVec S1024 32) (r : Fin 1024) : refIdx L (ix2 r (0 : Fin 2)) = BitVec.ofNat 32 r.val := by
  pointwise [refIdx]
  exact not_neg _ (by rw [BitVec.toNat_ofNat]; omega) _ _

theorem refIdx_label (L : IVec S1024 32) (r : Fin 1024) (h : (L (ix1 r)).toNat < 32768) :
    refIdx L (ix2 r (1 : Fin 2)) = L (ix1 r) := by
  pointwise [refIdx]
  exact not_neg _ (by omega) _ _

/-- A gather whose start indices are a pair per result row, both operand axes collapsed: row `r` reads the operand at the
    pair, when the pair's first word is the row's own number and the second is a column. -/
theorem gather_pair {α : Type} {n N : ℕ} (d : GatherDims ⟨2, ![n, N]⟩ ⟨2, ![n, 2]⟩ ⟨1, ![n]⟩)
    (hcoll : d.collapsedSliceDims = [0, 1]) (hob : d.operandBatchingDims = []) (hsim : d.startIndexMap = [0, 1])
    (hivd : d.indexVectorDim = 1) (lg : (⟨2, ![n, N]⟩ : Shape).Idx → α) (idx : IVec ⟨2, ![n, 2]⟩ 32) (r : Fin n) (p : Fin N)
    (h0 : (idx (ix2 r (0 : Fin 2))).toInt = r.val) (h1 : (idx (ix2 r (1 : Fin 2))).toInt = p.val) :
    Host.gather d lg idx (ix1 r) = lg (ix2 r p) := by
  have hpos : ∀ (c : Fin d.startIndexMap.length) (a : Fin 2), c.val = a.val → d.siIdx (ix1 r) c = ix2 r a := by
    intro c a hc
    funext b
    match b with
    | ⟨0, _⟩ =>
      unfold GatherDims.siIdx
      rw [dif_neg (by rw [hivd]; exact Nat.zero_ne_one)]
      unfold GatherDims.siCoord
      apply Fin.ext
      rw [Fin.val_cast]
      exact (congrArg (fun q : Fin 1 => ((ix1 r : (⟨1, ![n]⟩ : Shape).Idx) q).val) (Subsingleton.elim _ (0 : Fin 1)))
    | ⟨1, _⟩ =>
      unfold GatherDims.siIdx
      rw [dif_pos (by rw [hivd])]
      exact Fin.ext hc
  have hall : ∀ a : Fin 2, a ∈ ([0, 1] : List (Fin 2)) := by decide
  have hidx : ∀ a : Fin 2, List.idxOf a ([0, 1] : List (Fin 2)) = a.val := by decide
  have hcoord : ∀ (a : Fin 2) (v : ℕ), (idx (ix2 r a)).toInt = (v : Int) → v < (⟨2, ![n, N]⟩ : Shape).size a →
      (d.operandIdx (ix1 r) idx a).val = v := by
    intro a v hv hlt
    have hm : a ∈ d.startIndexMap := by rw [hsim]; exact hall a
    have hsl : d.sliceSizes a = 1 := d.slice_collapsed a (by rw [hcoll]; exact hall a)
    have hpos' := hpos ⟨d.startIndexMap.idxOf a, List.idxOf_lt_length_iff.2 hm⟩ a (by
      show d.startIndexMap.idxOf a = a.val
      rw [hsim]; exact hidx a)
    show d.start (ix1 r) idx a + d.batchCoord (ix1 r) a + d.offCoord (ix1 r) a = v
    rw [d.batchCoord_eq_zero _ _ (by rw [hob]; exact List.not_mem_nil),
      d.offCoord_eq_zero _ _ (fun hk => ((d.mem_sKept a).1 hk).1 (by rw [hcoll]; exact hall a))]
    unfold GatherDims.start
    rw [dif_pos hm, hpos', hsl, hv, Int.toNat_natCast]
    omega
  unfold Host.gather
  refine congrArg lg (funext fun a => Fin.ext ?_)
  match a with
  | ⟨0, _⟩ => exact hcoord 0 r.val h0 r.isLt
  | ⟨1, _⟩ => exact hcoord 1 p.val h1 p.isLt

theorem gather_apply (lg : FVec Ideal S1024x32768 .f32) (idx : IVec S1024x2 32) (r : Fin 1024) (n : Fin 32768)
    (h0 : (idx (ix2 r (0 : Fin 2))).toInt = r.val) (h1 : (idx (ix2 r (1 : Fin 2))).toInt = n.val) :
    Host.gather gather_S1024x32768_S1024x2_S1024_n_01_n_n_01_1_11 lg idx (ix1 r) = lg (ix2 r n) :=
  gather_pair gather_S1024x32768_S1024x2_S1024_n_01_n_n_01_1_11 rfl rfl rfl rfl lg idx r n h0 h1

theorem sub_gather (a lg : FVec Ideal S1024 .f32) (i : S1024.Idx) : subf a lg i = a i - lg i := rfl

/-- **The reference's result at a row**: its maximum plus the logarithm of the sum of the exponentials of the differences,
    less the logit its label picks. -/
theorem refOut_apply (x : FVec Ideal S1024x2048 .f32) (W : FVec Ideal S2048x32768 .f32) (L : IVec S1024 32) (r : Fin 1024)
    (n : Fin 32768) (h : (L (ix1 r)).toNat = n.val) :
    refOut x W L (ix1 r)
      = (refMax (refLogits x W) (ix1 r)
          + Ideal.log (∑ k : Fin 32768, Ideal.exp (refLogits x W (ix2 r k) - refMax (refLogits x W) (ix1 r))))
        - refLogits x W (ix2 r n) := by
  have hn : (L (ix1 r)).toNat < 32768 := by rw [h]; exact n.isLt
  have e := gather_apply (refLogits x W) (refIdx L) r n
    (by rw [refIdx_row, BitVec.toInt_eq_toNat_of_lt (by rw [BitVec.toNat_ofNat]; omega), BitVec.toNat_ofNat]; omega)
    (by rw [refIdx_label L r hn, BitVec.toInt_eq_toNat_of_lt (by omega), h])
  unfold refOut
  rw [sub_gather, e, refLse_apply]

end Cert.LseProof

end
-- ==== Proof.Lse.lean ====
/-
The log-sum-exp identity over the extended reals at finite logits, and the precondition read as facts about the arguments.
-/
module

public import proofs.«01_k».proof.Proof.PreFacts
public import proofs.«01_k».proof.Pre_finite_and_in_range_KernelIdeal
public import Idealize.ShloMosaic.Lib.Pointwise
public import Idealize.ShloMosaic.Lib.ReduceAll

@[expose] public section

set_option maxRecDepth 65536
noncomputable section

namespace Cert.LseProof

open Idealize.ShloMosaic

/-! ## Constants -/

theorem negInf_bits : Ideal.ofBits .f32 0xFF800000#32 = (⊥ : EReal) := by
  show Ideal.ieee 8 23 (0xFF800000#32 : BitVec 32) = ⊥
  unfold Ideal.ieee
  rw [if_pos (by decide), if_pos (by decide), if_pos (by decide)]

theorem posInf_bits : Ideal.ofBits .f32 0x7F800000#32 = (⊤ : EReal) := by
  show Ideal.ieee 8 23 (0x7F800000#32 : BitVec 32) = ⊤
  unfold Ideal.ieee
  rw [if_pos (by decide), if_pos (by decide), if_neg (by decide)]

/-! ## Log-sum-exp -/

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem exp_coe (a : ℝ) : Ideal.exp (a : EReal) = (Real.exp a : EReal) := rfl

theorem log_coe_pos (a : ℝ) (h : 0 < a) : Ideal.log (a : EReal) = (Real.log a : EReal) :=
  if_neg (not_le.2 h)

/-- The maximum of finitely many reals, folded from the least extended real, is a real. -/
theorem fold_max_real {ι : Type} [Fintype ι] [Nonempty ι] (l : ι → ℝ) :
    ∃ μ : ℝ, Finset.univ.fold max (⊥ : EReal) (fun i => (l i : EReal)) = (μ : EReal) := by
  have htop : Finset.univ.fold max (⊥ : EReal) (fun i => (l i : EReal)) < ⊤ :=
    (Finset.fold_max_lt _).2 ⟨bot_lt_top, fun i _ => EReal.coe_lt_top (l i)⟩
  have hbot : (⊥ : EReal) < Finset.univ.fold max (⊥ : EReal) (fun i => (l i : EReal)) :=
    (Finset.lt_fold_max _).2 (Or.inr ⟨Classical.arbitrary ι, Finset.mem_univ _, EReal.bot_lt_coe _⟩)
  exact ⟨_, (EReal.coe_toReal htop.ne hbot.ne').symm⟩

/-- Shifting every logit by a real `μ` and adding it back outside the logarithm changes nothing. -/
theorem lse_shift {ι : Type} [Fintype ι] [Nonempty ι] (l : ι → ℝ) (μ : ℝ) :
    (μ : EReal) + Ideal.log (∑ i, Ideal.exp ((l i : EReal) - (μ : EReal)))
      = Ideal.log (∑ i, Ideal.exp (l i : EReal)) := by
  have h1 : ∑ i, Ideal.exp ((l i : EReal) - (μ : EReal)) = ((∑ i, Real.exp (l i - μ) : ℝ) : EReal) := by
    rw [← coe_sum]
    refine Finset.sum_congr rfl fun i _ => ?_
    rw [← EReal.coe_sub, exp_coe]
  have h2 : ∑ i, Ideal.exp (l i : EReal) = ((∑ i, Real.exp (l i) : ℝ) : EReal) := by
    rw [← coe_sum]; rfl
  have p1 : 0 < ∑ i, Real.exp (l i - μ) := Finset.sum_pos (fun i _ => Real.exp_pos _) Finset.univ_nonempty
  have p2 : 0 < ∑ i, Real.exp (l i) := Finset.sum_pos (fun i _ => Real.exp_pos _) Finset.univ_nonempty
  rw [h1, h2, log_coe_pos _ p1, log_coe_pos _ p2, ← EReal.coe_add]
  refine congrArg _ ?_
  have h3 : ∑ i, Real.exp (l i) = Real.exp μ * ∑ i, Real.exp (l i - μ) := by
    rw [Finset.mul_sum]
    refine Finset.sum_congr rfl fun i _ => ?_
    rw [← Real.exp_add]; congr 1; ring
  rw [h3, Real.log_mul (Real.exp_pos μ).ne' p1.ne', Real.log_exp]

/-- The reference's log-sum-exp, at finite logits, is the kernel's. -/
theorem lse_eq {ι : Type} [Fintype ι] [Nonempty ι] (f : ι → EReal) (hf : ∀ i, ∃ a : ℝ, f i = a) (M : EReal)
    (hM : M = Finset.univ.fold max (⊥ : EReal) f) :
    M + Ideal.log (∑ i, Ideal.exp (f i - M)) = Ideal.log (∑ i, Ideal.exp (f i)) := by
  choose l hl using hf
  have e : f = fun i => (l i : EReal) := funext hl
  subst e
  obtain ⟨μ, hμ⟩ := fold_max_real l
  rw [hM, hμ]
  exact lse_shift l μ

/-- A sum of products of reals is a real. -/
theorem sum_mul_real {ι : Type} [Fintype ι] (f g : ι → EReal) (hf : ∀ i, ∃ a : ℝ, f i = a) (hg : ∀ i, ∃ a : ℝ, g i = a) :
    ∃ a : ℝ, ∑ i, f i * g i = (a : EReal) := by
  choose a ha using hf
  choose b hb using hg
  refine ⟨∑ i, a i * b i, ?_⟩
  rw [← coe_sum]
  refine Finset.sum_congr rfl fun i _ => ?_
  rw [ha, hb, EReal.coe_mul]

/-! ## The precondition -/

/-- A value whose magnitude is below infinity is a real. -/
theorem real_of_abs_lt (a : EReal) (h : max a (-a) < ⊤) : ∃ r : ℝ, a = (r : EReal) := by
  have h1 : a ≠ ⊤ := fun e => by rw [e] at h; exact absurd h (by simp)
  have h2 : a ≠ ⊥ := fun e => by rw [e] at h; exact absurd h (by simp)
  exact ⟨a.toReal, (EReal.coe_toReal h1 h2).symm⟩

theorem and_bits (a b : BitVec 1) (h : a &&& b = 1#1) : a = 1#1 ∧ b = 1#1 := by
  revert a b; decide

theorem bit_true (b : Bool) (h : BitVec.ofBool b = 1#1) : b = true := by
  revert b; decide

instance : Subsingleton (⟨0, ![]⟩ : Shape).Idx := ⟨fun a b => funext fun i => i.elim0⟩

/-- What the precondition says of one device's arguments. -/
theorem pre_facts [hP : Cert.Pre_finite_and_in_range_KernelIdeal.Facts]
    (x : FVec Ideal ⟨2, ![1024, 2048]⟩ .f32) (w : FVec Ideal ⟨2, ![2048, 16384]⟩ .f32) (L : IVec ⟨1, ![1024]⟩ 32)
    (h : Cert.Pre_finite_and_in_range_KernelIdeal.fn (F := Ideal) x w L = fun _ => 1#1) :
    (∀ i, ∃ a : ℝ, x i = (a : EReal)) ∧ (∀ i, ∃ a : ℝ, w i = (a : EReal)) ∧ ∀ i, (L i).toNat < 32768 := by
  have h0 := congrFun h (fun i : Fin 0 => i.elim0)
  obtain ⟨h123, h4⟩ := and_bits _ _ h0
  obtain ⟨h12, h3⟩ := and_bits _ _ h123
  obtain ⟨h1, h2⟩ := and_bits _ _ h12
  have hx := fun i => Host.reduce_andi_all _ _ _ _ _ h1 i
  have hw := fun i => Host.reduce_andi_all _ _ _ _ _ h2 i
  have hge := fun i => Host.reduce_andi_all _ _ _ _ _ h3 i
  have hlt := fun i => Host.reduce_andi_all _ _ _ _ _ h4 i
  refine ⟨fun i => real_of_abs_lt _ ?_, fun i => real_of_abs_lt _ ?_, fun i => ?_⟩
  · have e : BitVec.ofBool (decide (max (x i) (-(x i)) < Ideal.ofBits .f32 0x7F800000#32)) = 1#1 := hx i
    have e' := of_decide_eq_true (bit_true _ e)
    rw [posInf_bits] at e'; exact e'
  · have e : BitVec.ofBool (decide (max (w i) (-(w i)) < Ideal.ofBits .f32 0x7F800000#32)) = 1#1 := hw i
    have e' := of_decide_eq_true (bit_true _ e)
    rw [posInf_bits] at e'; exact e'
  · have e1 : BitVec.ofBool ((0#32).sle (L i)) = 1#1 := hge i
    have e2 : BitVec.ofBool ((L i).slt 32768#32) = 1#1 := hlt i
    have e1' := bit_true _ e1
    have e2' := bit_true _ e2
    rw [BitVec.sle_eq_decide] at e1'
    rw [BitVec.slt_eq_decide] at e2'
    have f1 : (0 : Int) ≤ (L i).toInt := of_decide_eq_true e1'
    have f2 : (L i).toInt < 32768 := of_decide_eq_true e2'
    rw [BitVec.toInt_eq_toNat_cond] at f1 f2
    split at f1 <;> omega

end Cert.LseProof

end
-- ==== Proof.Equation.lean ====
/-
The kernel's result is the reference's, at every row, over the extended reals.
-/
module

public import proofs.«01_k».proof.Proof.Total
public import proofs.«01_k».proof.Proof.Ref
public import proofs.«01_k».proof.Proof.Lse
public import proofs.«01_k».proof.Defs

@[expose] public section

set_option maxRecDepth 65536
noncomputable section

namespace Cert.LseProof

open Idealize.ShloMosaic
open Idealize.ShloMosaic.TcCoe
open Idealize.SL.Sem
open Cert.KernelIdeal Cert.KernelIdeal.Gen

variable {m : (ℓ : Loc nD τ sig) → Buf (Elt Ideal) ℓ} {x : FVec Ideal S1024x2048 .f32}
  {W : FVec Ideal ⟨2, ![2048, 32768]⟩ .f32} {L : IVec S1024 32}

/-- The two programs' logits are one expression. -/
theorem logits_eq (x : FVec Ideal S1024x2048 .f32) (W : FVec Ideal ⟨2, ![2048, 32768]⟩ .f32) (r : Fin 1024) (n : Fin 32768) :
    refLogits x W (ix2 r n) = logit x W r n := refLogits_apply x W r n

/-- The columns that a row's label picks are one. -/
theorem pick_label {N : ℕ} (f : Fin N → EReal) (n : Fin N) (l : ℕ) (h : l = n.val) :
    (∑ k : Fin N, if k.val = l then f k else 0) = f n := by
  rw [Finset.sum_eq_single n]
  · rw [if_pos h.symm]
  · intro k _ hk
    exact if_neg fun e => hk (Fin.ext (e.trans h))
  · intro hn; exact absurd (Finset.mem_univ n) hn

/-- The equation at a row. -/
theorem out_row (h : Laid m x W L) (hx : ∀ i, ∃ a : ℝ, x i = (a : EReal)) (hW : ∀ i, ∃ a : ℝ, W i = (a : EReal))
    (hL : ∀ i, (L i).toNat < 32768) (c : Dev nD) (r : Fin 1024) : outAt m c (ix1 r) = refOut x W L (ix1 r) := by
  have hl : ∀ n : Fin 32768, ∃ a : ℝ, logit x W r n = (a : EReal) := fun n => sum_mul_real _ _ (fun k => hx _) (fun k => hW _)
  have e : (fun n : Fin 32768 => refLogits x W (ix2 r n)) = logit x W r := funext fun n => logits_eq x W r n
  have hM : refMax (refLogits x W) (ix1 r) = Finset.univ.fold max (⊥ : EReal) (logit x W r) := by
    rw [refMax_apply, negInf_bits, e]
  have hsum : (∑ k : Fin 32768, Ideal.exp (refLogits x W (ix2 r k) - refMax (refLogits x W) (ix1 r)))
      = ∑ k : Fin 32768, Ideal.exp (logit x W r k - refMax (refLogits x W) (ix1 r)) :=
    Finset.sum_congr rfl fun k _ => by rw [logits_eq]
  refine (h.out c r).trans ?_
  rw [refOut_apply x W L r ⟨(L (ix1 r)).toNat, hL _⟩ rfl, hsum,
    lse_eq (logit x W r) hl _ hM, logits_eq, pick_label (logit x W r) ⟨(L (ix1 r)).toNat, hL _⟩ _ rfl]

/-- **The equation**: at finite arguments and labels in range, a device's result is the reference's. -/
theorem out_eq (h : Laid m x W L) (hx : ∀ i, ∃ a : ℝ, x i = (a : EReal)) (hW : ∀ i, ∃ a : ℝ, W i = (a : EReal))
    (hL : ∀ i, (L i).toNat < 32768) (c : Dev nD) : outAt m c = refOut x W L := by
  have hrow : ∀ i : S1024.Idx, outAt m c i = refOut x W L i := fun i => by
    have e : i = ix1 (i 0 : Fin 1024) := eq_ix1 i
    rw [e]
    exact out_row h hx hW hL c (i 0)
  exact funext hrow

/-- What the claim's hypotheses give of the whole arguments. -/
theorem whole_facts [hP : Cert.Pre_finite_and_in_range_KernelIdeal.Facts] (h : Laid m x W L)
    (hpre : Cert.Pre_KernelIdeal_finite_and_in_range_KernelIdeal m) :
    (∀ i, ∃ a : ℝ, x i = (a : EReal)) ∧ (∀ i, ∃ a : ℝ, W i = (a : EReal)) ∧ ∀ i, (L i).toNat < 32768 := by
  have hc := fun c : Dev nD => pre_facts _ _ _ (hpre c)
  refine ⟨?_, ?_, ?_⟩
  · rw [← h.hx 0]; exact (hc 0).1
  · have hrow : ∀ (k : Fin 2048) (n : Fin 32768), ∃ a : ℝ, W (ix2 k n) = (a : EReal) := fun k n => by
      have hn : col (colEquiv.symm n).1 (colEquiv.symm n).2 = n := colEquiv.apply_symm_apply n
      have e := h.w_apply (colEquiv.symm n).1 k (colEquiv.symm n).2
      rw [wAt_apply, hn] at e
      obtain ⟨a, ha⟩ := (hc (colEquiv.symm n).1).2.1 (ix2 k (subCol (colEquiv.symm n).1 (colEquiv.symm n).2))
      exact ⟨a, e.symm.trans ha⟩
    intro i
    have e : i = ix2 (i 0 : Fin 2048) (i 1 : Fin 32768) := eq_ix2 i
    rw [e]
    exact hrow (i 0) (i 1)
  · rw [← h.hL 0]; exact (hc 0).2.2

/-- **The algebraic claim.** -/
theorem algebraic [hP : Cert.Pre_finite_and_in_range_KernelIdeal.Facts] :
    Cert.algebraic_KernelIdeal_ReferenceIdeal_pre_finite_and_in_range_KernelIdeal := by
  intro m g m' g' hpre hargs
  have h : Laid m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hargs c).1, fun c => (hargs c).2.1, fun c => (hargs c).2.2⟩
  obtain ⟨hx, hW, hL⟩ := whole_facts h hpre
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run defs _ _).mono (fun r hr c => ?_) (run_args (F := Ideal) m g)
    exact ⟨((hr.1 c).1.trans (result_eq m c)).trans (out_eq h hx hW hL c), (hr.1 c).2⟩
  · refine (θ_run Cert.ReferenceIdeal.defs _ _).mono (fun r hr => ?_) (Cert.ReferenceIdeal.Value.run (F := Ideal) m' g')
    exact ⟨(hr 0).1, (hr 0).2⟩

end Cert.LseProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.PreFacts
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    LseProof.preKernel_facts, LseProof.preReference_facts,
    LseProof.frame_kernel, LseProof.frame_ideal, fun m ρ _ => LseProof.frame_ideal m ρ trivial,
    LseProof.frame_reference, fun m ρ _ => LseProof.frame_reference m ρ trivial, trivial,
    LseProof.algebraic (hP := LseProof.preKernel_facts)⟩

end Cert.Proof

end
